-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_steps [hPre_finite_steps : Cert.Pre_finite_steps.Facts] (m : (ℓ : Loc Cert.KernelIdeal.nD Cert.KernelIdeal.τ Cert.KernelIdeal.sig) → Buf (Elt Ideal) ℓ) : Prop :=
  ∀ c : Dev Cert.KernelIdeal.nD,
    (Cert.Pre_finite_steps.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_steps [hPre_finite_steps : Cert.Pre_finite_steps.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_steps.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_cell [hPre_finite_cell : Cert.Pre_finite_cell.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_cell.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_cell [hPre_finite_cell : Cert.Pre_finite_cell.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_cell.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_steps [hKernelIdeal : Cert.KernelIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_steps m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_steps [hReferenceIdeal : Cert.ReferenceIdeal.Facts] [hPre_finite_steps : Cert.Pre_finite_steps.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_steps m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite_cell [hKernel4Ideal : Cert.Kernel4Ideal.Facts] [hPre_finite_cell : Cert.Pre_finite_cell.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_cell m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite_cell [hReference4Ideal : Cert.Reference4Ideal.Facts] [hPre_finite_cell : Cert.Pre_finite_cell.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_cell m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal_pre_finite_steps [hKernelIdeal : Cert.KernelIdeal.Facts] [hReferenceIdeal : Cert.ReferenceIdeal.Facts] [hPre_finite_steps : Cert.Pre_finite_steps.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_steps m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v45) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite_cell [hKernel4Ideal : Cert.Kernel4Ideal.Facts] [hReference4Ideal : Cert.Reference4Ideal.Facts] [hPre_finite_cell : Cert.Pre_finite_cell.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_cell m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v114) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v116) = v2 c
          ∧ r.2.mem ((c.tc : Thread Cert.Reference4Ideal.nD Cert.Reference4Ideal.τ).loc Cert.Reference4Ideal.main_v118) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_steps : Cert.Pre_finite_steps.Facts) (hPre_finite_cell : Cert.Pre_finite_cell.Facts),
    quiescent_Kernel (hKernel := hKernel)
    ∧ quiescent_KernelIdeal (hKernelIdeal := hKernelIdeal)
    ∧ quiescent_KernelIdeal_pre_finite_steps (hKernelIdeal := hKernelIdeal) (hPre_finite_steps := hPre_finite_steps)
    ∧ quiescent_ReferenceIdeal (hReferenceIdeal := hReferenceIdeal)
    ∧ quiescent_ReferenceIdeal_pre_finite_steps (hReferenceIdeal := hReferenceIdeal) (hPre_finite_steps := hPre_finite_steps)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_cell (hKernel4Ideal := hKernel4Ideal) (hPre_finite_cell := hPre_finite_cell)
    ∧ quiescent_Reference4Ideal (hReference4Ideal := hReference4Ideal)
    ∧ quiescent_Reference4Ideal_pre_finite_cell (hReference4Ideal := hReference4Ideal) (hPre_finite_cell := hPre_finite_cell)
    ∧ preserves_Kernel_KernelIdeal
    ∧ algebraic_KernelIdeal_ReferenceIdeal_pre_finite_steps (hKernelIdeal := hKernelIdeal) (hReferenceIdeal := hReferenceIdeal) (hPre_finite_steps := hPre_finite_steps)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_cell (hKernel4Ideal := hKernel4Ideal) (hReference4Ideal := hReference4Ideal) (hPre_finite_cell := hPre_finite_cell)
-- ==== Pre_finite_cell.lean ====
abbrev S4x2048x4096 : Shape := ⟨3, ![4, 2048, 4096]⟩
abbrev S4x2048x4 : Shape := ⟨3, ![4, 2048, 4]⟩
abbrev S4x4x1024x1024 : Shape := ⟨4, ![4, 4, 1024, 1024]⟩
abbrev S4x4x1024 : Shape := ⟨3, ![4, 4, 1024]⟩
abbrev S4x4 : Shape := ⟨2, ![4, 4]⟩
abbrev S4096 : Shape := ⟨1, ![4096]⟩
abbrev S4x2048x8192 : Shape := ⟨3, ![4, 2048, 8192]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x4 : S_.BroadcastsInDim S4x2048x4 (![] : Fin 0 → Fin S4x2048x4.rank)
  reducesTo_S4x2048x4_S_d0_1_2 : S4x2048x4.ReducesTo [0, 1, 2] S_
  bcast_S_S4x4x1024x1024 : S_.BroadcastsInDim S4x4x1024x1024 (![] : Fin 0 → Fin S4x4x1024x1024.rank)
  reducesTo_S4x4x1024x1024_S_d0_1_2_3 : S4x4x1024x1024.ReducesTo [0, 1, 2, 3] S_
  bcast_S_S4x4x1024 : S_.BroadcastsInDim S4x4x1024 (![] : Fin 0 → Fin S4x4x1024.rank)
  reducesTo_S4x4x1024_S_d0_1_2 : S4x4x1024.ReducesTo [0, 1, 2] S_
  bcast_S_S4x4 : S_.BroadcastsInDim S4x4 (![] : Fin 0 → Fin S4x4.rank)
  reducesTo_S4x4_S_d0_1 : S4x4.ReducesTo [0, 1] S_

variable [Facts]

def fn_part2 {F : FTy → Type} [FloatOps F] (main_arg7 : FVec F S4x4 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  main_v38

def fn_part1 {F : FTy → Type} [FloatOps F] (main_arg4 : FVec F S4x2048x4 .f32) (main_arg5 : FVec F S4x4x1024x1024 .f32) (main_arg6 : FVec F S4x4x1024 .f32) (main_arg7 : FVec F S4x4 .f32) (main_v13 : IVec S_ 1) (main_v16 : IVec S4x2048x4 1) : IVec S_ 1 :=
  let main_c_5 : IVec S_ 1 := constantI S_ 1 1#1
  let main_v17 : IVec S_ 1 := (fun x v => Host.reduce IntOp.andi x v reducesTo_S4x2048x4_S_d0_1_2 h_S_) main_v16 main_c_5
  let main_v18 : IVec S_ 1 := andi main_v13 main_v17
  let main_v19 : FVec F S4x2048x4 .f32 := Host.absf main_arg4
  let main_cst_6 : FVec F S_ .f32 := constant S_ .f32 0x7F800000#32
  let main_v20 : FVec F S4x2048x4 .f32 := broadcastInDim S4x2048x4 ![] bcast_S_S4x2048x4 main_cst_6
  let main_v21 : IVec S4x2048x4 1 := cmpf .olt main_v19 main_v20
  let main_c_7 : IVec S_ 1 := constantI S_ 1 1#1
  let main_v22 : IVec S_ 1 := (fun x v => Host.reduce IntOp.andi x v reducesTo_S4x2048x4_S_d0_1_2 h_S_) main_v21 main_c_7
  let main_v23 : IVec S_ 1 := andi main_v18 main_v22
  let main_v24 : FVec F S4x4x1024x1024 .f32 := Host.absf main_arg5
  let main_cst_8 : FVec F S_ .f32 := constant S_ .f32 0x7F800000#32
  let main_v25 : FVec F S4x4x1024x1024 .f32 := broadcastInDim S4x4x1024x1024 ![] bcast_S_S4x4x1024x1024 main_cst_8
  let main_v26 : IVec S4x4x1024x1024 1 := cmpf .olt main_v24 main_v25
  let main_c_9 : IVec S_ 1 := constantI S_ 1 1#1
  let main_v27 : IVec S_ 1 := (fun x v => Host.reduce IntOp.andi x v reducesTo_S4x4x1024x1024_S_d0_1_2_3 h_S_) main_v26 main_c_9
  let main_v28 : IVec S_ 1 := andi main_v23 main_v27
  let main_v29 : FVec F S4x4x1024 .f32 := Host.absf main_arg6
  let main_cst_10 : FVec F S_ .f32 := constant S_ .f32 0x7F800000#32
  let main_v30 : FVec F S4x4x1024 .f32 := broadcastInDim S4x4x1024 ![] bcast_S_S4x4x1024 main_cst_10
  let main_v31 : IVec S4x4x1024 1 := cmpf .olt main_v29 main_v30
  let main_c_11 : IVec S_ 1 := constantI S_ 1 1#1
  let main_v32 : IVec S_ 1 := (fun x v => Host.reduce IntOp.andi x v reducesTo_S4x4x1024_S_d0_1_2 h_S_) main_v31 main_c_11
  let main_v33 : IVec S_ 1 := andi main_v28 main_v32
  fn_part2 (F := F) main_arg7 main_v33

def fn {F : FTy → Type} [FloatOps F] (main_arg0 : FVec F S4x2048x4096 .bf16) (main_arg1 : FVec F S4x2048x4096 .bf16) (main_arg2 : FVec F S4x2048x4096 .bf16) (main_arg3 : FVec F S4x2048x4 .f32) (main_arg4 : FVec F S4x2048x4 .f32) (main_arg5 : FVec F S4x4x1024x1024 .f32) (main_arg6 : FVec F S4x4x1024 .f32) (main_arg7 : FVec F S4x4 .f32) (main_arg8 : FVec F S4096 .f32) (main_arg9 : FVec F S4x2048x4096 .f32) (main_arg10 : FVec F S4x2048x8192 .f32) (main_arg11 : FVec F S4096 .f32) : IVec S_ 1 :=
  let main_v0 : FVec F S4x2048x4096 .bf16 := Host.absf main_arg0
  let main_cst : FVec F S_ .bf16 := constant S_ .bf16 0x7F80#16
  let main_v1 : FVec F S4x2048x4096 .bf16 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .bf16 := Host.absf main_arg1
  let main_cst_0 : FVec F S_ .bf16 := constant S_ .bf16 0x7F80#16
  let main_v5 : FVec F S4x2048x4096 .bf16 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4x2048x4096 .bf16 := Host.absf main_arg2
  let main_cst_2 : FVec F S_ .bf16 := constant S_ .bf16 0x7F80#16
  let main_v10 : FVec F S4x2048x4096 .bf16 := broadcastInDim S4x2048x4096 ![] bcast_S_S4x2048x4096 main_cst_2
  let main_v11 : IVec S4x2048x4096 1 := cmpf .olt main_v9 main_v10
  let main_c_3 : IVec S_ 1 := constantI S_ 1 1#1
  let main_v12 : IVec S_ 1 := (fun x v => Host.reduce IntOp.andi x v reducesTo_S4x2048x4096_S_d0_1_2 h_S_) main_v11 main_c_3
  let main_v13 : IVec S_ 1 := andi main_v8 main_v12
  let main_v14 : FVec F S4x2048x4 .f32 := Host.absf main_arg3
  let main_cst_4 : FVec F S_ .f32 := constant S_ .f32 0x7F800000#32
  let main_v15 : FVec F S4x2048x4 .f32 := broadcastInDim S4x2048x4 ![] bcast_S_S4x2048x4 main_cst_4
  let main_v16 : IVec S4x2048x4 1 := cmpf .olt main_v14 main_v15
  fn_part1 (F := F) main_arg4 main_arg5 main_arg6 main_arg7 main_v13 main_v16
-- ==== Pre_finite_steps.lean ====
abbrev S4x2048x10304 : Shape := ⟨3, ![4, 2048, 10304]⟩
abbrev S4x2048x6144 : Shape := ⟨3, ![4, 2048, 6144]⟩
abbrev S64 : Shape := ⟨1, ![64]⟩
abbrev S4096 : Shape := ⟨1, ![4096]⟩
abbrev S4x64x64x128 : Shape := ⟨4, ![4, 64, 64, 128]⟩
abbrev S4x2048x64 : Shape := ⟨3, ![4, 2048, 64]⟩
abbrev S_ : Shape := ⟨0, ![]⟩

class Facts : Prop where
  slices_S4x2048x10304_S4x2048x64_0_0_10240 : S4x2048x10304.Slices ![0, 0, 10240] S4x2048x64
  bcast_S_S4x2048x64 : S_.BroadcastsInDim S4x2048x64 (![] : Fin 0 → Fin S4x2048x64.rank)
  reducesTo_S4x2048x64_S_d0_1_2 : S4x2048x64.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S4x2048x10304 .f32) (main_arg1 : FVec F S4x2048x6144 .f32) (main_arg2 : FVec F S64 .f32) (main_arg3 : FVec F S64 .f32) (main_arg4 : FVec F S64 .f32) (main_arg5 : FVec F S4096 .f32) (main_arg6 : FVec F S4x64x64x128 .f32) : IVec S_ 1 :=
  let main_v0 : FVec F S4x2048x64 .f32 := (extractStridedSlice S4x2048x64 ![0, 0, 10240] · slices_S4x2048x10304_S4x2048x64_0_0_10240) main_arg0
  let main_v1 : FVec F S4x2048x64 .f32 := Host.absf main_v0
  let main_cst : FVec F S_ .f32 := constant S_ .f32 0x7F800000#32
  let main_v2 : FVec F S4x2048x64 .f32 := broadcastInDim S4x2048x64 ![] bcast_S_S4x2048x64 main_cst
  let main_v3 : IVec S4x2048x64 1 := cmpf .olt main_v1 main_v2
  let main_c : IVec S_ 1 := constantI S_ 1 1#1
  let main_v4 : IVec S_ 1 := (fun x v => Host.reduce IntOp.andi x v reducesTo_S4x2048x64_S_d0_1_2 h_S_) main_v3 main_c
  let main_v5 : FVec F S64 .f32 := Host.absf main_arg2
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg3
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  main_v14
-- ==== Kernel.lean ====
abbrev S4x2048x10304 : Shape := ⟨3, ![4, 2048, 10304]⟩
abbrev S4x2048x6144 : Shape := ⟨3, ![4, 2048, 6144]⟩
abbrev S64 : Shape := ⟨1, ![64]⟩
abbrev S4096 : Shape := ⟨1, ![4096]⟩
abbrev S4x64x64x128 : Shape := ⟨4, ![4, 64, 64, 128]⟩
abbrev S4x2048x64 : Shape := ⟨3, ![4, 2048, 64]⟩
abbrev S1x1x64 : Shape := ⟨3, ![1, 1, 64]⟩
abbrev S_ : Shape := ⟨0, ![]⟩
abbrev S4x8x256x64 : Shape := ⟨4, ![4, 8, 256, 64]⟩
abbrev S4x8x256x8x8 : Shape := ⟨5, ![4, 8, 256, 8, 8]⟩
abbrev S4x8x8x8x256 : Shape := ⟨5, ![4, 8, 8, 8, 256]⟩
abbrev S4x8x8x16x256 : Shape := ⟨5, ![4, 8, 8, 16, 256]⟩
abbrev S4x2048x8x8 : Shape := ⟨4, ![4, 2048, 8, 8]⟩
abbrev S4x8x2048x8 : Shape := ⟨4, ![4, 8, 2048, 8]⟩
abbrev S4x8x2048x16 : Shape := ⟨4, ![4, 8, 2048, 16]⟩
abbrev S4x2048x1024 : Shape := ⟨3, ![4, 2048, 1024]⟩
abbrev S4x2048x8x128 : Shape := ⟨4, ![4, 2048, 8, 128]⟩
abbrev S4x8x128x2048 : Shape := ⟨4, ![4, 8, 128, 2048]⟩
abbrev S4x8x8x64x128 : Shape := ⟨5, ![4, 8, 8, 64, 128]⟩
abbrev S4x8x128x8x64 : Shape := ⟨5, ![4, 8, 128, 8, 64]⟩
abbrev S4x8x128x512 : Shape := ⟨4, ![4, 8, 128, 512]⟩
abbrev S64x64 : Shape := ⟨2, ![64, 64]⟩
abbrev S1x4096 : Shape := ⟨2, ![1, 4096]⟩
abbrev S4x2048x4096 : Shape := ⟨3, ![4, 2048, 4096]⟩
abbrev S1x256x512 : Shape := ⟨3, ![1, 256, 512]⟩
abbrev S1x256x128 : Shape := ⟨3, ![1, 256, 128]⟩
abbrev S1x1x128x256 : Shape := ⟨4, ![1, 1, 128, 256]⟩
abbrev S1x1x256x16 : Shape := ⟨4, ![1, 1, 256, 16]⟩
abbrev S1x1x1x16x256 : Shape := ⟨5, ![1, 1, 1, 16, 256]⟩
abbrev S1x1x128x512 : Shape := ⟨4, ![1, 1, 128, 512]⟩
abbrev S1x512 : Shape := ⟨2, ![1, 512]⟩
abbrev S128x512 : Shape := ⟨2, ![128, 512]⟩
abbrev S256x512 : Shape := ⟨2, ![256, 512]⟩
abbrev S256x128 : Shape := ⟨2, ![256, 128]⟩
abbrev S128x256 : Shape := ⟨2, ![128, 256]⟩
abbrev S256x16 : Shape := ⟨2, ![256, 16]⟩
abbrev S256x8 : Shape := ⟨2, ![256, 8]⟩
abbrev S8x512 : Shape := ⟨2, ![8, 512]⟩
abbrev S256x256 : Shape := ⟨2, ![256, 256]⟩
abbrev S256x1 : Shape := ⟨2, ![256, 1]⟩
abbrev S1x1x1x1x256 : Shape := ⟨5, ![1, 1, 1, 1, 256]⟩
abbrev S1x256 : Shape := ⟨2, ![1, 256]⟩
abbrev S256 : Shape := ⟨1, ![256]⟩

abbrev nBuf : Space → Nat
  | .hbm => 58
  | .vmem => 23
  | .smem => 0
  | _ => 0

abbrev bufTy : (tb : Table) → Fin (tcTables nBuf tb) → BufTy
  | .hbm, ⟨0, _⟩ => ⟨S4x2048x10304, .f32⟩
  | .hbm, ⟨1, _⟩ => ⟨S4x2048x6144, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4096, .f32⟩
  | .hbm, ⟨6, _⟩ => ⟨S4x64x64x128, .f32⟩
  | .hbm, ⟨7, _⟩ => ⟨S4x2048x64, .f32⟩
  | .hbm, ⟨8, _⟩ => ⟨S1x1x64, .f32⟩
  | .hbm, ⟨9, _⟩ => ⟨S4x2048x64, .f32⟩
  | .hbm, ⟨10, _⟩ => ⟨S4x2048x64, .f32⟩
  | .hbm, ⟨11, _⟩ => ⟨S_, .f32⟩
  | .hbm, ⟨12, _⟩ => ⟨S4x2048x64, .f32⟩
  | .hbm, ⟨13, _⟩ => ⟨S4x2048x64, .f32⟩
  | .hbm, ⟨14, _⟩ => ⟨S4x2048x64, .f32⟩
  | .hbm, ⟨15, _⟩ => ⟨S4x2048x64, .f32⟩
  | .hbm, ⟨16, _⟩ => ⟨S4x2048x64, .i1⟩
  | .hbm, ⟨17, _⟩ => ⟨S4x2048x64, .f32⟩
  | .hbm, ⟨18, _⟩ => ⟨S4x2048x64, .f32⟩
  | .hbm, ⟨19, _⟩ => ⟨S4x2048x64, .f32⟩
  | .hbm, ⟨20, _⟩ => ⟨S4x2048x64, .f32⟩
  | .hbm, ⟨21, _⟩ => ⟨S4x2048x64, .f32⟩
  | .hbm, ⟨22, _⟩ => ⟨S4x2048x64, .f32⟩
  | .hbm, ⟨23, _⟩ => ⟨S4x2048x64, .f32⟩
  | .hbm, ⟨24, _⟩ => ⟨S4x2048x64, .f32⟩
  | .hbm, ⟨25, _⟩ => ⟨S64, .f32⟩
  | .hbm, ⟨26, _⟩ => ⟨S64, .f32⟩
  | .hbm, ⟨27, _⟩ => ⟨S1x1x64, .f32⟩
  | .hbm, ⟨28, _⟩ => ⟨S4x2048x64, .f32⟩
  | .hbm, ⟨29, _⟩ => ⟨S4x2048x64, .f32⟩
  | .hbm, ⟨30, _⟩ => ⟨S4x8x256x64, .f32⟩
  | .hbm, ⟨31, _⟩ => ⟨S_, .f32⟩
  | .hbm, ⟨32, _⟩ => ⟨S_, .f32⟩
  | .hbm, ⟨33, _⟩ => ⟨S4x8x256x64, .f32⟩
  | .hbm, ⟨34, _⟩ => ⟨S4x8x256x64, .f32⟩
  | .hbm, ⟨35, _⟩ => ⟨S4x8x256x8x8, .f32⟩
  | .hbm, ⟨36, _⟩ => ⟨S4x8x8x8x256, .f32⟩
  | .hbm, ⟨37, _⟩ => ⟨S4x8x256x8x8, .f32⟩
  | .hbm, ⟨38, _⟩ => ⟨S4x8x8x8x256, .f32⟩
  | .hbm, ⟨39, _⟩ => ⟨S4x8x8x16x256, .f32⟩
  | .hbm, ⟨40, _⟩ => ⟨S4x2048x8x8, .f32⟩
  | .hbm, ⟨41, _⟩ => ⟨S4x8x2048x8, .f32⟩
  | .hbm, ⟨42, _⟩ => ⟨S4x2048x8x8, .f32⟩
  | .hbm, ⟨43, _⟩ => ⟨S4x8x2048x8, .f32⟩
  | .hbm, ⟨44, _⟩ => ⟨S4x8x2048x16, .f32⟩
  | .hbm, ⟨45, _⟩ => ⟨S4x2048x1024, .f32⟩
  | .hbm, ⟨46, _⟩ => ⟨S4x2048x1024, .bf16⟩
  | .hbm, ⟨47, _⟩ => ⟨S4x2048x8x128, .bf16⟩
  | .hbm, ⟨48, _⟩ => ⟨S4x8x128x2048, .bf16⟩
  | .hbm, ⟨49, _⟩ => ⟨S4x8x8x64x128, .f32⟩
  | .hbm, ⟨50, _⟩ => ⟨S4x8x128x8x64, .f32⟩
  | .hbm, ⟨51, _⟩ => ⟨S4x8x128x512, .f32⟩
  | .hbm, ⟨52, _⟩ => ⟨S64x64, .f32⟩
  | .hbm, ⟨53, _⟩ => ⟨S4096, .f32⟩
  | .hbm, ⟨54, _⟩ => ⟨S1x4096, .f32⟩
  | .hbm, ⟨55, _⟩ => ⟨S1x4096, .f32⟩
  | .hbm, ⟨56, _⟩ => ⟨S4x2048x4096, .f32⟩
  | .hbm, ⟨57, _⟩ => ⟨S4x8x128x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x128, .f32⟩
  | .local _ .vmem, ⟨5, _⟩ => ⟨S1x256x128, .f32⟩
  | .local _ .vmem, ⟨6, _⟩ => ⟨S1x1x128x256, .bf16⟩
  | .local _ .vmem, ⟨7, _⟩ => ⟨S1x1x128x256, .bf16⟩
  | .local _ .vmem, ⟨8, _⟩ => ⟨S1x1x256x16, .f32⟩
  | .local _ .vmem, ⟨9, _⟩ => ⟨S1x1x256x16, .f32⟩
  | .local _ .vmem, ⟨10, _⟩ => ⟨S1x1x1x16x256, .f32⟩
  | .local _ .vmem, ⟨11, _⟩ => ⟨S1x1x1x16x256, .f32⟩
  | .local _ .vmem, ⟨12, _⟩ => ⟨S1x1x128x512, .f32⟩
  | .local _ .vmem, ⟨13, _⟩ => ⟨S1x1x128x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x256x512, .f32⟩
  | .local _ .vmem, ⟨19, _⟩ => ⟨S1x256x512, .f32⟩
  | .local _ .vmem, ⟨20, _⟩ => ⟨S1x1x128x512, .f32⟩
  | .local _ .vmem, ⟨21, _⟩ => ⟨S1x1x128x512, .f32⟩
  | .local _ .vmem, ⟨22, _⟩ => ⟨S128x512, .f32⟩
  | _, _ => ⟨S4x2048x10304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_call0_cst : Ref sig .tc := ⟨.hbm, 31, rfl⟩
abbrev main_call1_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32_131 : BitVec 32 := 7#32
  let v269 : BitVec 1 := Scalar.cmpi .eq arg2 c7_i32_131
  let v270 : BitVec 32 := Scalar.extui v269
  let c0_i32_132 : BitVec 32 := 0#32
  let v271 : BitVec 1 := Scalar.cmpi .ne v270 c0_i32_132
  v271

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, arg2.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4x2048x10304 : Shape := ⟨3, ![4, 2048, 10304]⟩
abbrev S4x2048x6144 : Shape := ⟨3, ![4, 2048, 6144]⟩
abbrev S64 : Shape := ⟨1, ![64]⟩
abbrev S4096 : Shape := ⟨1, ![4096]⟩
abbrev S4x64x64x128 : Shape := ⟨4, ![4, 64, 64, 128]⟩
abbrev S4x2048x4096 : Shape := ⟨3, ![4, 2048, 4096]⟩
abbrev S4x2048x64 : Shape := ⟨3, ![4, 2048, 64]⟩
abbrev S4x2048x1024 : Shape := ⟨3, ![4, 2048, 1024]⟩
abbrev S4x2048x8x8x64 : Shape := ⟨5, ![4, 2048, 8, 8, 64]⟩
abbrev S4x2048x8x128 : Shape := ⟨4, ![4, 2048, 8, 128]⟩
abbrev S1x1x64 : Shape := ⟨3, ![1, 1, 64]⟩
abbrev S_ : Shape := ⟨0, ![]⟩
abbrev S4x2048x8x8 : Shape := ⟨4, ![4, 2048, 8, 8]⟩
abbrev S8x8 : Shape := ⟨2, ![8, 8]⟩
abbrev S4x8x8x64x128 : Shape := ⟨5, ![4, 8, 8, 64, 128]⟩
abbrev S4x8x256x8x8x64 : Shape := ⟨6, ![4, 8, 256, 8, 8, 64]⟩
abbrev S4x8x256x8x8 : Shape := ⟨5, ![4, 8, 256, 8, 8]⟩
abbrev S4x8x256x8x128 : Shape := ⟨5, ![4, 8, 256, 8, 128]⟩
abbrev S4x8x8x8x256 : Shape := ⟨5, ![4, 8, 8, 8, 256]⟩
abbrev S8x8x1 : Shape := ⟨3, ![8, 8, 1]⟩
abbrev S1x1x8x8x1 : Shape := ⟨5, ![1, 1, 8, 8, 1]⟩
abbrev S4x8x8x8x256x1 : Shape := ⟨6, ![4, 8, 8, 8, 256, 1]⟩
abbrev S4x8x8x8x256x256 : Shape := ⟨6, ![4, 8, 8, 8, 256, 256]⟩
abbrev S256x256 : Shape := ⟨2, ![256, 256]⟩
abbrev S4x8x8x256x256 : Shape := ⟨5, ![4, 8, 8, 256, 256]⟩
abbrev S4x8x8x1x256x256 : Shape := ⟨6, ![4, 8, 8, 1, 256, 256]⟩
abbrev S4x8x8x8x1x256 : Shape := ⟨6, ![4, 8, 8, 8, 1, 256]⟩
abbrev S4x8x8x8x64x256 : Shape := ⟨6, ![4, 8, 8, 8, 64, 256]⟩
abbrev S4x8x8x8x1 : Shape := ⟨5, ![4, 8, 8, 8, 1]⟩
abbrev S4x8x256x8x8x1 : Shape := ⟨6, ![4, 8, 256, 8, 8, 1]⟩
abbrev S4x8x8x8x64x128 : Shape := ⟨6, ![4, 8, 8, 8, 64, 128]⟩
abbrev S4x1x8x8x64x128 : Shape := ⟨6, ![4, 1, 8, 8, 64, 128]⟩
abbrev S4x9x8x8x64x128 : Shape := ⟨6, ![4, 9, 8, 8, 64, 128]⟩
abbrev S4x8x8x8 : Shape := ⟨4, ![4, 8, 8, 8]⟩
abbrev S4x8x8x9 : Shape := ⟨4, ![4, 8, 8, 9]⟩
abbrev S4x8x8x9x1 : Shape := ⟨5, ![4, 8, 8, 9, 1]⟩
abbrev S4x8x8x9x9 : Shape := ⟨5, ![4, 8, 8, 9, 9]⟩
abbrev S9x9 : Shape := ⟨2, ![9, 9]⟩
abbrev S4x8x8x64x128x9 : Shape := ⟨6, ![4, 8, 8, 64, 128, 9]⟩
abbrev S4x2048x8x512 : Shape := ⟨4, ![4, 2048, 8, 512]⟩
abbrev S4x2048x8 : Shape := ⟨3, ![4, 2048, 8]⟩
abbrev S4x2048x8x1 : Shape := ⟨4, ![4, 2048, 8, 1]⟩
abbrev S1x1x4096 : Shape := ⟨3, ![1, 1, 4096]⟩
abbrev S4x8x128x8x64 : Shape := ⟨5, ![4, 8, 128, 8, 64]⟩
abbrev S4x8x128x512 : Shape := ⟨4, ![4, 8, 128, 512]⟩

abbrev nBuf : Space → Nat
  | .hbm => 204
  | .vmem => 0
  | .smem => 0
  | _ => 0

abbrev hbmTy0_0 (i : Nat) : BufTy := match i % 128 with
  | 0 => ⟨S4x2048x10304, .f32⟩
  | 1 => ⟨S4x2048x6144, .f32⟩
  | 2 => ⟨S64, .f32⟩
  | 3 => ⟨S64, .f32⟩
  | 4 => ⟨S64, .f32⟩
  | 5 => ⟨S4096, .f32⟩
  | 6 => ⟨S4x64x64x128, .f32⟩
  | 7 => ⟨S4x2048x4096, .f32⟩
  | 8 => ⟨S4x2048x6144, .f32⟩
  | 9 => ⟨S4x2048x64, .f32⟩
  | 10 => ⟨S4x2048x4096, .f32⟩
  | 11 => ⟨S4x2048x1024, .f32⟩
  | 12 => ⟨S4x2048x1024, .f32⟩
  | 13 => ⟨S4x2048x8x8x64, .f32⟩
  | 14 => ⟨S4x2048x8x128, .f32⟩
  | 15 => ⟨S4x2048x8x128, .f32⟩
  | 16 => ⟨S1x1x64, .f32⟩
  | 17 => ⟨S4x2048x64, .f32⟩
  | 18 => ⟨S4x2048x64, .f32⟩
  | 19 => ⟨S_, .f32⟩
  | 20 => ⟨S4x2048x64, .f32⟩
  | 21 => ⟨S4x2048x64, .f32⟩
  | 22 => ⟨S4x2048x64, .f32⟩
  | 23 => ⟨S4x2048x64, .f32⟩
  | 24 => ⟨S4x2048x64, .i1⟩
  | 25 => ⟨S4x2048x64, .f32⟩
  | 26 => ⟨S4x2048x64, .f32⟩
  | 27 => ⟨S4x2048x64, .f32⟩
  | 28 => ⟨S4x2048x64, .f32⟩
  | 29 => ⟨S4x2048x64, .f32⟩
  | 30 => ⟨S4x2048x64, .f32⟩
  | 31 => ⟨S4x2048x64, .f32⟩
  | 32 => ⟨S4x2048x64, .f32⟩
  | 33 => ⟨S4x2048x8x8, .f32⟩
  | 34 => ⟨S64, .f32⟩
  | 35 => ⟨S8x8, .f32⟩
  | 36 => ⟨S8x8, .f32⟩
  | 37 => ⟨S4x8x8x64x128, .f32⟩
  | 38 => ⟨S4x8x256x8x8x64, .f32⟩
  | 39 => ⟨S4x8x256x8x8, .f32⟩
  | 40 => ⟨S4x8x256x8x128, .f32⟩
  | 41 => ⟨S4x8x256x8x128, .f32⟩
  | 42 => ⟨S4x8x8x8x256, .f32⟩
  | 43 => ⟨S8x8x1, .f32⟩
  | 44 => ⟨S1x1x8x8x1, .f32⟩
  | 45 => ⟨S4x8x8x8x256, .f32⟩
  | 46 => ⟨S4x8x8x8x256, .f32⟩
  | 47 => ⟨S_, .f32⟩
  | 48 => ⟨S_, .f32⟩
  | 49 => ⟨S4x8x8x8x256, .f32⟩
  | 50 => ⟨S4x8x8x8x256x1, .f32⟩
  | 51 => ⟨S4x8x8x8x256x256, .f32⟩
  | 52 => ⟨S_, .i1⟩
  | 53 => ⟨S256x256, .i1⟩
  | 54 => ⟨S256x256, .i32⟩
  | 55 => ⟨S_, .i32⟩
  | 56 => ⟨S256x256, .i32⟩
  | 57 => ⟨S256x256, .i32⟩
  | 58 => ⟨S256x256, .i32⟩
  | 59 => ⟨S256x256, .i1⟩
  | 60 => ⟨S_, .i1⟩
  | 61 => ⟨S256x256, .i1⟩
  | 62 => ⟨S256x256, .i1⟩
  | 63 => ⟨S_, .i32⟩
  | 64 => ⟨S_, .f32⟩
  | 65 => ⟨S4x8x8x8x256x256, .i1⟩
  | 66 => ⟨S4x8x8x8x256x256, .f32⟩
  | 67 => ⟨S4x8x8x8x256x256, .f32⟩
  | 68 => ⟨S_, .f32⟩
  | 69 => ⟨S_, .f32⟩
  | 70 => ⟨S4x8x8x8x256x256, .f32⟩
  | 71 => ⟨S_, .i1⟩
  | 72 => ⟨S256x256, .i1⟩
  | 73 => ⟨S256x256, .i32⟩
  | 74 => ⟨S_, .i32⟩
  | 75 => ⟨S256x256, .i32⟩
  | 76 => ⟨S256x256, .i32⟩
  | 77 => ⟨S256x256, .i32⟩
  | 78 => ⟨S256x256, .i1⟩
  | 79 => ⟨S_, .i1⟩
  | 80 => ⟨S256x256, .i1⟩
  | 81 => ⟨S256x256, .i1⟩
  | 82 => ⟨S_, .f32⟩
  | 83 => ⟨S_, .f32⟩
  | 84 => ⟨S4x8x8x8x256x256, .i1⟩
  | 85 => ⟨S4x8x8x8x256x256, .f32⟩
  | 86 => ⟨S4x8x8x8x256x256, .f32⟩
  | 87 => ⟨S4x8x8x8x256x256, .f32⟩
  | 88 => ⟨S4x8x8x256x256, .f32⟩
  | 89 => ⟨S4x8x8x1x256x256, .f32⟩
  | 90 => ⟨S4x8x8x8x256x256, .f32⟩
  | 91 => ⟨S4x8x8x8x256x256, .f32⟩
  | 92 => ⟨S4x8x8x8x1x256, .f32⟩
  | 93 => ⟨S4x8x8x8x256x256, .f32⟩
  | 94 => ⟨S4x8x8x8x256x256, .f32⟩
  | 95 => ⟨S4x8x8x8x64x256, .f32⟩
  | 96 => ⟨S4x8x256x8x8x64, .f32⟩
  | 97 => ⟨S4x8x8x8x1, .f32⟩
  | 98 => ⟨S4x8x8x8x256, .f32⟩
  | 99 => ⟨S4x8x8x8x256, .f32⟩
  | 100 => ⟨S4x8x8x8x256, .f32⟩
  | 101 => ⟨S4x8x8x8x256, .f32⟩
  | 102 => ⟨S4x8x256x8x8, .f32⟩
  | 103 => ⟨S4x8x256x8x8x1, .f32⟩
  | 104 => ⟨S4x8x256x8x8x64, .f32⟩
  | 105 => ⟨S4x8x256x8x8x64, .f32⟩
  | 106 => ⟨S4x8x8x8x64x128, .f32⟩
  | 107 => ⟨S4x1x8x8x64x128, .f32⟩
  | 108 => ⟨S4x9x8x8x64x128, .f32⟩
  | 109 => ⟨S4x8x8x8x1, .f32⟩
  | 110 => ⟨S4x8x8x8, .f32⟩
  | 111 => ⟨S4x8x8x8, .f32⟩
  | 112 => ⟨S_, .i32⟩
  | 113 => ⟨S_, .f32⟩
  | 114 => ⟨S4x8x8x9, .f32⟩
  | 115 => ⟨S4x8x8x9x1, .f32⟩
  | 116 => ⟨S4x8x8x9x9, .f32⟩
  | 117 => ⟨S_, .i1⟩
  | 118 => ⟨S9x9, .i1⟩
  | 119 => ⟨S9x9, .i32⟩
  | 120 => ⟨S_, .i32⟩
  | 121 => ⟨S9x9, .i32⟩
  | 122 => ⟨S9x9, .i32⟩
  | 123 => ⟨S9x9, .i32⟩
  | 124 => ⟨S9x9, .i1⟩
  | 125 => ⟨S_, .i1⟩
  | 126 => ⟨S9x9, .i1⟩
  | 127 => ⟨S9x9, .i1⟩
  | _ => ⟨S4x2048x10304, .f32⟩

abbrev hbmTy0_1 (i : Nat) : BufTy := match i % 128 with
  | 0 => ⟨S_, .i32⟩
  | 1 => ⟨S_, .f32⟩
  | 2 => ⟨S4x8x8x9x9, .i1⟩
  | 3 => ⟨S4x8x8x9x9, .f32⟩
  | 4 => ⟨S4x8x8x9x9, .f32⟩
  | 5 => ⟨S_, .f32⟩
  | 6 => ⟨S_, .f32⟩
  | 7 => ⟨S4x8x8x9x9, .f32⟩
  | 8 => ⟨S_, .i1⟩
  | 9 => ⟨S9x9, .i1⟩
  | 10 => ⟨S9x9, .i32⟩
  | 11 => ⟨S_, .i32⟩
  | 12 => ⟨S9x9, .i32⟩
  | 13 => ⟨S9x9, .i32⟩
  | 14 => ⟨S9x9, .i32⟩
  | 15 => ⟨S9x9, .i1⟩
  | 16 => ⟨S_, .i1⟩
  | 17 => ⟨S9x9, .i1⟩
  | 18 => ⟨S9x9, .i1⟩
  | 19 => ⟨S_, .f32⟩
  | 20 => ⟨S_, .f32⟩
  | 21 => ⟨S4x8x8x9x9, .i1⟩
  | 22 => ⟨S4x8x8x9x9, .f32⟩
  | 23 => ⟨S4x8x8x9x9, .f32⟩
  | 24 => ⟨S4x8x8x9x9, .f32⟩
  | 25 => ⟨S4x8x8x64x128x9, .f32⟩
  | 26 => ⟨S4x9x8x8x64x128, .f32⟩
  | 27 => ⟨S4x8x8x8x64x128, .f32⟩
  | 28 => ⟨S4x8x8x8x64x256, .f32⟩
  | 29 => ⟨S4x8x256x8x8x64, .f32⟩
  | 30 => ⟨S4x8x8x8x256, .f32⟩
  | 31 => ⟨S4x8x256x8x8, .f32⟩
  | 32 => ⟨S4x8x256x8x8x1, .f32⟩
  | 33 => ⟨S4x8x256x8x8x64, .f32⟩
  | 34 => ⟨S4x8x256x8x8x64, .f32⟩
  | 35 => ⟨S4x8x256x8x8x64, .f32⟩
  | 36 => ⟨S4x2048x8x8x64, .f32⟩
  | 37 => ⟨S4x1x8x8x64x128, .f32⟩
  | 38 => ⟨S4x8x8x64x128, .f32⟩
  | 39 => ⟨S8x8, .f32⟩
  | 40 => ⟨S8x8x1, .f32⟩
  | 41 => ⟨S1x1x8x8x1, .f32⟩
  | 42 => ⟨S4x2048x8x8x64, .f32⟩
  | 43 => ⟨S4x2048x8x8x64, .f32⟩
  | 44 => ⟨S4x2048x8x8x64, .f32⟩
  | 45 => ⟨S4x2048x4096, .f32⟩
  | 46 => ⟨S4x2048x4096, .f32⟩
  | 47 => ⟨S4x2048x4096, .f32⟩
  | 48 => ⟨S_, .f32⟩
  | 49 => ⟨S4x2048x4096, .f32⟩
  | 50 => ⟨S4x2048x4096, .f32⟩
  | 51 => ⟨S_, .f32⟩
  | 52 => ⟨S4x2048x4096, .f32⟩
  | 53 => ⟨S4x2048x4096, .f32⟩
  | 54 => ⟨S4x2048x4096, .f32⟩
  | 55 => ⟨S4x2048x4096, .f32⟩
  | 56 => ⟨S4x2048x8x512, .f32⟩
  | 57 => ⟨S4x2048x8x512, .f32⟩
  | 58 => ⟨S_, .f32⟩
  | 59 => ⟨S4x2048x8, .f32⟩
  | 60 => ⟨S4x2048x8x1, .f32⟩
  | 61 => ⟨S_, .f32⟩
  | 62 => ⟨S4x2048x8x1, .f32⟩
  | 63 => ⟨S4x2048x8x1, .f32⟩
  | 64 => ⟨S_, .f32⟩
  | 65 => ⟨S4x2048x8x1, .f32⟩
  | 66 => ⟨S4x2048x8x1, .f32⟩
  | 67 => ⟨S4x2048x8x1, .f32⟩
  | 68 => ⟨S4x2048x8x512, .f32⟩
  | 69 => ⟨S4x2048x8x512, .f32⟩
  | 70 => ⟨S4x2048x4096, .f32⟩
  | 71 => ⟨S1x1x4096, .f32⟩
  | 72 => ⟨S4x2048x4096, .f32⟩
  | 73 => ⟨S4x2048x4096, .f32⟩
  | 74 => ⟨S4x8x128x8x64, .f32⟩
  | 75 => ⟨S4x8x128x512, .f32⟩
  | _ => ⟨S4x2048x10304, .f32⟩

abbrev hbmTy (i : Nat) : BufTy := match i / 128 with
  | 0 => hbmTy0_0 i
  | 1 => hbmTy0_1 i
  | _ => ⟨S4x2048x10304, .f32⟩

abbrev bufTy : (tb : Table) → Fin (tcTables nBuf tb) → BufTy
  | .hbm, ⟨i, _⟩ => hbmTy i
  | _, _ => ⟨S4x2048x10304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_call0_cst : Ref sig .tc := ⟨.hbm, 47, rfl⟩
abbrev main_call1_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c : Ref sig .tc := ⟨.hbm, 52, rfl⟩
abbrev main_v30 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_c_0 : Ref sig .tc := ⟨.hbm, 60, rfl⟩
abbrev main_call2_v5 : Ref sig .tc := ⟨.hbm, 61, rfl⟩
abbrev main_v31 : Ref sig .tc := ⟨.hbm, 62, rfl⟩
abbrev main_c_0 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v32 : Ref sig .tc := ⟨.hbm, 67, rfl⟩
abbrev main_call4_call0_cst : Ref sig .tc := ⟨.hbm, 68, rfl⟩
abbrev main_call4_call0_v0 : Ref sig .tc := ⟨.hbm, 69, rfl⟩
abbrev main_v33 : Ref sig .tc := ⟨.hbm, 70, rfl⟩
abbrev main_c_1 : Ref sig .tc := ⟨.hbm, 71, rfl⟩
abbrev main_v34 : Ref sig .tc := ⟨.hbm, 72, rfl⟩
abbrev main_call5_v0 : Ref sig .tc := ⟨.hbm, 73, rfl⟩
abbrev main_call5_c : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_c_0 : Ref sig .tc := ⟨.hbm, 79, rfl⟩
abbrev main_call5_v5 : Ref sig .tc := ⟨.hbm, 80, rfl⟩
abbrev main_v35 : Ref sig .tc := ⟨.hbm, 81, rfl⟩
abbrev main_cst : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_c_2 : Ref sig .tc := ⟨.hbm, 112, rfl⟩
abbrev main_call7_v0 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_3 : Ref sig .tc := ⟨.hbm, 117, rfl⟩
abbrev main_v65 : Ref sig .tc := ⟨.hbm, 118, rfl⟩
abbrev main_call8_v0 : Ref sig .tc := ⟨.hbm, 119, rfl⟩
abbrev main_call8_c : Ref sig .tc := ⟨.hbm, 120, rfl⟩
abbrev main_call8_v1 : Ref sig .tc := ⟨.hbm, 121, rfl⟩
abbrev main_call8_v2 : Ref sig .tc := ⟨.hbm, 122, rfl⟩
abbrev main_call8_v3 : Ref sig .tc := ⟨.hbm, 123, rfl⟩
abbrev main_call8_v4 : Ref sig .tc := ⟨.hbm, 124, rfl⟩
abbrev main_call8_c_0 : Ref sig .tc := ⟨.hbm, 125, rfl⟩
abbrev main_call8_v5 : Ref sig .tc := ⟨.hbm, 126, rfl⟩
abbrev main_v66 : Ref sig .tc := ⟨.hbm, 127, rfl⟩
abbrev main_c_4 : Ref sig .tc := ⟨.hbm, 128, rfl⟩
abbrev main_call9_v0 : Ref sig .tc := ⟨.hbm, 129, rfl⟩
abbrev main_call9_v1 : Ref sig .tc := ⟨.hbm, 130, rfl⟩
abbrev main_call9_v2 : Ref sig .tc := ⟨.hbm, 131, rfl⟩
abbrev main_v67 : Ref sig .tc := ⟨.hbm, 132, rfl⟩
abbrev main_call10_call0_cst : Ref sig .tc := ⟨.hbm, 133, rfl⟩
abbrev main_call10_call0_v0 : Ref sig .tc := ⟨.hbm, 134, rfl⟩
abbrev main_v68 : Ref sig .tc := ⟨.hbm, 135, rfl⟩
abbrev main_c_5 : Ref sig .tc := ⟨.hbm, 136, rfl⟩
abbrev main_v69 : Ref sig .tc := ⟨.hbm, 137, rfl⟩
abbrev main_call11_v0 : Ref sig .tc := ⟨.hbm, 138, rfl⟩
abbrev main_call11_c : Ref sig .tc := ⟨.hbm, 139, rfl⟩
abbrev main_call11_v1 : Ref sig .tc := ⟨.hbm, 140, rfl⟩
abbrev main_call11_v2 : Ref sig .tc := ⟨.hbm, 141, rfl⟩
abbrev main_call11_v3 : Ref sig .tc := ⟨.hbm, 142, rfl⟩
abbrev main_call11_v4 : Ref sig .tc := ⟨.hbm, 143, rfl⟩
abbrev main_call11_c_0 : Ref sig .tc := ⟨.hbm, 144, rfl⟩
abbrev main_call11_v5 : Ref sig .tc := ⟨.hbm, 145, rfl⟩
abbrev main_v70 : Ref sig .tc := ⟨.hbm, 146, rfl⟩
abbrev main_cst_6 : Ref sig .tc := ⟨.hbm, 147, rfl⟩
abbrev main_call12_v0 : Ref sig .tc := ⟨.hbm, 148, rfl⟩
abbrev main_call12_v1 : Ref sig .tc := ⟨.hbm, 149, rfl⟩
abbrev main_call12_v2 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_call13_v0 : Ref sig .tc := ⟨.hbm, 174, rfl⟩
abbrev main_call13_v1 : Ref sig .tc := ⟨.hbm, 175, rfl⟩
abbrev main_call13_cst : Ref sig .tc := ⟨.hbm, 176, rfl⟩
abbrev main_call13_v2 : Ref sig .tc := ⟨.hbm, 177, rfl⟩
abbrev main_call13_v3 : Ref sig .tc := ⟨.hbm, 178, rfl⟩
abbrev main_call13_cst_0 : Ref sig .tc := ⟨.hbm, 179, rfl⟩
abbrev main_call13_v4 : Ref sig .tc := ⟨.hbm, 180, rfl⟩
abbrev main_call13_v5 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_cst_7 : Ref sig .tc := ⟨.hbm, 186, rfl⟩
abbrev main_v98 : Ref sig .tc := ⟨.hbm, 187, rfl⟩
abbrev main_v99 : Ref sig .tc := ⟨.hbm, 188, rfl⟩
abbrev main_cst_8 : Ref sig .tc := ⟨.hbm, 189, rfl⟩
abbrev main_v100 : Ref sig .tc := ⟨.hbm, 190, rfl⟩
abbrev main_v101 : Ref sig .tc := ⟨.hbm, 191, rfl⟩
abbrev main_cst_9 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x2x5632 : Shape := ⟨3, ![4, 2, 5632]⟩
abbrev S4x2048x11264 : Shape := ⟨3, ![4, 2048, 11264]⟩
abbrev S3x5632 : Shape := ⟨2, ![3, 5632]⟩
abbrev S5632 : Shape := ⟨1, ![5632]⟩
abbrev S8192x2048 : Shape := ⟨2, ![8192, 2048]⟩
abbrev S_ : Shape := ⟨0, ![]⟩
abbrev S4x8x5632 : Shape := ⟨3, ![4, 8, 5632]⟩
abbrev S1x5632 : Shape := ⟨2, ![1, 5632]⟩
abbrev S8192x5632 : Shape := ⟨2, ![8192, 5632]⟩
abbrev S1024x2048 : Shape := ⟨2, ![1024, 2048]⟩
abbrev S16x2048 : Shape := ⟨2, ![16, 2048]⟩
abbrev S1x8x512 : Shape := ⟨3, ![1, 8, 512]⟩
abbrev S1x2048x512 : Shape := ⟨3, ![1, 2048, 512]⟩
abbrev S3x512 : Shape := ⟨2, ![3, 512]⟩
abbrev S1x512 : Shape := ⟨2, ![1, 512]⟩
abbrev S1024x512 : Shape := ⟨2, ![1024, 512]⟩
abbrev S1032x512 : Shape := ⟨2, ![1032, 512]⟩
abbrev S2048x512 : Shape := ⟨2, ![2048, 512]⟩
abbrev S16x512 : Shape := ⟨2, ![16, 512]⟩
abbrev S8x512 : Shape := ⟨2, ![8, 512]⟩

abbrev nBuf : Space → Nat
  | .hbm => 14
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x2x5632, .f32⟩
  | .hbm, ⟨2, _⟩ => ⟨S4x2048x11264, .f32⟩
  | .hbm, ⟨3, _⟩ => ⟨S3x5632, .f32⟩
  | .hbm, ⟨4, _⟩ => ⟨S5632, .f32⟩
  | .hbm, ⟨5, _⟩ => ⟨S4x2048x2048, .bf16⟩
  | .hbm, ⟨6, _⟩ => ⟨S4x2048x11264, .bf16⟩
  | .hbm, ⟨7, _⟩ => ⟨S8192x2048, .bf16⟩
  | .hbm, ⟨8, _⟩ => ⟨S_, .i32⟩
  | .hbm, ⟨9, _⟩ => ⟨S_, .f32⟩
  | .hbm, ⟨10, _⟩ => ⟨S4x8x5632, .f32⟩
  | .hbm, ⟨11, _⟩ => ⟨S1x5632, .f32⟩
  | .hbm, ⟨12, _⟩ => ⟨S8192x5632, .bf16⟩
  | .hbm, ⟨13, _⟩ => ⟨S4x8x5632, .f32⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S1x8x512, .f32⟩
  | .local _ .vmem, ⟨5, _⟩ => ⟨S1x8x512, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S1x8x512, .f32⟩
  | .local _ .vmem, ⟨17, _⟩ => ⟨S1x8x512, .f32⟩
  | .local _ .vmem, ⟨18, _⟩ => ⟨S1032x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x2048x2048 : Shape := ⟨3, ![4, 2048, 2048]⟩
abbrev S4x2x5632 : Shape := ⟨3, ![4, 2, 5632]⟩
abbrev S4x2048x11264 : Shape := ⟨3, ![4, 2048, 11264]⟩
abbrev S3x5632 : Shape := ⟨2, ![3, 5632]⟩
abbrev S5632 : Shape := ⟨1, ![5632]⟩
abbrev S1x2048x11264 : Shape := ⟨3, ![1, 2048, 11264]⟩
abbrev S2048x11264 : Shape := ⟨2, ![2048, 11264]⟩
abbrev S4x2048x5632 : Shape := ⟨3, ![4, 2048, 5632]⟩
abbrev S4x2050x5632 : Shape := ⟨3, ![4, 2050, 5632]⟩
abbrev S1x5632 : Shape := ⟨2, ![1, 5632]⟩
abbrev S1x1x5632 : Shape := ⟨3, ![1, 1, 5632]⟩
abbrev S_ : Shape := ⟨0, ![]⟩
abbrev S8192x5632 : Shape := ⟨2, ![8192, 5632]⟩
abbrev S4x8x5632 : Shape := ⟨3, ![4, 8, 5632]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2x5632, .f32⟩
  | .hbm, ⟨2, _⟩ => ⟨S4x2048x11264, .f32⟩
  | .hbm, ⟨3, _⟩ => ⟨S3x5632, .f32⟩
  | .hbm, ⟨4, _⟩ => ⟨S5632, .f32⟩
  | .hbm, ⟨5, _⟩ => ⟨S1x2048x11264, .f32⟩
  | .hbm, ⟨6, _⟩ => ⟨S2048x11264, .f32⟩
  | .hbm, ⟨7, _⟩ => ⟨S4x2048x11264, .f32⟩
  | .hbm, ⟨8, _⟩ => ⟨S4x2048x5632, .f32⟩
  | .hbm, ⟨9, _⟩ => ⟨S4x2048x5632, .f32⟩
  | .hbm, ⟨10, _⟩ => ⟨S4x2050x5632, .f32⟩
  | .hbm, ⟨11, _⟩ => ⟨S1x5632, .f32⟩
  | .hbm, ⟨12, _⟩ => ⟨S5632, .f32⟩
  | .hbm, ⟨13, _⟩ => ⟨S4x2048x5632, .f32⟩
  | .hbm, ⟨14, _⟩ => ⟨S1x1x5632, .f32⟩
  | .hbm, ⟨15, _⟩ => ⟨S4x2048x5632, .f32⟩
  | .hbm, ⟨16, _⟩ => ⟨S4x2048x5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S1x5632, .f32⟩
  | .hbm, ⟨21, _⟩ => ⟨S5632, .f32⟩
  | .hbm, ⟨22, _⟩ => ⟨S4x2048x5632, .f32⟩
  | .hbm, ⟨23, _⟩ => ⟨S1x1x5632, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S1x5632, .f32⟩
  | .hbm, ⟨28, _⟩ => ⟨S5632, .f32⟩
  | .hbm, ⟨29, _⟩ => ⟨S4x2048x5632, .f32⟩
  | .hbm, ⟨30, _⟩ => ⟨S1x1x5632, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S_, .f32⟩
  | .hbm, ⟨37, _⟩ => ⟨S4x2048x5632, .f32⟩
  | .hbm, ⟨38, _⟩ => ⟨S4x2048x5632, .f32⟩
  | .hbm, ⟨39, _⟩ => ⟨S4x2048x5632, .f32⟩
  | .hbm, ⟨40, _⟩ => ⟨S_, .f32⟩
  | .hbm, ⟨41, _⟩ => ⟨S4x2048x5632, .f32⟩
  | .hbm, ⟨42, _⟩ => ⟨S4x2048x5632, .f32⟩
  | .hbm, ⟨43, _⟩ => ⟨S4x2048x5632, .f32⟩
  | .hbm, ⟨44, _⟩ => ⟨S_, .f32⟩
  | .hbm, ⟨45, _⟩ => ⟨S4x2048x5632, .f32⟩
  | .hbm, ⟨46, _⟩ => ⟨S4x2048x5632, .f32⟩
  | .hbm, ⟨47, _⟩ => ⟨S_, .f32⟩
  | .hbm, ⟨48, _⟩ => ⟨S4x2048x5632, .f32⟩
  | .hbm, ⟨49, _⟩ => ⟨S4x2048x5632, .f32⟩
  | .hbm, ⟨50, _⟩ => ⟨S4x2048x5632, .f32⟩
  | .hbm, ⟨51, _⟩ => ⟨S4x2048x5632, .f32⟩
  | .hbm, ⟨52, _⟩ => ⟨S8192x5632, .f32⟩
  | .hbm, ⟨53, _⟩ => ⟨S8192x5632, .bf16⟩
  | .hbm, ⟨54, _⟩ => ⟨S4x8x5632, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Kernel3.lean ====
abbrev S4x2048x5632 : Shape := ⟨3, ![4, 2048, 5632]⟩
abbrev S4x5632x2048 : Shape := ⟨3, ![4, 5632, 2048]⟩
abbrev S4x2048x2048 : Shape := ⟨3, ![4, 2048, 2048]⟩
abbrev S2048 : Shape := ⟨1, ![2048]⟩
abbrev S8192x5632 : Shape := ⟨2, ![8192, 5632]⟩
abbrev S8192x2048 : Shape := ⟨2, ![8192, 2048]⟩
abbrev S1x2048 : Shape := ⟨2, ![1, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4x2048x5632, .bf16⟩
  | .hbm, ⟨1, _⟩ => ⟨S4x5632x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S4x5632x2048, .bf16⟩
  | .hbm, ⟨6, _⟩ => ⟨S8192x5632, .bf16⟩
  | .hbm, ⟨7, _⟩ => ⟨S8192x2048, .f32⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | _, _ => ⟨S4x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4x2048x5632 : Shape := ⟨3, ![4, 2048, 5632]⟩
abbrev S4x5632x2048 : Shape := ⟨3, ![4, 5632, 2048]⟩
abbrev S4x2048x2048 : Shape := ⟨3, ![4, 2048, 2048]⟩
abbrev S2048 : Shape := ⟨1, ![2048]⟩
abbrev S_ : Shape := ⟨0, ![]⟩
abbrev S1x5632x2048 : Shape := ⟨3, ![1, 5632, 2048]⟩
abbrev S5632x2048 : Shape := ⟨2, ![5632, 2048]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x5632, .bf16⟩
  | .hbm, ⟨1, _⟩ => ⟨S4x5632x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S1x5632x2048, .f32⟩
  | .hbm, ⟨9, _⟩ => ⟨S5632x2048, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S1x1x2048, .f32⟩
  | .hbm, ⟨36, _⟩ => ⟨S4x2048x2048, .f32⟩
  | .hbm, ⟨37, _⟩ => ⟨S4x2048x2048, .f32⟩
  | .hbm, ⟨38, _⟩ => ⟨S1x1x2048, .f32⟩
  | .hbm, ⟨39, _⟩ => ⟨S4x2048x2048, .f32⟩
  | .hbm, ⟨40, _⟩ => ⟨S4x2048x2048, .f32⟩
  | .hbm, ⟨41, _⟩ => ⟨S8192x2048, .f32⟩
  | .hbm, ⟨42, _⟩ => ⟨S8192x2048, .bf16⟩
  | _, _ => ⟨S4x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel4.lean ====
abbrev S4x2048x4096 : Shape := ⟨3, ![4, 2048, 4096]⟩
abbrev S4x2048x4 : Shape := ⟨3, ![4, 2048, 4]⟩
abbrev S4x4x1024x1024 : Shape := ⟨4, ![4, 4, 1024, 1024]⟩
abbrev S4x4x1024 : Shape := ⟨3, ![4, 4, 1024]⟩
abbrev S4x4 : Shape := ⟨2, ![4, 4]⟩
abbrev S4096 : Shape := ⟨1, ![4096]⟩
abbrev S4x2048x8192 : Shape := ⟨3, ![4, 2048, 8192]⟩
abbrev S_ : Shape := ⟨0, ![]⟩
abbrev S4x2048x4x1024 : Shape := ⟨4, ![4, 2048, 4, 1024]⟩
abbrev S4x1024x4x2048 : Shape := ⟨4, ![4, 1024, 4, 2048]⟩
abbrev S4x4x1024x2048 : Shape := ⟨4, ![4, 4, 1024, 2048]⟩
abbrev S4x8x256x4 : Shape := ⟨4, ![4, 8, 256, 4]⟩
abbrev S4x4x8x256 : Shape := ⟨4, ![4, 4, 8, 256]⟩
abbrev S4x4x2048x1 : Shape := ⟨4, ![4, 4, 2048, 1]⟩
abbrev S4x4x8x1x256 : Shape := ⟨5, ![4, 4, 8, 1, 256]⟩
abbrev S4x4x1024x1 : Shape := ⟨4, ![4, 4, 1024, 1]⟩
abbrev S4x4x1024x128 : Shape := ⟨4, ![4, 4, 1024, 128]⟩
abbrev S4x4x1x1 : Shape := ⟨4, ![4, 4, 1, 1]⟩
abbrev S4x4x1x128 : Shape := ⟨4, ![4, 4, 1, 128]⟩
abbrev S1x4096 : Shape := ⟨2, ![1, 4096]⟩
abbrev S1x256x1024 : Shape := ⟨3, ![1, 256, 1024]⟩
abbrev S1x1x1024x256 : Shape := ⟨4, ![1, 1, 1024, 256]⟩
abbrev S1x1x256x1 : Shape := ⟨4, ![1, 1, 256, 1]⟩
abbrev S1x1x1x1x256 : Shape := ⟨5, ![1, 1, 1, 1, 256]⟩
abbrev S1x1x1024x1024 : Shape := ⟨4, ![1, 1, 1024, 1024]⟩
abbrev S1x1x1024x128 : Shape := ⟨4, ![1, 1, 1024, 128]⟩
abbrev S1x1x1x128 : Shape := ⟨4, ![1, 1, 1, 128]⟩
abbrev S1x1024 : Shape := ⟨2, ![1, 1024]⟩
abbrev S1024x1152 : Shape := ⟨2, ![1024, 1152]⟩
abbrev S1x128 : Shape := ⟨2, ![1, 128]⟩
abbrev S1024x1024 : Shape := ⟨2, ![1024, 1024]⟩
abbrev S1024x128 : Shape := ⟨2, ![1024, 128]⟩
abbrev S256x1024 : Shape := ⟨2, ![256, 1024]⟩
abbrev S1024x256 : Shape := ⟨2, ![1024, 256]⟩
abbrev S256x1 : Shape := ⟨2, ![256, 1]⟩
abbrev S1x256 : Shape := ⟨2, ![1, 256]⟩
abbrev S1x1 : Shape := ⟨2, ![1, 1]⟩
abbrev S256x256 : Shape := ⟨2, ![256, 256]⟩
abbrev S256 : Shape := ⟨1, ![256]⟩
abbrev S256x1152 : Shape := ⟨2, ![256, 1152]⟩
abbrev S256x128 : Shape := ⟨2, ![256, 128]⟩

abbrev nBuf : Space → Nat
  | .hbm => 56
  | .vmem => 34
  | .smem => 0
  | _ => 0

abbrev bufTy : (tb : Table) → Fin (tcTables nBuf tb) → BufTy
  | .hbm, ⟨0, _⟩ => ⟨S4x2048x4096, .bf16⟩
  | .hbm, ⟨1, _⟩ => ⟨S4x2048x4096, .bf16⟩
  | .hbm, ⟨2, _⟩ => ⟨S4x2048x4096, .bf16⟩
  | .hbm, ⟨3, _⟩ => ⟨S4x2048x4, .f32⟩
  | .hbm, ⟨4, _⟩ => ⟨S4x2048x4, .f32⟩
  | .hbm, ⟨5, _⟩ => ⟨S4x4x1024x1024, .f32⟩
  | .hbm, ⟨6, _⟩ => ⟨S4x4x1024, .f32⟩
  | .hbm, ⟨7, _⟩ => ⟨S4x4, .f32⟩
  | .hbm, ⟨8, _⟩ => ⟨S4096, .f32⟩
  | .hbm, ⟨9, _⟩ => ⟨S4x2048x4096, .f32⟩
  | .hbm, ⟨10, _⟩ => ⟨S4x2048x8192, .f32⟩
  | .hbm, ⟨11, _⟩ => ⟨S4096, .f32⟩
  | .hbm, ⟨12, _⟩ => ⟨S4x2048x4, .f32⟩
  | .hbm, ⟨13, _⟩ => ⟨S_, .f32⟩
  | .hbm, ⟨14, _⟩ => ⟨S4x2048x4, .f32⟩
  | .hbm, ⟨15, _⟩ => ⟨S4x2048x4, .f32⟩
  | .hbm, ⟨16, _⟩ => ⟨S4x2048x4, .f32⟩
  | .hbm, ⟨17, _⟩ => ⟨S4x2048x4, .f32⟩
  | .hbm, ⟨18, _⟩ => ⟨S4x2048x4, .i1⟩
  | .hbm, ⟨19, _⟩ => ⟨S4x2048x4, .f32⟩
  | .hbm, ⟨20, _⟩ => ⟨S4x2048x4, .f32⟩
  | .hbm, ⟨21, _⟩ => ⟨S4x2048x4, .f32⟩
  | .hbm, ⟨22, _⟩ => ⟨S4x2048x4, .f32⟩
  | .hbm, ⟨23, _⟩ => ⟨S4x2048x4, .f32⟩
  | .hbm, ⟨24, _⟩ => ⟨S4x2048x4, .f32⟩
  | .hbm, ⟨25, _⟩ => ⟨S4x2048x4, .f32⟩
  | .hbm, ⟨26, _⟩ => ⟨S4x2048x4, .f32⟩
  | .hbm, ⟨27, _⟩ => ⟨S4x2048x4, .f32⟩
  | .hbm, ⟨28, _⟩ => ⟨S_, .bf16⟩
  | .hbm, ⟨29, _⟩ => ⟨S4x2048x4096, .bf16⟩
  | .hbm, ⟨30, _⟩ => ⟨S4x2048x4096, .bf16⟩
  | .hbm, ⟨31, _⟩ => ⟨S4x2048x4x1024, .bf16⟩
  | .hbm, ⟨32, _⟩ => ⟨S4x1024x4x2048, .bf16⟩
  | .hbm, ⟨33, _⟩ => ⟨S4x4x1024x2048, .bf16⟩
  | .hbm, ⟨34, _⟩ => ⟨S4x8x256x4, .f32⟩
  | .hbm, ⟨35, _⟩ => ⟨S_, .f32⟩
  | .hbm, ⟨36, _⟩ => ⟨S_, .f32⟩
  | .hbm, ⟨37, _⟩ => ⟨S4x8x256x4, .f32⟩
  | .hbm, ⟨38, _⟩ => ⟨S4x4x8x256, .f32⟩
  | .hbm, ⟨39, _⟩ => ⟨S4x4x2048x1, .f32⟩
  | .hbm, ⟨40, _⟩ => ⟨S4x8x256x4, .f32⟩
  | .hbm, ⟨41, _⟩ => ⟨S4x8x256x4, .f32⟩
  | .hbm, ⟨42, _⟩ => ⟨S4x4x8x256, .f32⟩
  | .hbm, ⟨43, _⟩ => ⟨S4x4x8x1x256, .f32⟩
  | .hbm, ⟨44, _⟩ => ⟨S4x4x1024x1, .f32⟩
  | .hbm, ⟨45, _⟩ => ⟨S_, .i32⟩
  | .hbm, ⟨46, _⟩ => ⟨S_, .f32⟩
  | .hbm, ⟨47, _⟩ => ⟨S4x4x1024x128, .f32⟩
  | .hbm, ⟨48, _⟩ => ⟨S4x4x1x1, .f32⟩
  | .hbm, ⟨49, _⟩ => ⟨S4x4x1x128, .f32⟩
  | .hbm, ⟨50, _⟩ => ⟨S1x4096, .f32⟩
  | .hbm, ⟨51, _⟩ => ⟨S1x4096, .f32⟩
  | .hbm, ⟨52, _⟩ => ⟨S4x2048x4096, .bf16⟩
  | .hbm, ⟨53, _⟩ => ⟨S4x4x1024x1024, .f32⟩
  | .hbm, ⟨54, _⟩ => ⟨S4x4x1024x128, .f32⟩
  | .hbm, ⟨55, _⟩ => ⟨S4x4x1x128, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x1x256x1, .f32⟩
  | .local _ .vmem, ⟨7, _⟩ => ⟨S1x1x256x1, .f32⟩
  | .local _ .vmem, ⟨8, _⟩ => ⟨S1x1x1x1x256, .f32⟩
  | .local _ .vmem, ⟨9, _⟩ => ⟨S1x1x1x1x256, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024x128, .f32⟩
  | .local _ .vmem, ⟨13, _⟩ => ⟨S1x1x1024x128, .f32⟩
  | .local _ .vmem, ⟨14, _⟩ => ⟨S1x1x1x128, .f32⟩
  | .local _ .vmem, ⟨15, _⟩ => ⟨S1x1x1x128, .f32⟩
  | .local _ .vmem, ⟨16, _⟩ => ⟨S1x1024, .f32⟩
  | .local _ .vmem, ⟨17, _⟩ => ⟨S1x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x1024, .f32⟩
  | .local _ .vmem, ⟨23, _⟩ => ⟨S1x1024, .f32⟩
  | .local _ .vmem, ⟨24, _⟩ => ⟨S1x256x1024, .bf16⟩
  | .local _ .vmem, ⟨25, _⟩ => ⟨S1x256x1024, .bf16⟩
  | .local _ .vmem, ⟨26, _⟩ => ⟨S1x1x1024x1024, .f32⟩
  | .local _ .vmem, ⟨27, _⟩ => ⟨S1x1x1024x1024, .f32⟩
  | .local _ .vmem, ⟨28, _⟩ => ⟨S1x1x1024x128, .f32⟩
  | .local _ .vmem, ⟨29, _⟩ => ⟨S1x1x1024x128, .f32⟩
  | .local _ .vmem, ⟨30, _⟩ => ⟨S1x1x1x128, .f32⟩
  | .local _ .vmem, ⟨31, _⟩ => ⟨S1x1x1x128, .f32⟩
  | .local _ .vmem, ⟨32, _⟩ => ⟨S1024x1152, .f32⟩
  | .local _ .vmem, ⟨33, _⟩ => ⟨S1x128, .f32⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_call1_call0_cst : Ref sig .tc := ⟨.hbm, 35, rfl⟩
abbrev main_call1_call0_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c : Ref sig .tc := ⟨.hbm, 45, rfl⟩
abbrev main_call2_v0 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20_0 : Ref sig .tc := ⟨.hbm, 52, rfl⟩
abbrev main_v20_1 : Ref sig .tc := ⟨.hbm, 53, rfl⟩
abbrev main_v20_2 : Ref sig .tc := ⟨.hbm, 54, rfl⟩
abbrev main_v20_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v130 : BitVec 1 := Scalar.cmpi .eq arg2 c7_i32
  let v131 : BitVec 32 := Scalar.extui v130
  let c0_i32_60 : BitVec 32 := 0#32
  let v132 : BitVec 1 := Scalar.cmpi .ne v131 c0_i32_60
  v132

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, arg2.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]
-- ==== Reference4Ideal.lean ====
abbrev S4x2048x4096 : Shape := ⟨3, ![4, 2048, 4096]⟩
abbrev S4x2048x4 : Shape := ⟨3, ![4, 2048, 4]⟩
abbrev S4x4x1024x1024 : Shape := ⟨4, ![4, 4, 1024, 1024]⟩
abbrev S4x4x1024 : Shape := ⟨3, ![4, 4, 1024]⟩
abbrev S4x4 : Shape := ⟨2, ![4, 4]⟩
abbrev S4096 : Shape := ⟨1, ![4096]⟩
abbrev S4x2048x8192 : Shape := ⟨3, ![4, 2048, 8192]⟩
abbrev S4x2048x4x1024 : Shape := ⟨4, ![4, 2048, 4, 1024]⟩
abbrev S_ : Shape := ⟨0, ![]⟩
abbrev S2048x2048 : Shape := ⟨2, ![2048, 2048]⟩
abbrev S4x2048x1x4 : Shape := ⟨4, ![4, 2048, 1, 4]⟩
abbrev S4x1x2048x4 : Shape := ⟨4, ![4, 1, 2048, 4]⟩
abbrev S4x2048x2048x4 : Shape := ⟨4, ![4, 2048, 2048, 4]⟩
abbrev S1x2048x2048x1 : Shape := ⟨4, ![1, 2048, 2048, 1]⟩
abbrev S4x1x4 : Shape := ⟨3, ![4, 1, 4]⟩
abbrev S4x4x2048x2048 : Shape := ⟨4, ![4, 4, 2048, 2048]⟩
abbrev S4x4x1024x2048 : Shape := ⟨4, ![4, 4, 1024, 2048]⟩
abbrev S4x2048x4x1 : Shape := ⟨4, ![4, 2048, 4, 1]⟩
abbrev S4x4x2048 : Shape := ⟨3, ![4, 4, 2048]⟩
abbrev S4x4x1x1 : Shape := ⟨4, ![4, 4, 1, 1]⟩
abbrev S4x4x1 : Shape := ⟨3, ![4, 4, 1]⟩
abbrev S1x1x4096 : Shape := ⟨3, ![1, 1, 4096]⟩
abbrev S4x4x1024x1 : Shape := ⟨4, ![4, 4, 1024, 1]⟩
abbrev S4x4x1024x128 : Shape := ⟨4, ![4, 4, 1024, 128]⟩
abbrev S4x4x1x128 : Shape := ⟨4, ![4, 4, 1, 128]⟩

abbrev nBuf : Space → Nat
  | .hbm => 179
  | .vmem => 0
  | .smem => 0
  | _ => 0

abbrev hbmTy0_0 (i : Nat) : BufTy := match i % 128 with
  | 0 => ⟨S4x2048x4096, .bf16⟩
  | 1 => ⟨S4x2048x4096, .bf16⟩
  | 2 => ⟨S4x2048x4096, .bf16⟩
  | 3 => ⟨S4x2048x4, .f32⟩
  | 4 => ⟨S4x2048x4, .f32⟩
  | 5 => ⟨S4x4x1024x1024, .f32⟩
  | 6 => ⟨S4x4x1024, .f32⟩
  | 7 => ⟨S4x4, .f32⟩
  | 8 => ⟨S4096, .f32⟩
  | 9 => ⟨S4x2048x4096, .f32⟩
  | 10 => ⟨S4x2048x8192, .f32⟩
  | 11 => ⟨S4096, .f32⟩
  | 12 => ⟨S4x2048x4096, .f32⟩
  | 13 => ⟨S4x2048x4096, .f32⟩
  | 14 => ⟨S4x2048x4x1024, .bf16⟩
  | 15 => ⟨S4x2048x4x1024, .f32⟩
  | 16 => ⟨S4x2048x4x1024, .bf16⟩
  | 17 => ⟨S4x2048x4x1024, .f32⟩
  | 18 => ⟨S_, .f32⟩
  | 19 => ⟨S4x2048x4x1024, .f32⟩
  | 20 => ⟨S4x2048x4x1024, .f32⟩
  | 21 => ⟨S4x2048x4x1024, .bf16⟩
  | 22 => ⟨S4x2048x4x1024, .f32⟩
  | 23 => ⟨S4x2048x4, .f32⟩
  | 24 => ⟨S_, .f32⟩
  | 25 => ⟨S4x2048x4, .f32⟩
  | 26 => ⟨S4x2048x4, .f32⟩
  | 27 => ⟨S4x2048x4, .f32⟩
  | 28 => ⟨S4x2048x4, .f32⟩
  | 29 => ⟨S4x2048x4, .i1⟩
  | 30 => ⟨S4x2048x4, .f32⟩
  | 31 => ⟨S4x2048x4, .f32⟩
  | 32 => ⟨S4x2048x4, .f32⟩
  | 33 => ⟨S4x2048x4, .f32⟩
  | 34 => ⟨S4x2048x4, .f32⟩
  | 35 => ⟨S4x2048x4, .f32⟩
  | 36 => ⟨S4x2048x4, .f32⟩
  | 37 => ⟨S4x2048x4, .f32⟩
  | 38 => ⟨S4x2048x4, .f32⟩
  | 39 => ⟨S_, .i1⟩
  | 40 => ⟨S2048x2048, .i1⟩
  | 41 => ⟨S2048x2048, .i32⟩
  | 42 => ⟨S_, .i32⟩
  | 43 => ⟨S2048x2048, .i32⟩
  | 44 => ⟨S2048x2048, .i32⟩
  | 45 => ⟨S2048x2048, .i32⟩
  | 46 => ⟨S2048x2048, .i1⟩
  | 47 => ⟨S_, .i1⟩
  | 48 => ⟨S2048x2048, .i1⟩
  | 49 => ⟨S2048x2048, .i1⟩
  | 50 => ⟨S_, .f32⟩
  | 51 => ⟨S_, .f32⟩
  | 52 => ⟨S4x2048x4, .f32⟩
  | 53 => ⟨S4x2048x1x4, .f32⟩
  | 54 => ⟨S4x1x2048x4, .f32⟩
  | 55 => ⟨S4x2048x2048x4, .f32⟩
  | 56 => ⟨S4x2048x2048x4, .f32⟩
  | 57 => ⟨S4x2048x2048x4, .f32⟩
  | 58 => ⟨S4x1x2048x4, .f32⟩
  | 59 => ⟨S4x2048x2048x4, .f32⟩
  | 60 => ⟨S4x2048x2048x4, .f32⟩
  | 61 => ⟨S1x2048x2048x1, .i1⟩
  | 62 => ⟨S_, .f32⟩
  | 63 => ⟨S_, .f32⟩
  | 64 => ⟨S4x2048x2048x4, .i1⟩
  | 65 => ⟨S4x2048x2048x4, .f32⟩
  | 66 => ⟨S4x2048x2048x4, .f32⟩
  | 67 => ⟨S4x1x4, .f32⟩
  | 68 => ⟨S4x2048x4, .f32⟩
  | 69 => ⟨S4x2048x4, .f32⟩
  | 70 => ⟨S_, .f32⟩
  | 71 => ⟨S4x2048x4, .f32⟩
  | 72 => ⟨S4x2048x4, .f32⟩
  | 73 => ⟨S4x2048x1x4, .f32⟩
  | 74 => ⟨S4x2048x2048x4, .f32⟩
  | 75 => ⟨S4x2048x2048x4, .f32⟩
  | 76 => ⟨S4x2048x2048x4, .f32⟩
  | 77 => ⟨S4x4x2048x2048, .f32⟩
  | 78 => ⟨S4x2048x2048x4, .f32⟩
  | 79 => ⟨S4x2048x2048x4, .f32⟩
  | 80 => ⟨S4x2048x4, .f32⟩
  | 81 => ⟨S4x2048x4, .f32⟩
  | 82 => ⟨S4x4x1024x2048, .f32⟩
  | 83 => ⟨S4x2048x4x1024, .f32⟩
  | 84 => ⟨S4x2048x4x1, .f32⟩
  | 85 => ⟨S4x4x1024x2048, .f32⟩
  | 86 => ⟨S4x2048x4x1024, .f32⟩
  | 87 => ⟨S4x2048x4x1024, .f32⟩
  | 88 => ⟨S4x2048x4x1024, .f32⟩
  | 89 => ⟨S4x2048x4x1024, .f32⟩
  | 90 => ⟨S_, .f32⟩
  | 91 => ⟨S4x2048x4, .f32⟩
  | 92 => ⟨S4x4x2048, .f32⟩
  | 93 => ⟨S4x2048x4, .f32⟩
  | 94 => ⟨S4x2048x4, .f32⟩
  | 95 => ⟨S4x2048x4, .f32⟩
  | 96 => ⟨S4x2048x4, .f32⟩
  | 97 => ⟨S4x2048x4, .f32⟩
  | 98 => ⟨S4x2048x4, .f32⟩
  | 99 => ⟨S4x2048x4, .f32⟩
  | 100 => ⟨S4x2048x4x1, .f32⟩
  | 101 => ⟨S4x2048x4x1024, .f32⟩
  | 102 => ⟨S4x2048x4x1024, .f32⟩
  | 103 => ⟨S4x1x4, .f32⟩
  | 104 => ⟨S4x4, .f32⟩
  | 105 => ⟨S4x1x4, .f32⟩
  | 106 => ⟨S4x2048x4, .f32⟩
  | 107 => ⟨S4x2048x4, .f32⟩
  | 108 => ⟨S4x2048x4, .f32⟩
  | 109 => ⟨S4x1x4, .f32⟩
  | 110 => ⟨S4x2048x4, .f32⟩
  | 111 => ⟨S4x2048x4, .f32⟩
  | 112 => ⟨S4x2048x4, .f32⟩
  | 113 => ⟨S4x1x4, .f32⟩
  | 114 => ⟨S4x4, .f32⟩
  | 115 => ⟨S4x4, .f32⟩
  | 116 => ⟨S4x4, .f32⟩
  | 117 => ⟨S4x4, .f32⟩
  | 118 => ⟨S4x4x1x1, .f32⟩
  | 119 => ⟨S4x4x1024x1024, .f32⟩
  | 120 => ⟨S4x4x1024x1024, .f32⟩
  | 121 => ⟨S4x2048x4x1, .f32⟩
  | 122 => ⟨S4x2048x4x1024, .f32⟩
  | 123 => ⟨S4x2048x4x1024, .f32⟩
  | 124 => ⟨S4x4x1024x1024, .f32⟩
  | 125 => ⟨S4x4x1024x1024, .f32⟩
  | 126 => ⟨S4x4x1, .f32⟩
  | 127 => ⟨S4x4x1024, .f32⟩
  | _ => ⟨S4x2048x4096, .bf16⟩

abbrev hbmTy0_1 (i : Nat) : BufTy := match i % 128 with
  | 0 => ⟨S4x4x1024, .f32⟩
  | 1 => ⟨S4x4x1024, .f32⟩
  | 2 => ⟨S4x4x1024, .f32⟩
  | 3 => ⟨S_, .f32⟩
  | 4 => ⟨S4x2048x4, .f32⟩
  | 5 => ⟨S4x2048x4x1, .f32⟩
  | 6 => ⟨S_, .f32⟩
  | 7 => ⟨S4x2048x4x1, .f32⟩
  | 8 => ⟨S4x2048x4x1, .f32⟩
  | 9 => ⟨S4x2048x4x1024, .f32⟩
  | 10 => ⟨S4x2048x4x1024, .f32⟩
  | 11 => ⟨S4x2048x4x1024, .f32⟩
  | 12 => ⟨S_, .f32⟩
  | 13 => ⟨S4x2048x4, .f32⟩
  | 14 => ⟨S4x2048x4x1, .f32⟩
  | 15 => ⟨S_, .f32⟩
  | 16 => ⟨S4x2048x4x1, .f32⟩
  | 17 => ⟨S4x2048x4x1, .f32⟩
  | 18 => ⟨S4x2048x4x1024, .f32⟩
  | 19 => ⟨S4x2048x4x1024, .f32⟩
  | 20 => ⟨S_, .f32⟩
  | 21 => ⟨S4x2048x4x1, .f32⟩
  | 22 => ⟨S4x2048x4x1, .f32⟩
  | 23 => ⟨S4x2048x4x1, .f32⟩
  | 24 => ⟨S4x2048x4x1024, .f32⟩
  | 25 => ⟨S4x2048x4x1024, .f32⟩
  | 26 => ⟨S4x2048x4096, .f32⟩
  | 27 => ⟨S1x1x4096, .f32⟩
  | 28 => ⟨S4x2048x4096, .f32⟩
  | 29 => ⟨S4x2048x4096, .f32⟩
  | 30 => ⟨S1x1x4096, .f32⟩
  | 31 => ⟨S4x2048x4096, .f32⟩
  | 32 => ⟨S4x2048x4096, .f32⟩
  | 33 => ⟨S4x2048x4096, .f32⟩
  | 34 => ⟨S4x2048x4096, .f32⟩
  | 35 => ⟨S4x2048x4096, .f32⟩
  | 36 => ⟨S_, .f32⟩
  | 37 => ⟨S4x2048x4096, .f32⟩
  | 38 => ⟨S4x2048x4096, .f32⟩
  | 39 => ⟨S_, .f32⟩
  | 40 => ⟨S4x2048x4096, .f32⟩
  | 41 => ⟨S4x2048x4096, .f32⟩
  | 42 => ⟨S4x2048x4096, .f32⟩
  | 43 => ⟨S4x2048x4096, .f32⟩
  | 44 => ⟨S4x2048x4096, .bf16⟩
  | 45 => ⟨S4x4x1024x1, .f32⟩
  | 46 => ⟨S_, .i32⟩
  | 47 => ⟨S_, .f32⟩
  | 48 => ⟨S4x4x1024x128, .f32⟩
  | 49 => ⟨S4x4x1x1, .f32⟩
  | 50 => ⟨S4x4x1x128, .f32⟩
  | _ => ⟨S4x2048x4096, .bf16⟩

abbrev hbmTy (i : Nat) : BufTy := match i / 128 with
  | 0 => hbmTy0_0 i
  | 1 => hbmTy0_1 i
  | _ => ⟨S4x2048x4096, .bf16⟩

abbrev bufTy : (tb : Table) → Fin (tcTables nBuf tb) → BufTy
  | .hbm, ⟨i, _⟩ => hbmTy i
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_call1_v0 : Ref sig .tc := ⟨.hbm, 41, rfl⟩
abbrev main_call1_c : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_0 : Ref sig .tc := ⟨.hbm, 47, rfl⟩
abbrev main_call1_v5 : Ref sig .tc := ⟨.hbm, 48, rfl⟩
abbrev main_v12 : Ref sig .tc := ⟨.hbm, 49, rfl⟩
abbrev main_call2_call0_cst : Ref sig .tc := ⟨.hbm, 50, rfl⟩
abbrev main_call2_call0_v0 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_0 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_1 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_2 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_3 : Ref sig .tc := ⟨.hbm, 131, rfl⟩
abbrev main_v86 : Ref sig .tc := ⟨.hbm, 132, rfl⟩
abbrev main_v87 : Ref sig .tc := ⟨.hbm, 133, rfl⟩
abbrev main_cst_4 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_cst_5 : Ref sig .tc := ⟨.hbm, 140, rfl⟩
abbrev main_v93 : Ref sig .tc := ⟨.hbm, 141, rfl⟩
abbrev main_v94 : Ref sig .tc := ⟨.hbm, 142, rfl⟩
abbrev main_cst_6 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_7 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_call4_v0 : Ref sig .tc := ⟨.hbm, 162, rfl⟩
abbrev main_call4_v1 : Ref sig .tc := ⟨.hbm, 163, rfl⟩
abbrev main_call4_cst : Ref sig .tc := ⟨.hbm, 164, rfl⟩
abbrev main_call4_v2 : Ref sig .tc := ⟨.hbm, 165, rfl⟩
abbrev main_call4_v3 : Ref sig .tc := ⟨.hbm, 166, rfl⟩
abbrev main_call4_cst_0 : Ref sig .tc := ⟨.hbm, 167, rfl⟩
abbrev main_call4_v4 : Ref sig .tc := ⟨.hbm, 168, rfl⟩
abbrev main_call4_v5 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_c_8 : Ref sig .tc := ⟨.hbm, 174, rfl⟩
abbrev main_call5_v0 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩

abbrev nD : Nat := 1
abbrev τ : Topo := Topo.v7x

variable {F : FTy → Type} [FloatOps F]
-- ==== Proof.Chunk.lean ====
/- The mathematics of the chunked scan, with no program in it: decays summed inside a chunk, and the state carried from
   chunk to chunk. The carried state is a linear recurrence; unrolled, it is the sum of everything that came in, each
   entry weighted by the decays after it. -/
module

public import Idealize.ShloMosaic.Lib.Pointwise

@[expose] public section

set_option maxRecDepth 16384

noncomputable section

namespace Cert.Chunk

open Idealize.ShloMosaic

/-- A number that is neither infinity. -/
def Fin' (x : EReal) : Prop := ∃ r : ℝ, x = (r : EReal)

theorem Fin'.add {x y : EReal} (hx : Fin' x) (hy : Fin' y) : Fin' (x + y) := by
  obtain ⟨a, rfl⟩ := hx; obtain ⟨b, rfl⟩ := hy; exact ⟨a + b, by push_cast; rfl⟩
theorem Fin'.mul {x y : EReal} (hx : Fin' x) (hy : Fin' y) : Fin' (x * y) := by
  obtain ⟨a, rfl⟩ := hx; obtain ⟨b, rfl⟩ := hy; exact ⟨a * b, by push_cast; rfl⟩
theorem Fin'.zero : Fin' 0 := ⟨0, rfl⟩
theorem Fin'.ite {p : Prop} [Decidable p] {x y : EReal} (hx : Fin' x) (hy : Fin' y) : Fin' (if p then x else y) := by
  split <;> assumption
theorem Fin'.sum {ι : Type} (s : Finset ι) (f : ι → EReal) (h : ∀ i, Fin' (f i)) : Fin' (∑ i ∈ s, f i) := by
  classical
  induction s using Finset.induction_on with
  | empty => exact ⟨0, by simp⟩
  | insert a s ha ih => rw [Finset.sum_insert ha]; exact (h a).add ih
theorem Fin'.sub_self {x : EReal} (hx : Fin' x) : x - x = 0 := by
  obtain ⟨a, rfl⟩ := hx; rw [← EReal.coe_sub, _root_.sub_self]; rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite factor goes inside a sum. -/
theorem mul_sum_of_nonneg {ι : Type} (s : Finset ι) (e : ℝ) (he : 0 ≤ e) (f : ι → EReal) :
    (e : EReal) * ∑ i ∈ s, f i = ∑ i ∈ s, (e : EReal) * f i := by
  classical
  induction s using Finset.induction_on with
  | empty => simp
  | insert a s ha ih =>
    rw [Finset.sum_insert ha, Finset.sum_insert ha,
      EReal.left_distrib_of_nonneg_of_ne_top (EReal.coe_nonneg.mpr he) (EReal.coe_ne_top e), ih]

/-- The decays of a line of `n` summed up to position `l`. -/
def acs {n : ℕ} (a : Fin n → EReal) (l : Fin n) : EReal := ∑ k : Fin n, if k.val ≤ l.val then a k else 0

/-- The decays strictly after `s`, up to `l`; nothing reaches `s` from before it. -/
def seg {n : ℕ} (a : Fin n → EReal) (l s : Fin n) : EReal :=
  if s.val ≤ l.val then ∑ k : Fin n, if k.val ≤ l.val then (if s.val < k.val then a k else 0) else 0 else ⊥

theorem acs_fin {n : ℕ} {a : Fin n → EReal} (ha : ∀ k, Fin' (a k)) (l : Fin n) : Fin' (acs a l) :=
  Fin'.sum _ _ fun k => (ha k).ite Fin'.zero

/-- For finite decays the segment sum is the difference of the two running sums. -/
theorem seg_eq {n : ℕ} {a : Fin n → EReal} (ha : ∀ k, Fin' (a k)) (l s : Fin n) :
    seg a l s = if s.val ≤ l.val then acs a l - acs a s else ⊥ := by
  choose r hr using ha
  obtain rfl : a = fun k => (r k : EReal) := funext hr
  unfold seg
  split
  · next h =>
    have z : ∀ (p : Prop) [Decidable p] (x : ℝ), (if p then (x : EReal) else 0) = ((if p then x else 0 : ℝ) : EReal) := by
      intro p _ x; split <;> rfl
    unfold acs
    simp only [z]
    rw [← coe_sum, ← coe_sum, ← coe_sum, ← EReal.coe_sub, ← Finset.sum_sub_distrib]
    congr 1
    refine Finset.sum_congr rfl fun k _ => ?_
    by_cases h1 : k.val ≤ l.val <;> by_cases h2 : s.val < k.val
    · have h3 : ¬ k.val ≤ s.val := by omega
      simp only [h1, h2, h3, if_true, if_false, sub_zero]
    · have h3 : k.val ≤ s.val := by omega
      simp only [h1, h2, h3, if_true, if_false, sub_self]
    · have h3 : ¬ k.val ≤ s.val := by omega
      simp only [h1, h2, h3, if_true, if_false, sub_zero]
    · omega
  · rfl

/-- The state before chunk `z`: it starts at `h` and each chunk decays it by `exp (T c)` and adds `S c`. -/
def state (T S : ℕ → EReal) (h : EReal) : ℕ → EReal
  | 0 => h
  | c + 1 => Ideal.exp (T c) * state T S h c + S c

/-- The total decays of the chunks, with a zero in front. -/
def padT (T : ℕ → EReal) (k : Fin 9) : EReal := if k.val = 0 then 0 else T (k.val - 1)

/-- What enters the recurrence: the initial state, then each chunk's own. -/
def entering (S : ℕ → EReal) (h : EReal) (k : Fin 9) : EReal := if k.val = 0 then h else S (k.val - 1)

theorem state_eq {T S : ℕ → EReal} (h : EReal) (hT : ∀ c, Fin' (T c)) (z : Fin 9) :
    state T S h z.val = ∑ k : Fin 9, Ideal.exp (seg (padT T) z k) * entering S h k := by
  have hp : ∀ k, Fin' (padT T k) := fun k => Fin'.ite Fin'.zero (hT _)
  obtain ⟨z, hz⟩ := z
  induction z with
  | zero =>
    have e : ∀ k : Fin 9, Ideal.exp (seg (padT T) ⟨0, hz⟩ k) * entering S h k = if k = 0 then h else 0 := by
      intro k
      rcases Nat.eq_zero_or_pos k.val with h0 | h0
      · obtain rfl : k = 0 := Fin.ext h0
        rw [seg_eq hp, if_pos (show (0 : Fin 9).val ≤ (⟨0, hz⟩ : Fin 9).val from le_refl _), if_pos rfl, show acs (padT T) ⟨0, hz⟩ - acs (padT T) 0 = 0 from (acs_fin hp 0).sub_self]
        show Ideal.exp ((0 : ℝ) : EReal) * h = h
        rw [Ideal.exp_coe, Real.exp_zero, EReal.coe_one, one_mul]
      · rw [seg, if_neg (by show ¬ k.val ≤ 0; omega), Ideal.exp_bot, zero_mul, if_neg]
        rintro rfl; exact absurd h0 (by decide)
    rw [Finset.sum_congr rfl fun k _ => e k]
    simp [state]
  | succ z ih =>
    have hz' : z < 9 := by omega
    obtain ⟨t, ht⟩ := hT z
    show Ideal.exp (T z) * state T S h z + S z = _
    rw [ih hz', ht, Ideal.exp_coe, mul_sum_of_nonneg _ _ (Real.exp_pos t).le]
    have e : ∀ k : Fin 9, Ideal.exp (seg (padT T) ⟨z + 1, hz⟩ k) * entering S h k
        = (Real.exp t : EReal) * (Ideal.exp (seg (padT T) ⟨z, hz'⟩ k) * entering S h k)
          + if k = ⟨z + 1, hz⟩ then S z else 0 := by
      intro k
      rcases Nat.lt_trichotomy k.val (z + 1) with hk | hk | hk
      · rw [if_neg (fun e => by rw [e] at hk; exact lt_irrefl _ hk), add_zero, ← mul_assoc]
        congr 1
        rw [seg_eq hp, seg_eq hp, if_pos (show k.val ≤ z + 1 by omega), if_pos (show k.val ≤ z by omega)]
        have step : acs (padT T) ⟨z + 1, hz⟩ = acs (padT T) ⟨z, hz'⟩ + T z := by
          unfold acs
          have : ∀ k : Fin 9, (if k.val ≤ z + 1 then padT T k else 0)
              = (if k.val ≤ z then padT T k else 0) + if k = ⟨z + 1, hz⟩ then T z else 0 := by
            intro k
            rcases Nat.lt_trichotomy k.val (z + 1) with hk | hk | hk
            · rw [if_pos (by omega), if_pos (by omega), if_neg (fun e => by rw [e] at hk; exact lt_irrefl _ hk), add_zero]
            · rw [if_pos (by omega), if_neg (by omega), if_pos (Fin.ext hk), zero_add, padT, if_neg (by omega), hk]; rfl
            · rw [if_neg (by omega), if_neg (by omega), if_neg (fun e => by rw [e] at hk; exact lt_irrefl _ hk), add_zero]
          show (∑ k : Fin 9, if k.val ≤ z + 1 then padT T k else 0) = (∑ k : Fin 9, if k.val ≤ z then padT T k else 0) + T z
          rw [Finset.sum_congr rfl fun k _ => this k, Finset.sum_add_distrib]
          simp
        obtain ⟨u, hu⟩ := acs_fin hp ⟨z, hz'⟩
        obtain ⟨v, hv⟩ := acs_fin hp k
        rw [step, hu, hv, ht, ← EReal.coe_add, ← EReal.coe_sub, ← EReal.coe_sub, Ideal.exp_coe, Ideal.exp_coe,
          ← EReal.coe_mul, ← Real.exp_add]
        congr 2; ring
      · obtain rfl : k = ⟨z + 1, hz⟩ := Fin.ext hk
        rw [if_pos rfl, seg_eq hp, if_pos (le_refl _), (acs_fin hp _).sub_self, seg, if_neg (by show ¬ z + 1 ≤ z; omega),
          Ideal.exp_bot, zero_mul, mul_zero, zero_add]
        show Ideal.exp ((0 : ℝ) : EReal) * (if z + 1 = 0 then h else S (z + 1 - 1)) = S z
        rw [Ideal.exp_coe, Real.exp_zero, EReal.coe_one, one_mul, if_neg (by omega)]; rfl
      · rw [if_neg (fun e => by rw [e] at hk; exact lt_irrefl _ hk), add_zero, seg, seg, if_neg (by show ¬ k.val ≤ z + 1; omega),
          if_neg (by show ¬ k.val ≤ z; omega), Ideal.exp_bot, zero_mul, mul_zero]
    rw [Finset.sum_congr rfl fun k _ => e k, Finset.sum_add_distrib]
    simp

end Cert.Chunk

end
-- ==== Proof.Spec.lean ====
/- What the scan computes, from plain functions of the arguments: the steps and decays, the carried state, the output. -/
module

public import proofs.«01_k».proof.Proof.Chunk

@[expose] public section

set_option maxRecDepth 16384

noncomputable section

namespace Cert.Scan

open Idealize.ShloMosaic Cert.Chunk

/-- The softplus both programs are written with. -/
def softplus (u : EReal) : EReal := max u 0 + Ideal.log1p (Ideal.exp (-(FloatOps.absf (F := Ideal) (φ := .f32) u)))

theorem softplus_fin {u : EReal} (h : Fin' u) : Fin' (softplus u) := by
  obtain ⟨r, rfl⟩ := h
  have e : Ideal.log1p (Ideal.exp (-(FloatOps.absf (F := Ideal) (φ := .f32) (r : EReal)))) = ((Real.log (1 + Real.exp (-|r|)) : ℝ) : EReal) := by
    have a : (FloatOps.absf (F := Ideal) (φ := .f32) (r : EReal) : EReal) = ((|r| : ℝ) : EReal) := by
      show max (r : EReal) (-(r : EReal)) = _
      rw [abs_eq_max_neg, ← EReal.coe_neg]
      exact (EReal.coe_strictMono.monotone.map_max).symm
    rw [a, ← EReal.coe_neg, Ideal.exp_coe, Ideal.log1p, ← EReal.coe_one, ← EReal.coe_add]
    show (if (1 + Real.exp (-|r|) : ℝ) ≤ 0 then ⊥ else ((Real.log (1 + Real.exp (-|r|)) : ℝ) : EReal)) = _
    rw [if_neg (not_le.mpr (by positivity))]
  unfold softplus
  rw [e]
  refine Fin'.add ⟨max r 0, ?_⟩ ⟨_, rfl⟩
  rw [← EReal.coe_zero]
  exact (EReal.coe_strictMono.monotone.map_max).symm

/-- The arguments as plain functions of their coordinates. -/
structure Args where
  zx : Fin 4 → Fin 2048 → Fin 10304 → EReal
  xbc : Fin 4 → Fin 2048 → Fin 6144 → EReal
  dtb : Fin 64 → EReal
  alog : Fin 64 → EReal
  skip : Fin 64 → EReal
  gain : Fin 4096 → EReal
  h0 : Fin 4 → Fin 64 → Fin 64 → Fin 128 → EReal

/-- Position `l` of chunk `k`. -/
abbrev pos (k : Fin 8) (l : Fin 256) : Fin 2048 := ⟨k.val * 256 + l.val, by omega⟩
/-- Head `r` of group `g`. -/
abbrev head (g r : Fin 8) : Fin 64 := ⟨g.val * 8 + r.val, by omega⟩
/-- Lane `w` of group `g`. -/
abbrev lane (g : Fin 8) (w : Fin 512) : Fin 4096 := ⟨g.val * 512 + w.val, by omega⟩
/-- The head of a lane inside its group, and the lane's place in the head. -/
def hd (w : Fin 512) : Fin 8 := ⟨w.val / 64, by omega⟩
def pl (w : Fin 512) : Fin 64 := ⟨w.val % 64, by omega⟩

variable (A : Args)

/-- Steps and decays are finite where what they are computed from is. -/
def Args.Ok : Prop := (∀ b t (h : Fin 64), Fin' (A.zx b t ⟨10240 + h.val, by omega⟩)) ∧ (∀ h, Fin' (A.dtb h)) ∧ ∀ h, Fin' (A.alog h)

def dt (b : Fin 4) (t : Fin 2048) (h : Fin 64) : EReal := softplus (A.zx b t ⟨10240 + h.val, by omega⟩ + A.dtb h)
def da (b : Fin 4) (k : Fin 8) (h : Fin 64) (l : Fin 256) : EReal := dt A b (pos k l) h * -(Ideal.exp (A.alog h))

theorem dt_fin (hA : A.Ok) (b : Fin 4) (t : Fin 2048) (h : Fin 64) : Fin' (dt A b t h) := softplus_fin ((hA.1 b t h).add (hA.2.1 h))
theorem da_fin (hA : A.Ok) (b : Fin 4) (k : Fin 8) (h : Fin 64) (l : Fin 256) : Fin' (da A b k h l) := by
  refine (dt_fin A hA b _ h).mul ?_
  obtain ⟨r, hr⟩ := hA.2.2 h
  exact ⟨-Real.exp r, by rw [hr, Ideal.exp_coe, EReal.coe_neg]⟩

/-- The x, B and C parts of the convolved projection, and the gate. -/
def xv (b : Fin 4) (t : Fin 2048) (g : Fin 8) (w : Fin 512) : EReal := A.xbc b t ⟨g.val * 512 + w.val, by omega⟩
def bv (b : Fin 4) (t : Fin 2048) (g : Fin 8) (n : Fin 128) : EReal := A.xbc b t ⟨4096 + (g.val * 128 + n.val), by omega⟩
def cv (b : Fin 4) (t : Fin 2048) (g : Fin 8) (n : Fin 128) : EReal := A.xbc b t ⟨5120 + (g.val * 128 + n.val), by omega⟩
def zv (b : Fin 4) (t : Fin 2048) (g : Fin 8) (w : Fin 512) : EReal := A.zx b t ⟨g.val * 512 + w.val, by omega⟩

/-- A chunk's total decay, and what the chunk adds to the state. -/
def tot (b : Fin 4) (h : Fin 64) (k : ℕ) : EReal := if hk : k < 8 then acs (da A b ⟨k, hk⟩ h) 255 else 0
def inn (b : Fin 4) (g : Fin 8) (n : Fin 128) (w : Fin 512) (k : ℕ) : EReal :=
  if hk : k < 8 then ∑ l : Fin 256, bv A b (pos ⟨k, hk⟩ l) g n * (xv A b (pos ⟨k, hk⟩ l) g w
    * (Ideal.exp (acs (da A b ⟨k, hk⟩ (head g (hd w))) 255 - acs (da A b ⟨k, hk⟩ (head g (hd w))) l) * dt A b (pos ⟨k, hk⟩ l) (head g (hd w))))
  else 0

theorem tot_fin (hA : A.Ok) (b : Fin 4) (h : Fin 64) (k : ℕ) : Fin' (tot A b h k) := by
  unfold tot
  split
  · exact acs_fin (da_fin A hA b _ h) _
  · exact Fin'.zero

/-- The state before chunk `k`. -/
def st (b : Fin 4) (g : Fin 8) (n : Fin 128) (w : Fin 512) : ℕ → EReal :=
  state (tot A b (head g (hd w))) (inn A b g n w) (A.h0 b (head g (hd w)) (pl w) n)

/-- The output before its normalization. -/
def yv (b : Fin 4) (k : Fin 8) (l : Fin 256) (g : Fin 8) (w : Fin 512) : EReal :=
  ((∑ s : Fin 256, (∑ n : Fin 128, cv A b (pos k l) g n * bv A b (pos k s) g n)
        * Ideal.exp (seg (da A b k (head g (hd w))) l s) * dt A b (pos k s) (head g (hd w)) * xv A b (pos k s) g w)
      + (∑ n : Fin 128, cv A b (pos k l) g n * st A b g n w k.val) * Ideal.exp (acs (da A b k (head g (hd w))) l)
      + A.skip (head g (hd w)) * xv A b (pos k l) g w)
    * (zv A b (pos k l) g w * Ideal.logistic (zv A b (pos k l) g w))

/-- A group's root mean square norm of one row, times the weight. -/
def rms (u : Fin 512 → EReal) (g : EReal) (w : Fin 512) : EReal :=
  u w * Ideal.rsqrt (Ideal.div (∑ x : Fin 512, u x * u x) (Ideal.ofBits FTy.f32 1140850688#32) + Ideal.ofBits FTy.f32 925353388#32) * g

/-- The output at a position and a lane of the whole array. -/
def outAt (A : Args) (b : Fin 4) (t : Fin 2048) (j : Fin 4096) : EReal :=
  rms (yv A b ⟨t.val / 256, by omega⟩ ⟨t.val % 256, by omega⟩ ⟨j.val / 512, by omega⟩) (A.gain j) ⟨j.val % 512, by omega⟩

theorem outAt_eq (A : Args) (b : Fin 4) (k g : Fin 8) (l : Fin 256) (w : Fin 512) :
    outAt A b (pos k l) (lane g w) = rms (yv A b k l g) (A.gain (lane g w)) w := by
  have e1 : (⟨(k.val * 256 + l.val) / 256, by omega⟩ : Fin 8) = k := Fin.ext (by show (k.val * 256 + l.val) / 256 = k.val; omega)
  have e2 : (⟨(k.val * 256 + l.val) % 256, by omega⟩ : Fin 256) = l := Fin.ext (by show (k.val * 256 + l.val) % 256 = l.val; omega)
  have e3 : (⟨(g.val * 512 + w.val) / 512, by omega⟩ : Fin 8) = g := Fin.ext (by show (g.val * 512 + w.val) / 512 = g.val; omega)
  have e4 : (⟨(g.val * 512 + w.val) % 512, by omega⟩ : Fin 512) = w := Fin.ext (by show (g.val * 512 + w.val) % 512 = w.val; omega)
  unfold outAt
  show rms (yv A b ⟨(k.val * 256 + l.val) / 256, _⟩ ⟨(k.val * 256 + l.val) % 256, _⟩ ⟨(g.val * 512 + w.val) / 512, _⟩) _ ⟨(g.val * 512 + w.val) % 512, _⟩ = _
  rw [e1, e2, e3, e4]

end Cert.Scan

end
-- ==== Proof.Body.lean ====
/- The body of the scan's launch, read at an index: what one grid point leaves in the carried state and in its two
   outputs, as functions of the point's blocks. -/
module

public import proofs.«01_k».proof.Proof.Gen.KernelIdeal.Value
public import proofs.«01_k».proof.Proof.Spec
public import Idealize.ShloMosaic.Lib.Pipeline.ValueKit
public import Idealize.ShloMosaic.Lib.Pointwise
public import Idealize.ShloMosaic.Lib.WordCmp
public import Idealize.ShloMosaic.Lib.Pipeline.ReadBack

@[expose] public section

set_option maxRecDepth 16384
set_option maxHeartbeats 1000000
noncomputable section

open Idealize.ShloMosaic Idealize.ShloMosaic.TcCoe Idealize.SL.Sem
open Idealize.ShloMosaic.Pipeline (Dat)

namespace Cert.KernelIdeal.Value

open Cert.KernelIdeal Cert.KernelIdeal.Gen

section Payloads
variable {F : FTy → Type} [FloatOps F]

/-- The running decay of each of the eight heads, spread over the head's 64 lanes, as the body forms it. -/
def lanes (col : Vec F S1x1x256x16 .f32) : FVec F S256x512 .f32 := k0_pay16 k0_pay10 (k0_pay14 col) (k0_pay15 col)

/-- The state a point leaves, from its blocks and the state it starts with. -/
def stepV (x : Vec F S1x256x512 .f32) (bm : Vec F S1x1x128x256 .bf16) (col : Vec F S1x1x256x16 .f32) (S : Vec F S128x512 .f32) :
    FVec F S128x512 .f32 :=
  k0_pay39 (k0_pay4 x) (k0_pay7 bm) (k0_pay31 (lanes col)) (k0_pay32 (lanes col)) k0_pay34 (k0_pay36 (k0_pay8 col))
    (k0_pay37 (k0_pay8 col)) (k0_pay38 (k0_pay8 col)) S

/-- One row of the row pack. -/
abbrev rowAt (row : Vec F S1x1x1x16x256 .f32) (k : ℕ) (h : ∀ a, (![0, 0, 0, k, 0] : Fin 5 → ℕ) a + (![1, 1, 1, 1, 256] : Fin 5 → ℕ) a ≤ S1x1x1x16x256.size a) :=
  View.ld row (Rect.unit (s := S1x1x1x16x256) ![0, 0, 0, k, 0] ![1, 1, 1, 1, 256] h)

/-- The part of the output that stays inside the chunk, head by head. -/
def diagV (x : Vec F S1x256x512 .f32) (cB : Vec F S1x256x128 .f32) (bm : Vec F S1x1x128x256 .bf16)
    (col : Vec F S1x1x256x16 .f32) (row : Vec F S1x1x1x16x256 .f32) : FVec F S256x512 .f32 :=
  k0_pay30 (k0_pay5 x) (k0_pay17 (k0_pay6 cB) (k0_pay7 bm)) k0_pay18 k0_pay19
    (k0_pay28 (k0_pay5 x) (k0_pay8 col) (k0_pay17 (k0_pay6 cB) (k0_pay7 bm)) k0_pay18 k0_pay19
      (k0_pay26 (k0_pay5 x) (k0_pay8 col) (k0_pay17 (k0_pay6 cB) (k0_pay7 bm)) k0_pay18 k0_pay19
        (k0_pay23 (k0_pay5 x) (k0_pay8 col) (k0_pay17 (k0_pay6 cB) (k0_pay7 bm)) k0_pay18 k0_pay19
          (k0_pay20 (k0_pay5 x) (k0_pay6 cB) (k0_pay7 bm) (k0_pay8 col)
            (rowAt row 0 inb_S1x1x1x16x256_S1x1x1x1x256_0_0_0_0_0) (rowAt row 8 inb_S1x1x1x16x256_S1x1x1x1x256_0_0_0_8_0))
          (k0_pay21 (k0_pay8 col)) (k0_pay22 (rowAt row 1 inb_S1x1x1x16x256_S1x1x1x1x256_0_0_0_1_0))
          (rowAt row 9 inb_S1x1x1x16x256_S1x1x1x1x256_0_0_0_9_0) (rowAt row 2 inb_S1x1x1x16x256_S1x1x1x1x256_0_0_0_2_0)
          (rowAt row 10 inb_S1x1x1x16x256_S1x1x1x1x256_0_0_0_10_0))
        (k0_pay24 (k0_pay8 col)) (k0_pay25 (rowAt row 3 inb_S1x1x1x16x256_S1x1x1x1x256_0_0_0_3_0))
        (rowAt row 11 inb_S1x1x1x16x256_S1x1x1x1x256_0_0_0_11_0) (rowAt row 4 inb_S1x1x1x16x256_S1x1x1x1x256_0_0_0_4_0)
        (rowAt row 12 inb_S1x1x1x16x256_S1x1x1x1x256_0_0_0_12_0))
      (k0_pay27 (k0_pay8 col)) (rowAt row 5 inb_S1x1x1x16x256_S1x1x1x1x256_0_0_0_5_0)
      (rowAt row 13 inb_S1x1x1x16x256_S1x1x1x1x256_0_0_0_13_0) (rowAt row 6 inb_S1x1x1x16x256_S1x1x1x1x256_0_0_0_6_0)
      (rowAt row 14 inb_S1x1x1x16x256_S1x1x1x1x256_0_0_0_14_0))
    (k0_pay29 (k0_pay8 col)) (rowAt row 7 inb_S1x1x1x16x256_S1x1x1x1x256_0_0_0_7_0)
    (rowAt row 15 inb_S1x1x1x16x256_S1x1x1x1x256_0_0_0_15_0)

/-- What a point stores to the output, from its blocks and the state it starts with. -/
def outV (x z : Vec F S1x256x512 .f32) (cB : Vec F S1x256x128 .f32) (bm : Vec F S1x1x128x256 .bf16)
    (col : Vec F S1x1x256x16 .f32) (row : Vec F S1x1x1x16x256 .f32) (S : Vec F S128x512 .f32) (d g : Vec F S1x512 .f32) :
    FVec F S1x256x512 .f32 :=
  k0_pay1 (k0_pay40 (k0_pay4 x) (k0_pay6 cB) (lanes col) (diagV x cB bm col row) S d z) g

end Payloads

section Points
variable {F : FTy → Type} [FloatOps F]
variable (m : (ℓ : Loc nD τ sig) → Buf (Elt F) ℓ)

/-- The state the point before `t` left. -/
abbrev prevS (c : Dev nD) (t : Fin cfg0.N) : Vec F S128x512 .f32 :=
  (outsAt0 m c (t.val - 1) (Nat.lt_of_le_of_lt (Nat.sub_le _ _) t.isLt)).2.2

/-- A sequence's first point starts from the initial state. -/
theorem state_first (c : Dev nD) (t : Fin cfg0.N) (h0 : t.val % 8 = 0) :
    (outsAt0 m c t.val t.isLt).2.2 = stepV (iblk m c 0 t) (iblk m c 3 t) (iblk m c 4 t) (k0_pay3 (iblk m c 6 t)) := by
  rw [outsAt0_A m c t h0 (by omega)]
  dsimp only
  frame_out
  rfl

/-- Every other point starts from what the point before left. -/
theorem state_next (c : Dev nD) (t : Fin cfg0.N) (h0 : ¬t.val % 8 = 0) :
    (outsAt0 m c t.val t.isLt).2.2 = stepV (iblk m c 0 t) (iblk m c 3 t) (iblk m c 4 t) (prevS m c t) := by
  by_cases h1 : t.val % 8 = 7
  · rw [outsAt0_C m c t h0 h1]
    dsimp only
    frame_out
    simp only [read_unread_whole]
    rfl
  · rw [outsAt0_B m c t h0 h1]
    dsimp only
    frame_out
    simp only [read_unread_whole]
    rfl

/-- The last point of a sequence stores the state it leaves. -/
theorem state_out (c : Dev nD) (t : Fin cfg0.N) (h1 : t.val % 8 = 7) :
    (outsAt0 m c t.val t.isLt).2.1 = k0_pay2 (outsAt0 m c t.val t.isLt).2.2 := by
  rw [state_next m c t (by omega), outsAt0_C m c t (by omega) h1]
  dsimp only
  frame_out
  simp only [read_unread_whole]
  rfl

theorem out_first (c : Dev nD) (t : Fin cfg0.N) (h0 : t.val % 8 = 0) :
    (outsAt0 m c t.val t.isLt).1 = outV (iblk m c 0 t) (X0_1 m c t) (iblk m c 2 t) (iblk m c 3 t) (iblk m c 4 t) (iblk m c 5 t)
      (k0_pay3 (iblk m c 6 t)) (iblk m c 7 t) (iblk m c 8 t) := by
  rw [outsAt0_A m c t h0 (by omega)]
  dsimp only
  frame_out
  rfl

theorem out_next (c : Dev nD) (t : Fin cfg0.N) (h0 : ¬t.val % 8 = 0) :
    (outsAt0 m c t.val t.isLt).1 = outV (iblk m c 0 t) (X0_1 m c t) (iblk m c 2 t) (iblk m c 3 t) (iblk m c 4 t) (iblk m c 5 t)
      (prevS m c t) (iblk m c 7 t) (iblk m c 8 t) := by
  by_cases h1 : t.val % 8 = 7
  · rw [outsAt0_C m c t h0 h1]
    dsimp only
    frame_out
    simp only [read_unread_whole]
    rfl
  · rw [outsAt0_B m c t h0 h1]
    dsimp only
    frame_out
    simp only [read_unread_whole]
    rfl

end Points

/-! ## The payloads at an index, over the extended reals -/

open Cert.Scan (hd rms)

theorem shr6 : ∀ w : Fin 512, IntOp.shrsi ArithUnit.vector (BitVec.ofNat 32 w.val) 6#32 = BitVec.ofNat 32 (w.val / 64) := by
  decide +kernel

theorem sel_head {α : Type} (w : Fin 512) (k : ℕ) (hk : k < 8) (a b : α) :
    Scalar.select (IntOp.cmpi CmpIPredicate.eq (IntOp.shrsi ArithUnit.vector (BitVec.ofNat 32 w.val) 6#32) (BitVec.ofNat 32 k)) a b
      = if w.val / 64 = k then a else b := by
  rw [shr6, WordCmp.cmpi_eq_ofNat (by omega) (by omega), WordCmp.select_ofBool]
  simp

theorem sel_causal {α : Type} (l s : Fin 256) (a b : α) :
    Scalar.select (IntOp.cmpi CmpIPredicate.sge (BitVec.ofNat 32 l.val) (BitVec.ofNat 32 s.val)) a b
      = if s.val ≤ l.val then a else b := by
  rw [WordCmp.cmpi_sge_ofNat (by omega) (by omega), WordCmp.select_ofBool]
  simp

theorem sum_head (w : Fin 512) (f : Fin 8 → EReal) :
    (∑ k : Fin 8, Scalar.select (IntOp.cmpi CmpIPredicate.eq (IntOp.shrsi ArithUnit.vector (BitVec.ofNat 32 w.val) 6#32) (BitVec.ofNat 32 k.val)) (f k) 0)
      = f (hd w) := by
  simp only [sel_head w _ (Fin.isLt _)]
  rw [Finset.sum_eq_single (hd w)]
  · exact if_pos rfl
  · intro k _ hk
    rw [if_neg]
    intro e
    exact hk (Fin.ext e.symm)
  · intro h; exact absurd (Finset.mem_univ _) h

theorem negInf : (Ideal.ofBits FTy.f32 4286578688#32 : EReal) = ⊥ := by
  simp [Ideal.ofBits, Ideal.ieee]

/-- Column `r` of the column pack at row `l`: the running decay for `r < 8`, the step for `8 + r`. -/
abbrev colA (col : Vec Ideal S1x1x256x16 .f32) (l : Fin 256) (r : Fin 8) : EReal := col (ix4 0 0 l ⟨r.val, by omega⟩)
abbrev colD (col : Vec Ideal S1x1x256x16 .f32) (l : Fin 256) (r : Fin 8) : EReal := col (ix4 0 0 l ⟨8 + r.val, by omega⟩)
abbrev rowA (row : Vec Ideal S1x1x1x16x256 .f32) (r : Fin 8) (l : Fin 256) : EReal := row (ix5 0 0 0 ⟨r.val, by omega⟩ l)
abbrev rowD (row : Vec Ideal S1x1x1x16x256 .f32) (r : Fin 8) (l : Fin 256) : EReal := row (ix5 0 0 0 ⟨8 + r.val, by omega⟩ l)

open Cert.Chunk

theorem lanes_apply (col : Vec Ideal S1x1x256x16 .f32) (hA : ∀ l r, Fin' (colA col l r)) (l : Fin 256) (w : Fin 512) :
    lanes col (ix2 l w) = colA col l (hd w) := by
  pointwise [lanes, k0_pay16, k0_pay10, k0_pay14, k0_pay15, k0_pay13, k0_pay12, k0_pay11, k0_pay9, k0_pay8]
  rw [sum_head w (fun k => colA col l k), sum_head w (fun k => colA col l k - colA col l k),
    sum_head w (fun k => colA col l k - colA col l k - (colA col l k - colA col l k))]
  simp only [(hA _ _).sub_self, sub_zero, add_zero]

theorem step_apply (x : Vec Ideal S1x256x512 .f32) (bm : Vec Ideal S1x1x128x256 .bf16) (col : Vec Ideal S1x1x256x16 .f32) (S : Vec Ideal S128x512 .f32)
     (hA : ∀ l r, Fin' (colA col l r)) (hD : ∀ l r, Fin' (colD col l r)) (n : Fin 128) (w : Fin 512) :
    stepV x bm col S (ix2 n w) = Ideal.exp (colA col 255 (hd w)) * S (ix2 n w)
      + ∑ l : Fin 256, bm (ix4 0 0 n l) * (x (ix3 0 l w) * (Ideal.exp (colA col 255 (hd w) - colA col l (hd w)) * colD col l (hd w))) := by
  pointwise [stepV, k0_pay39, k0_pay31, k0_pay32, k0_pay34, k0_pay36, k0_pay37, k0_pay38, k0_pay35, k0_pay33, k0_pay8, k0_pay4, k0_pay7]
  refine congrArg₂ (· + ·) (by rw [lanes_apply col hA]) (Finset.sum_congr rfl fun l _ => ?_)
  rw [lanes_apply col hA, lanes_apply col hA, sum_head w (fun k => colD col l k), sum_head w (fun k => colD col l k - colD col l k),
    sum_head w (fun k => colD col l k - colD col l k - (colD col l k - colD col l k))]
  simp only [(hD _ _).sub_self, sub_zero, add_zero]

theorem diag_apply (x : Vec Ideal S1x256x512 .f32) (cB : Vec Ideal S1x256x128 .f32) (bm : Vec Ideal S1x1x128x256 .bf16)
    (col : Vec Ideal S1x1x256x16 .f32) (row : Vec Ideal S1x1x1x16x256 .f32) (l : Fin 256) (w : Fin 512) :
    diagV x cB bm col row (ix2 l w) = ∑ s : Fin 256,
      (∑ n : Fin 128, cB (ix3 0 l n) * bm (ix4 0 0 n s))
          * Ideal.exp (if s.val ≤ l.val then colA col l (hd w) - rowA row (hd w) s else ⊥) * rowD row (hd w) s * x (ix3 0 s w) := by
  pointwise [diagV, rowAt, k0_pay4, k0_pay30, k0_pay28, k0_pay26, k0_pay23, k0_pay20, k0_pay21, k0_pay22, k0_pay24, k0_pay25, k0_pay27, k0_pay29, k0_pay5, k0_pay6, k0_pay7, k0_pay8, k0_pay17, k0_pay18, k0_pay19]
  simp only [show (0#32 : BitVec 32) = BitVec.ofNat 32 0 from rfl, sel_causal, negInf,
    sel_head w 0 (by omega), sel_head w 1 (by omega), sel_head w 2 (by omega), sel_head w 3 (by omega), sel_head w 4 (by omega),
    sel_head w 5 (by omega), sel_head w 6 (by omega), sel_head w 7 (by omega)]
  simp only [show w.val / 64 = (hd w).val from rfl]
  generalize hd w = r
  fin_cases r <;> rfl

/-- The output before its normalization: the chunk's own part, what the state adds, the skip, gated. -/
def gated (x z : Vec Ideal S1x256x512 .f32) (cB : Vec Ideal S1x256x128 .f32) (bm : Vec Ideal S1x1x128x256 .bf16)
    (col : Vec Ideal S1x1x256x16 .f32) (row : Vec Ideal S1x1x1x16x256 .f32) (S : Vec Ideal S128x512 .f32) (d : Vec Ideal S1x512 .f32)
    (l : Fin 256) (w : Fin 512) : EReal :=
  ((∑ s : Fin 256, (∑ n : Fin 128, cB (ix3 0 l n) * bm (ix4 0 0 n s))
        * Ideal.exp (if s.val ≤ l.val then colA col l (hd w) - rowA row (hd w) s else ⊥) * rowD row (hd w) s * x (ix3 0 s w))
      + (∑ n : Fin 128, cB (ix3 0 l n) * S (ix2 n w)) * Ideal.exp (colA col l (hd w))
      + d (ix2 0 w) * x (ix3 0 l w))
    * (z (ix3 0 l w) * Ideal.logistic (z (ix3 0 l w)))

theorem out_apply (x z : Vec Ideal S1x256x512 .f32) (cB : Vec Ideal S1x256x128 .f32) (bm : Vec Ideal S1x1x128x256 .bf16)
    (col : Vec Ideal S1x1x256x16 .f32) (row : Vec Ideal S1x1x1x16x256 .f32) (S : Vec Ideal S128x512 .f32) (d g : Vec Ideal S1x512 .f32)
    (hA : ∀ l r, Fin' (colA col l r)) (l : Fin 256) (w : Fin 512) :
    outV x z cB bm col row S d g (ix3 0 l w) = rms (gated x z cB bm col row S d l) (g (ix2 0 w)) w := by
  pointwise [outV, k0_pay40, k0_pay1, k0_pay4, k0_pay6]
  simp only [lanes_apply col hA, diag_apply]
  rfl

end Cert.KernelIdeal.Value
-- ==== Proof.Prefix.lean ====
/- Running sums: the float `cumsum` of an array along one of its axes, read at an index at the ideal instance, is the
   sum of the entries up to that index. -/
module

public import Idealize.ShloMosaic.Lib.Pointwise

@[expose] public section

set_option maxRecDepth 16384

noncomputable section

namespace Cert.Prefix

open Idealize.ShloMosaic

/-- A left fold of additions is the start plus the sum of the list. -/
theorem foldl_add_eq {α : Type} (g : α → EReal) (L : List α) (v : EReal) :
    L.foldl (fun r n => r + g n) v = v + (L.map g).sum := by
  induction L generalizing v with
  | nil => simp
  | cons a L ih => rw [List.foldl_cons, ih, List.map_cons, List.sum_cons, add_assoc]

/-- The window of the running sum at `j`, padded below, holds the entries `0 … j`. -/
theorem sum_window (f : ℕ → EReal) (N j : ℕ) (hj : j < N) :
    (∑ w ∈ Finset.range N, if N - 1 ≤ j + w then f (j + w - (N - 1)) else 0)
      = ∑ k ∈ Finset.range N, if k ≤ j then f k else 0 := by
  have e1 : N = (N - 1 - j) + (j + 1) := by omega
  have e2 : N = (j + 1) + (N - 1 - j) := by omega
  have l : (∑ w ∈ Finset.range N, if N - 1 ≤ j + w then f (j + w - (N - 1)) else 0)
      = ∑ k ∈ Finset.range (j + 1), f k := by
    conv_lhs => rw [show Finset.range N = Finset.range ((N - 1 - j) + (j + 1)) from by rw [← e1]]
    rw [Finset.sum_range_add, Finset.sum_eq_zero, zero_add]
    · refine Finset.sum_congr rfl fun k hk => ?_
      rw [if_pos (by omega)]
      congr 1
      omega
    · intro k hk
      have := Finset.mem_range.mp hk
      rw [if_neg (by omega)]
  have r : (∑ k ∈ Finset.range N, if k ≤ j then f k else 0) = ∑ k ∈ Finset.range (j + 1), f k := by
    conv_lhs => rw [show Finset.range N = Finset.range ((j + 1) + (N - 1 - j)) from by rw [← e2]]
    rw [Finset.sum_range_add]
    have z : (∑ x ∈ Finset.range (N - 1 - j), if j + 1 + x ≤ j then f (j + 1 + x) else 0) = 0 :=
      Finset.sum_eq_zero fun k hk => by rw [if_neg (by omega)]
    rw [z, add_zero]
    refine Finset.sum_congr rfl fun k hk => ?_
    have := Finset.mem_range.mp hk
    rw [if_pos (by omega)]
  rw [l, r]

/-- `jnp.cumsum` along axis `a0`, at index `j`: the entries of `j`'s line along that axis, up to `j`'s own, summed. -/
theorem cumsum_apply {s u : Shape} (a0 : Fin s.rank) (N : ℕ) (hN : s.size a0 = N) (window strides lo hi : Fin s.rank → ℕ)
    (hw : ∀ a, window a = if a = a0 then N else 1) (hs : ∀ a, strides a = 1)
    (hlo : ∀ a, lo a = if a = a0 then N - 1 else 0)
    (x : FVec Ideal s .f32) (init : u.Idx → Ideal .f32) (h : s.ReduceWindows window strides lo hi s) (hu : 0 < u.numel)
    (hinit : ∀ i, init i = (0 : EReal)) (j : s.Idx) (f : Fin N → EReal)
    (hf : ∀ (k : Fin N) (i : s.Idx), (i a0).val = k.val → (∀ a, a ≠ a0 → i a = j a) → x i = f k) :
    (Host.reduceWindowAdd window strides lo hi x init h hu j : EReal)
      = ∑ k : Fin N, if k.val ≤ (j a0).val then f k else 0 := by
  classical
  have hjN : (j a0).val < N := hN ▸ (j a0).isLt
  show (Host.reduceWindow (· + ·) window strides lo hi x (fun _ : (⟨0, ![]⟩ : Shape).Idx => init (Shape.Idx.first hu)) h (by decide) j : EReal) = _
  unfold Host.reduceWindow
  dsimp only
  rw [hinit]
  refine (foldl_add_eq _ _ _).trans ?_
  rw [zero_add, ← List.ofFn_eq_map, List.sum_ofFn]
  -- the sum over the window's row-major positions is the sum over its indices, and those are the positions along `a0`
  let e : (⟨s.rank, window⟩ : Shape).Idx ≃ Fin N :=
    { toFun := fun p => ⟨(p a0).val, by have := (p a0).isLt; have e := hw a0; rw [if_pos rfl] at e; exact e ▸ this⟩
      invFun := fun k a => ⟨if a = a0 then k.val else 0, by
        show _ < window a
        rw [hw a]; split
        · exact k.isLt
        · exact one_pos⟩
      left_inv := fun p => by
        funext a
        apply Fin.ext
        show (if a = a0 then (p a0).val else 0) = (p a).val
        split
        · next e => subst e; rfl
        · next e =>
          have := (p a).isLt
          change (p a).val < window a at this
          rw [hw a, if_neg e] at this
          omega
      right_inv := fun k => by
        apply Fin.ext
        show (if a0 = a0 then k.val else 0) = k.val
        rw [if_pos rfl] }
  refine (Fintype.sum_equiv ((⟨s.rank, window⟩ : Shape).rowMajor.symm.trans e) _
    (fun w : Fin N => if N - 1 ≤ (j a0).val + w.val then f ⟨(j a0).val + w.val - (N - 1), by omega⟩ else 0) ?_).trans ?_
  · intro n
    set p := (⟨s.rank, window⟩ : Shape).rowMajor.symm n with hp
    have hz : ∀ a, a ≠ a0 → (p a).val = 0 := fun a ha => by
      have := (p a).isLt
      change (p a).val < window a at this
      rw [hw a, if_neg ha] at this
      omega
    show _ = if N - 1 ≤ (j a0).val + (p a0).val then f ⟨(j a0).val + (p a0).val - (N - 1), _⟩ else 0
    split
    · next hin =>
      have h0 := (hin a0).1
      rw [hlo a0, if_pos rfl, hs a0, Nat.mul_one] at h0
      have h0' : N - 1 ≤ (j a0).val + (p a0).val := h0
      rw [if_pos h0']
      refine hf _ _ ?_ ?_
      · show (j a0).val * strides a0 + (p a0).val - lo a0 = _
        rw [hs, hlo, if_pos rfl, Nat.mul_one]
      · intro a ha
        apply Fin.ext
        show (j a).val * strides a + (p a).val - lo a = _
        rw [hs, hlo, if_neg ha, Nat.mul_one, hz a ha]; rfl
    · next hin =>
      rw [if_neg]
      intro hle
      refine hin fun a => ?_
      by_cases ha : a = a0
      · subst ha
        show lo a ≤ (j a).val * strides a + (p a).val ∧ (j a).val * strides a + (p a).val - lo a < s.size a
        rw [hs, hlo, if_pos rfl, Nat.mul_one]
        have h1 := (p a).isLt
        change (p a).val < window a at h1
        rw [hw a, if_pos rfl] at h1
        have h2 : (j a).val < s.size a := (j a).isLt
        omega
      · show lo a ≤ (j a).val * strides a + (p a).val ∧ (j a).val * strides a + (p a).val - lo a < s.size a
        rw [hs, hlo, if_neg ha, Nat.mul_one, hz a ha]
        have h2 : (j a).val < s.size a := (j a).isLt
        omega
  · have l := Fin.sum_univ_eq_sum_range (fun w => if N - 1 ≤ (j a0).val + w then
      (fun k => if h : k < N then f ⟨k, h⟩ else 0) ((j a0).val + w - (N - 1)) else 0) N
    have r := Fin.sum_univ_eq_sum_range (fun k => if k ≤ (j a0).val then (fun k => if h : k < N then f ⟨k, h⟩ else 0) k else 0) N
    refine Eq.trans (Finset.sum_congr rfl fun w _ => ?_) (l.trans ((sum_window _ N _ hjN).trans (r.symm.trans (Finset.sum_congr rfl fun k _ => ?_))))
    · dsimp only
      split
      · rw [dif_pos (by omega)]
      · rfl
    · dsimp only
      rw [dif_pos k.isLt]

end Cert.Prefix

end
-- ==== Proof.Host.lean ====
/- The arrays the host program hands to the scan's launch, as terms of the arguments and then at an index. -/
module

public import proofs.«01_k».proof.Proof.Body
public import proofs.«01_k».proof.Proof.Prefix

@[expose] public section

set_option maxRecDepth 16384
set_option maxHeartbeats 1000000
noncomputable section

open Idealize.ShloMosaic Idealize.ShloMosaic.TcCoe Idealize.SL.Sem
open Idealize.ShloMosaic.Pipeline (Dat)

namespace Cert.KernelIdeal.Value

open Cert.KernelIdeal Cert.KernelIdeal.Gen

section Terms
variable {F : FTy → Type} [FloatOps F]

/-- The steps before the softplus: the last columns of the projection plus the bias. -/
def preV (zx : FVec F S4x2048x10304 .f32) (dtb : FVec F S64 .f32) : FVec F S4x2048x64 .f32 :=
  addf (extractStridedSlice S4x2048x64 ![0, 0, 10240] zx slices_S4x2048x10304_S4x2048x64_0_0_10240)
    (broadcastInDim S4x2048x64 ![0, 1, 2] bcast_S1x1x64_S4x2048x64_0_1_2 (broadcastInDim S1x1x64 ![2] bcast_S64_S1x1x64_2 dtb))

/-- The zero the softplus is written with. -/
def zeroV : FVec F S4x2048x64 .f32 := broadcastInDim S4x2048x64 ![] bcast_S_S4x2048x64 (constant S_ .f32 0x00000000#32)

/-- The steps. -/
def dtV (zx : FVec F S4x2048x10304 .f32) (dtb : FVec F S64 .f32) : FVec F S4x2048x64 .f32 :=
  select (cmpf .une (subf (preV zx dtb) zeroV) (subf (preV zx dtb) zeroV)) (addf (preV zx dtb) zeroV)
    (addf (maximumf (preV zx dtb) zeroV) (Host.log1p (Host.exp (Host.negf (Host.absf (subf (preV zx dtb) zeroV))))))

/-- The decays of the single positions, by chunk. -/
def daV (zx : FVec F S4x2048x10304 .f32) (dtb alog : FVec F S64 .f32) : FVec F S4x8x256x64 .f32 :=
  shapeCast S4x8x256x64 (mulf (dtV zx dtb)
    (broadcastInDim S4x2048x64 ![0, 1, 2] bcast_S1x1x64_S4x2048x64_0_1_2 (broadcastInDim S1x1x64 ![2] bcast_S64_S1x1x64_2
      (Host.negf (Host.exp alog))))) shapeCasts_S4x2048x64_S4x8x256x64

/-- The running decays inside each chunk. -/
def acsV (zx : FVec F S4x2048x10304 .f32) (dtb alog : FVec F S64 .f32) : FVec F S4x8x256x64 .f32 :=
  Host.reduceWindowAdd ![1, 1, 256, 1] ![1, 1, 1, 1] ![0, 0, 255, 0] ![0, 0, 0, 0] (daV zx dtb alog)
    (broadcastInDim S_ ![] bcast_S_S_ (constant S_ .f32 0x00000000#32) : FVec F S_ .f32)
    reduceWindows_S4x8x256x64_S4x8x256x64_w1s1p0_0_w1s1p0_0_w256s1p255_0_w1s1p0_0 h_S_

/-- The row pack: per group, eight rows of running decays, then eight rows of steps. -/
def rowsV (zx : FVec F S4x2048x10304 .f32) (dtb alog : FVec F S64 .f32) : FVec F S4x8x8x16x256 .f32 :=
  concatenate S4x8x8x16x256 3
    [⟨S4x8x8x8x256, transpose S4x8x8x8x256 [0, 3, 1, 4, 2] (shapeCast S4x8x256x8x8 (acsV zx dtb alog) shapeCasts_S4x8x256x64_S4x8x256x8x8)
      transposes_S4x8x256x8x8_S4x8x8x8x256_0_3_1_4_2⟩,
     ⟨S4x8x8x8x256, transpose S4x8x8x8x256 [0, 3, 1, 4, 2] (shapeCast S4x8x256x8x8
      (shapeCast S4x8x256x64 (dtV zx dtb) shapeCasts_S4x2048x64_S4x8x256x64) shapeCasts_S4x8x256x64_S4x8x256x8x8)
      transposes_S4x8x256x8x8_S4x8x8x8x256_0_3_1_4_2⟩]
    concatenates_S4x8x8x8x256_S4x8x8x8x256_S4x8x8x16x256_d3

/-- The column pack: the same numbers with the position along the rows. -/
def colsV (zx : FVec F S4x2048x10304 .f32) (dtb alog : FVec F S64 .f32) : FVec F S4x8x2048x16 .f32 :=
  concatenate S4x8x2048x16 3
    [⟨S4x8x2048x8, transpose S4x8x2048x8 [0, 2, 1, 3] (shapeCast S4x2048x8x8 (acsV zx dtb alog) shapeCasts_S4x8x256x64_S4x2048x8x8)
      transposes_S4x2048x8x8_S4x8x2048x8_0_2_1_3⟩,
     ⟨S4x8x2048x8, transpose S4x8x2048x8 [0, 2, 1, 3] (shapeCast S4x2048x8x8
      (shapeCast S4x8x256x64 (dtV zx dtb) shapeCasts_S4x2048x64_S4x8x256x64) shapeCasts_S4x8x256x64_S4x2048x8x8)
      transposes_S4x2048x8x8_S4x8x2048x8_0_2_1_3⟩]
    concatenates_S4x8x2048x8_S4x8x2048x8_S4x8x2048x16_d3

/-- The input projections of all groups, the position last. -/
def bmtV (xbc : FVec F S4x2048x6144 .f32) : FVec F S4x8x128x2048 .bf16 :=
  transpose S4x8x128x2048 [0, 2, 3, 1] (shapeCast S4x2048x8x128
    (truncf .bf16 (extractStridedSlice S4x2048x1024 ![0, 0, 4096] xbc slices_S4x2048x6144_S4x2048x1024_0_0_4096) bitsLt_bf16_f32)
    shapeCasts_S4x2048x1024_S4x2048x8x128) transposes_S4x2048x8x128_S4x8x128x2048_0_2_3_1

/-- The initial state by group, the state's coordinate before the lanes. -/
def h0tV (h0 : FVec F S4x64x64x128 .f32) : FVec F S4x8x128x512 .f32 :=
  shapeCast S4x8x128x512 (transpose S4x8x128x8x64 [0, 1, 4, 2, 3] (shapeCast S4x8x8x64x128 h0 shapeCasts_S4x64x64x128_S4x8x8x64x128)
    transposes_S4x8x8x64x128_S4x8x128x8x64_0_1_4_2_3) shapeCasts_S4x8x128x8x64_S4x8x128x512

/-- The skip weights, one for each lane. -/
def skipV (d : FVec F S64 .f32) : FVec F S1x4096 .f32 :=
  shapeCast S1x4096 (shapeCast S4096 (broadcastInDim S64x64 ![0] bcast_S64_S64x64_0 d) shapeCasts_S64x64_S4096) shapeCasts_S4096_S1x4096

/-- The norm's weights as a row. -/
def gainV (g : FVec F S4096 .f32) : FVec F S1x4096 .f32 := shapeCast S1x4096 g shapeCasts_S4096_S1x4096

end Terms

section Arrays
variable {F : FTy → Type} [FloatOps F]
variable (m : (ℓ : Loc nD τ sig) → Buf (Elt F) ℓ)

abbrev aZx (c : Dev nD) : FVec F S4x2048x10304 .f32 := m (c.tc.loc main_arg0)
abbrev aXbc (c : Dev nD) : FVec F S4x2048x6144 .f32 := m (c.tc.loc main_arg1)
abbrev aDtb (c : Dev nD) : FVec F S64 .f32 := m (c.tc.loc main_arg2)
abbrev aAlog (c : Dev nD) : FVec F S64 .f32 := m (c.tc.loc main_arg3)
abbrev aSkip (c : Dev nD) : FVec F S64 .f32 := m (c.tc.loc main_arg4)
abbrev aGain (c : Dev nD) : FVec F S4096 .f32 := m (c.tc.loc main_arg5)
abbrev aH0 (c : Dev nD) : FVec F S4x64x64x128 .f32 := m (c.tc.loc main_arg6)

theorem V_zx (c : Dev nD) : V m c main_arg0 = aZx m c := by
  unfold_abbrev_sides
  simp only [hostOps0, hostOps0_1, hostOps0_2, hostOps0_3, hostOps0_4, List.flatten_cons, List.flatten_nil, List.cons_append,
    List.nil_append, List.append_nil]
  after_results
theorem V_xbc (c : Dev nD) : V m c main_arg1 = aXbc m c := by
  unfold_abbrev_sides
  simp only [hostOps0, hostOps0_1, hostOps0_2, hostOps0_3, hostOps0_4, List.flatten_cons, List.flatten_nil, List.cons_append,
    List.nil_append, List.append_nil]
  after_results
theorem V_rows (c : Dev nD) : V m c main_v17 = rowsV (aZx m c) (aDtb m c) (aAlog m c) := by
  unfold_abbrev_sides
  simp only [hostOps0, hostOps0_1, hostOps0_2, hostOps0_3, hostOps0_4, List.flatten_cons, List.flatten_nil, List.cons_append,
    List.nil_append, List.append_nil]
  after_results
  rfl
theorem V_cols (c : Dev nD) : V m c main_v22 = colsV (aZx m c) (aDtb m c) (aAlog m c) := by
  unfold_abbrev_sides
  simp only [hostOps0, hostOps0_1, hostOps0_2, hostOps0_3, hostOps0_4, List.flatten_cons, List.flatten_nil, List.cons_append,
    List.nil_append, List.append_nil]
  after_results
  rfl
theorem V_bmt (c : Dev nD) : V m c main_v26 = bmtV (aXbc m c) := by
  unfold_abbrev_sides
  simp only [hostOps0, hostOps0_1, hostOps0_2, hostOps0_3, hostOps0_4, List.flatten_cons, List.flatten_nil, List.cons_append,
    List.nil_append, List.append_nil]
  after_results
  rfl
theorem V_h0 (c : Dev nD) : V m c main_v29 = h0tV (aH0 m c) := by
  unfold_abbrev_sides
  simp only [hostOps0, hostOps0_1, hostOps0_2, hostOps0_3, hostOps0_4, List.flatten_cons, List.flatten_nil, List.cons_append,
    List.nil_append, List.append_nil]
  after_results
  rfl
theorem V_skip (c : Dev nD) : V m c main_v32 = skipV (aSkip m c) := by
  unfold_abbrev_sides
  simp only [hostOps0, hostOps0_1, hostOps0_2, hostOps0_3, hostOps0_4, List.flatten_cons, List.flatten_nil, List.cons_append,
    List.nil_append, List.append_nil]
  after_results
  rfl
theorem V_gain (c : Dev nD) : V m c main_v33 = gainV (aGain m c) := by
  unfold_abbrev_sides
  simp only [hostOps0, hostOps0_1, hostOps0_2, hostOps0_3, hostOps0_4, List.flatten_cons, List.flatten_nil, List.cons_append,
    List.nil_append, List.append_nil]
  after_results
  rfl
end Arrays

/-! ## At an index, over the extended reals -/

open Cert.Chunk Cert.Scan

/-- The arguments of the launch's program, as plain functions. -/
def argsK (m : (ℓ : Loc nD τ sig) → Buf (Elt Ideal) ℓ) (c : Dev nD) : Args where
  zx b t j := aZx m c (ix3 b t j)
  xbc b t j := aXbc m c (ix3 b t j)
  dtb h := aDtb m c (ix1 h)
  alog h := aAlog m c (ix1 h)
  skip h := aSkip m c (ix1 h)
  gain j := aGain m c (ix1 j)
  h0 b h p n := aH0 m c (ix4 b h p n)

variable (m : (ℓ : Loc nD τ sig) → Buf (Elt Ideal) ℓ) (c : Dev nD)

theorem dt_apply (b : Fin 4) (t : Fin 2048) (h : Fin 64) : dtV (aZx m c) (aDtb m c) (ix3 b t h) = dt (argsK m c) b t h := by
  pointwise [dtV, preV, zeroV]
  rw [if_neg (not_not.mpr rfl)]
  rfl

theorem da_apply (b : Fin 4) (k : Fin 8) (l : Fin 256) (h : Fin 64) :
    daV (aZx m c) (aDtb m c) (aAlog m c) (ix4 b k l h) = da (argsK m c) b k h l := by
  pointwise [daV]
  rw [dt_apply]
  rfl

theorem acs_apply (b : Fin 4) (k : Fin 8) (l : Fin 256) (h : Fin 64) :
    acsV (aZx m c) (aDtb m c) (aAlog m c) (ix4 b k l h) = acs (da (argsK m c) b k h) l := by
  refine Cert.Prefix.cumsum_apply (s := S4x8x256x64) (2 : Fin 4) 256 rfl _ _ _ _ (by decide) (by decide) (by decide) _ _ _ _ (fun i => ?_) _
    (da (argsK m c) b k h) (fun q i hi ho => ?_)
  · pointwise []
  · rw [← da_apply]
    congr 1
    funext a
    fin_cases a
    · exact ho 0 (by decide)
    · exact ho 1 (by decide)
    · exact Fin.ext hi
    · exact ho 3 (by decide)

theorem rows_acs (b : Fin 4) (g k r : Fin 8) (l : Fin 256) :
    rowsV (aZx m c) (aDtb m c) (aAlog m c) (ix5 b g k ⟨r.val, by omega⟩ l) = acs (da (argsK m c) b k (head g r)) l := by
  pointwise [rowsV]
  exact acs_apply m c b k l _
theorem rows_dt (b : Fin 4) (g k r : Fin 8) (l : Fin 256) :
    rowsV (aZx m c) (aDtb m c) (aAlog m c) (ix5 b g k ⟨8 + r.val, by omega⟩ l) = dt (argsK m c) b (pos k l) (head g r) := by
  pointwise [rowsV]
  exact dt_apply m c b _ _
theorem cols_acs (b : Fin 4) (g k r : Fin 8) (l : Fin 256) :
    colsV (aZx m c) (aDtb m c) (aAlog m c) (ix4 b g (pos k l) ⟨r.val, by omega⟩) = acs (da (argsK m c) b k (head g r)) l := by
  pointwise [colsV]
  exact acs_apply m c b k l _
theorem cols_dt (b : Fin 4) (g k r : Fin 8) (l : Fin 256) :
    colsV (aZx m c) (aDtb m c) (aAlog m c) (ix4 b g (pos k l) ⟨8 + r.val, by omega⟩) = dt (argsK m c) b (pos k l) (head g r) := by
  pointwise [colsV]
  exact dt_apply m c b _ _
theorem bmt_apply (b : Fin 4) (g : Fin 8) (n : Fin 128) (t : Fin 2048) : bmtV (aXbc m c) (ix4 b g n t) = bv (argsK m c) b t g n := by
  pointwise [bmtV]
  rfl
theorem h0t_apply (b : Fin 4) (g : Fin 8) (n : Fin 128) (w : Fin 512) :
    h0tV (aH0 m c) (ix4 b g n w) = (argsK m c).h0 b (head g (hd w)) (pl w) n := by
  pointwise [h0tV]
  rfl
theorem skip_apply (g : Fin 8) (w : Fin 512) : skipV (aSkip m c) (ix2 0 (lane g w)) = (argsK m c).skip (head g (hd w)) := by
  pointwise [skipV]
  exact congrArg (fun h => aSkip m c (ix1 h)) (Fin.ext (by show (g.val * 512 + w.val) / 64 = g.val * 8 + w.val / 64; omega))
theorem gain_apply (j : Fin 4096) : gainV (aGain m c) (ix2 0 j) = (argsK m c).gain j := by
  pointwise [gainV]
  rfl

end Cert.KernelIdeal.Value
-- ==== Proof.Blocks.lean ====
/- The launch's input blocks at a grid point, read at an index as entries of the arguments. -/
module

public import proofs.«01_k».proof.Proof.Host

@[expose] public section

set_option maxRecDepth 16384
set_option maxHeartbeats 1000000
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Chunk Cert.Scan

/-- The batch, group and chunk of a grid point. -/
def pb (t : Fin cfg0.N) : Fin 4 := ⟨t.val / 64, by have := t.isLt; have e : cfg0.N = 256 := N_0; omega⟩
def pg (t : Fin cfg0.N) : Fin 8 := ⟨t.val / 8 % 8, by omega⟩
def pk (t : Fin cfg0.N) : Fin 8 := ⟨t.val % 8, by omega⟩

theorem place : ∀ t : Fin cfg0.N,
    (cfg0.win 0).index t = ![t.val / 64, t.val % 8, t.val / 8 % 8]
    ∧ (cfg0.win 1).index t = ![t.val / 64, t.val % 8, t.val / 8 % 8]
    ∧ (cfg0.win 2).index t = ![t.val / 64, t.val % 8, 40 + t.val / 8 % 8]
    ∧ (cfg0.win 3).index t = ![t.val / 64, t.val / 8 % 8, 0, t.val % 8]
    ∧ (cfg0.win 4).index t = ![t.val / 64, t.val / 8 % 8, t.val % 8, 0]
    ∧ (cfg0.win 5).index t = ![t.val / 64, t.val / 8 % 8, t.val % 8, 0, 0]
    ∧ (cfg0.win 6).index t = ![t.val / 64, t.val / 8 % 8, 0, 0]
    ∧ (cfg0.win 7).index t = ![0, t.val / 8 % 8]
    ∧ (cfg0.win 8).index t = ![0, t.val / 8 % 8]
    ∧ (cfg0.win 9).index t = ![t.val / 64, t.val % 8, t.val / 8 % 8]
    ∧ (cfg0.win 10).index t = ![t.val / 64, t.val / 8 % 8, 0, 0] := by decide +kernel

variable (m : (ℓ : Loc nD τ sig) → Buf (Elt Ideal) ℓ) (c : Dev nD) (t : Fin cfg0.N)

theorem blk0 (l : Fin 256) (w : Fin 512) : iblk m c 0 t (ix3 0 l w) = xv (argsK m c) (pb t) (pos (pk t) l) (pg t) w := by
  show _ = aXbc m c (ix3 (pb t) (pos (pk t) l) ⟨(pg t).val * 512 + w.val, _⟩)
  rw [← V_xbc]
  blk_ext [iblk, place t, pb, pg, pk]

theorem blk1 (l : Fin 256) (w : Fin 512) : X0_1 m c t (ix3 0 l w) = zv (argsK m c) (pb t) (pos (pk t) l) (pg t) w := by
  show _ = aZx m c (ix3 (pb t) (pos (pk t) l) ⟨(pg t).val * 512 + w.val, _⟩)
  rw [← V_zx]
  unfold X0_1 Pipeline.Window.fill
  rw [dif_pos (moved0_1 t _)]
  blk_ext [iblk, place t, pb, pg, pk]

theorem blk2 (l : Fin 256) (n : Fin 128) : iblk m c 2 t (ix3 0 l n) = cv (argsK m c) (pb t) (pos (pk t) l) (pg t) n := by
  show _ = aXbc m c (ix3 (pb t) (pos (pk t) l) ⟨5120 + ((pg t).val * 128 + n.val), _⟩)
  rw [← V_xbc]
  blk_ext [iblk, place t, pb, pg, pk]

theorem blk3 (n : Fin 128) (l : Fin 256) : iblk m c 3 t (ix4 0 0 n l) = bv (argsK m c) (pb t) (pos (pk t) l) (pg t) n := by
  rw [← bmt_apply, ← V_bmt]
  blk_ext [iblk, place t, pb, pg, pk]

theorem blk4_acs (l : Fin 256) (r : Fin 8) : colA (iblk m c 4 t) l r = acs (da (argsK m c) (pb t) (pk t) (head (pg t) r)) l := by
  rw [← cols_acs, ← V_cols]
  show iblk m c 4 t (ix4 0 0 l ⟨r.val, _⟩) = _
  blk_ext [iblk, place t, pb, pg, pk]

theorem blk4_dt (l : Fin 256) (r : Fin 8) : colD (iblk m c 4 t) l r = dt (argsK m c) (pb t) (pos (pk t) l) (head (pg t) r) := by
  rw [← cols_dt m c, ← V_cols]
  show iblk m c 4 t (ix4 0 0 l ⟨8 + r.val, _⟩) = _
  blk_ext [iblk, place t, pb, pg, pk]

theorem blk5_acs (l : Fin 256) (r : Fin 8) : rowA (iblk m c 5 t) r l = acs (da (argsK m c) (pb t) (pk t) (head (pg t) r)) l := by
  rw [← rows_acs, ← V_rows]
  show iblk m c 5 t (ix5 0 0 0 ⟨r.val, _⟩ l) = _
  blk_ext [iblk, place t, pb, pg, pk]

theorem blk5_dt (l : Fin 256) (r : Fin 8) : rowD (iblk m c 5 t) r l = dt (argsK m c) (pb t) (pos (pk t) l) (head (pg t) r) := by
  rw [← rows_dt m c, ← V_rows]
  show iblk m c 5 t (ix5 0 0 0 ⟨8 + r.val, _⟩ l) = _
  blk_ext [iblk, place t, pb, pg, pk]

theorem blk6 (n : Fin 128) (w : Fin 512) : iblk m c 6 t (ix4 0 0 n w) = (argsK m c).h0 (pb t) (head (pg t) (hd w)) (pl w) n := by
  rw [← h0t_apply, ← V_h0]
  blk_ext [iblk, place t, pb, pg, pk]

theorem blk7 (w : Fin 512) : iblk m c 7 t (ix2 0 w) = (argsK m c).skip (head (pg t) (hd w)) := by
  rw [← skip_apply, ← V_skip]
  blk_ext [iblk, place t, pb, pg, pk]

theorem blk8 (w : Fin 512) : iblk m c 8 t (ix2 0 w) = (argsK m c).gain (lane (pg t) w) := by
  rw [← gain_apply, ← V_gain]
  blk_ext [iblk, place t, pb, pg, pk]

end Cert.KernelIdeal.Value
-- ==== Proof.Final.lean ====
/- The scan's launch over its whole grid: the carried state is the recurrence, and the two result arrays hold what the
   specification says. -/
module

public import proofs.«01_k».proof.Proof.Blocks
public import Idealize.ShloMosaic.Lib.Pipeline.Covers

@[expose] public section

set_option maxRecDepth 16384
set_option maxHeartbeats 1000000
noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Chunk Cert.Scan

variable (m : (ℓ : Loc nD τ sig) → Buf (Elt Ideal) ℓ) (c : Dev nD)

theorem acs_finite (hA : (argsK m c).Ok) (t : Fin cfg0.N) (l : Fin 256) (r : Fin 8) : Fin' (colA (iblk m c 4 t) l r) := by
  rw [blk4_acs]; exact acs_fin (da_fin _ hA _ _ _) _

/-- One point moves the state one step of the recurrence on. -/
theorem step_point (hA : (argsK m c).Ok) (t : Fin cfg0.N) (S : Vec Ideal S128x512 .f32) (n : Fin 128) (w : Fin 512)
    (hS : S (ix2 n w) = st (argsK m c) (pb t) (pg t) n w (pk t).val) :
    stepV (iblk m c 0 t) (iblk m c 3 t) (iblk m c 4 t) S (ix2 n w) = st (argsK m c) (pb t) (pg t) n w ((pk t).val + 1) := by
  rw [step_apply _ _ _ _ (acs_finite m c hA t) (fun l r => by rw [blk4_dt]; exact dt_fin _ hA _ _ _), hS]
  show _ = Ideal.exp (tot _ _ _ (pk t).val) * st (argsK m c) (pb t) (pg t) n w (pk t).val + inn _ _ _ _ _ (pk t).val
  unfold tot inn
  rw [dif_pos (pk t).isLt, dif_pos (pk t).isLt]
  simp only [blk4_acs, blk4_dt, blk0, blk3]

/-- What each point leaves in the carried state. -/
theorem state_at (hA : (argsK m c).Ok) (n : Fin 128) (w : Fin 512) : ∀ (k : ℕ) (t : Fin cfg0.N), t.val % 8 = k →
    (outsAt0 m c t.val t.isLt).2.2 (ix2 n w) = st (argsK m c) (pb t) (pg t) n w ((pk t).val + 1) := by
  intro k
  induction k with
  | zero =>
    intro t h
    rw [state_first m c t h]
    refine step_point m c hA t _ n w ?_
    have e : k0_pay3 (iblk m c 6 t) (ix2 n w) = iblk m c 6 t (ix4 0 0 n w) := by pointwise [k0_pay3]
    rw [e, blk6, show (pk t).val = 0 from h]
    rfl
  | succ k ih =>
    intro t h
    rw [state_next m c t (by omega)]
    refine step_point m c hA t _ n w ?_
    have e := ih ⟨t.val - 1, Nat.lt_of_le_of_lt (Nat.sub_le _ _) t.isLt⟩ (by show (t.val - 1) % 8 = k; omega)
    refine e.trans ?_
    have e1 : pb ⟨t.val - 1, Nat.lt_of_le_of_lt (Nat.sub_le _ _) t.isLt⟩ = pb t := Fin.ext (by show (t.val - 1) / 64 = t.val / 64; omega)
    have e2 : pg ⟨t.val - 1, Nat.lt_of_le_of_lt (Nat.sub_le _ _) t.isLt⟩ = pg t := Fin.ext (by show (t.val - 1) / 8 % 8 = t.val / 8 % 8; omega)
    have e3 : (pk ⟨t.val - 1, Nat.lt_of_le_of_lt (Nat.sub_le _ _) t.isLt⟩).val + 1 = (pk t).val := by show (t.val - 1) % 8 + 1 = t.val % 8; omega
    rw [e1, e2, e3]

/-- The output of one point, given the state it starts with. -/
theorem out_point (hA : (argsK m c).Ok) (t : Fin cfg0.N) (S : Vec Ideal S128x512 .f32) (l : Fin 256) (w : Fin 512)
    (hS : ∀ n w, S (ix2 n w) = st (argsK m c) (pb t) (pg t) n w (pk t).val) :
    outV (iblk m c 0 t) (X0_1 m c t) (iblk m c 2 t) (iblk m c 3 t) (iblk m c 4 t) (iblk m c 5 t) S (iblk m c 7 t) (iblk m c 8 t) (ix3 0 l w)
      = rms (yv (argsK m c) (pb t) (pk t) l (pg t)) ((argsK m c).gain (lane (pg t) w)) w := by
  rw [out_apply _ _ _ _ _ _ _ _ _ (acs_finite m c hA t), blk8]
  refine congrArg (fun u => rms u _ w) (funext fun w => ?_)
  unfold gated yv
  simp only [blk4_acs, blk5_acs, blk5_dt, blk0, blk1, blk2, blk3, blk7, hS, seg_eq (da_fin _ hA _ _ _)]

theorem out_at (hA : (argsK m c).Ok) (t : Fin cfg0.N) (l : Fin 256) (w : Fin 512) :
    (outsAt0 m c t.val t.isLt).1 (ix3 0 l w) = rms (yv (argsK m c) (pb t) (pk t) l (pg t)) ((argsK m c).gain (lane (pg t) w)) w := by
  by_cases h : t.val % 8 = 0
  · rw [out_first m c t h]
    refine out_point m c hA t _ l w fun n w => ?_
    have e : k0_pay3 (iblk m c 6 t) (ix2 n w) = iblk m c 6 t (ix4 0 0 n w) := by pointwise [k0_pay3]
    rw [e, blk6, show (pk t).val = 0 from h]
    rfl
  · rw [out_next m c t h]
    refine out_point m c hA t _ l w fun n w => ?_
    refine (state_at m c hA n w _ ⟨t.val - 1, Nat.lt_of_le_of_lt (Nat.sub_le _ _) t.isLt⟩ rfl).trans ?_
    have e1 : pb ⟨t.val - 1, Nat.lt_of_le_of_lt (Nat.sub_le _ _) t.isLt⟩ = pb t := Fin.ext (by show (t.val - 1) / 64 = t.val / 64; omega)
    have e2 : pg ⟨t.val - 1, Nat.lt_of_le_of_lt (Nat.sub_le _ _) t.isLt⟩ = pg t := Fin.ext (by show (t.val - 1) / 8 % 8 = t.val / 8 % 8; omega)
    have e3 : (pk ⟨t.val - 1, Nat.lt_of_le_of_lt (Nat.sub_le _ _) t.isLt⟩).val + 1 = (pk t).val := by show (t.val - 1) % 8 + 1 = t.val % 8; omega
    rw [e1, e2, e3]

/-- The first result array: the normalized output. -/
theorem final_out (hA : (argsK m c).Ok) :
    (dats m 0 c).arrAt 9 cfg0.N = fun i : S4x2048x4096.Idx => outAt (argsK m c) (i 0) (i 1) (i 2) := by
  refine (dats m 0 c).arrAt_eq_of_covers 9 _ ((cfg0.win 9).covers_of_index_surj rfl (by decide) fun β => ?_) fun t hf y => ?_
  · have h0 : (β 0).val < 4 := (β 0).isLt
    have h1 : (β 1).val < 8 := (β 1).isLt
    have h2 : (β 2).val < 8 := (β 2).isLt
    refine ⟨⟨(β 0).val * 64 + (β 2).val * 8 + (β 1).val, by show _ < 256; omega⟩, fun a => ?_⟩
    rw [(place _).2.2.2.2.2.2.2.2.2.1]
    fin_cases a
    · show ((β 0).val * 64 + (β 2).val * 8 + (β 1).val) / 64 = (β 0).val
      omega
    · show ((β 0).val * 64 + (β 2).val * 8 + (β 1).val) % 8 = (β 1).val
      omega
    · show ((β 0).val * 64 + (β 2).val * 8 + (β 1).val) / 8 % 8 = (β 2).val
      omega
  · blk_simp
    rw [after0_9]
    idx_vars y
    obtain rfl : y0 = 0 := Subsingleton.elim _ _
    rw [out_at m c hA t, ← outAt_eq]
    have e : ((View.whole main_v34_0).slice (win0_9.rect t)).emb (ix3 0 y1 y2) = ix3 (pb t) (pos (pk t) y1) (lane (pg t) y2) := by
      blk_ext [place t, pb, pg, pk]
    rw [e]
    rfl

/-- The second result array: the state after the last chunk. -/
theorem final_state (hA : (argsK m c).Ok) :
    (dats m 0 c).arrAt 10 cfg0.N = fun i : S4x8x128x512.Idx => st (argsK m c) (i 0) (i 1) (i 2) (i 3) 8 := by
  refine (dats m 0 c).arrAt_eq_of_covers 10 _ ((cfg0.win 10).covers_of_index_surj rfl (by decide) fun β => ?_) fun t hf y => ?_
  · have h0 : (β 0).val < 4 := (β 0).isLt
    have h1 : (β 1).val < 8 := (β 1).isLt
    have h2 : (β 2).val < 1 := (β 2).isLt
    have h3 : (β 3).val < 1 := (β 3).isLt
    refine ⟨⟨(β 0).val * 64 + (β 1).val * 8, by show _ < 256; omega⟩, fun a => ?_⟩
    rw [(place _).2.2.2.2.2.2.2.2.2.2]
    fin_cases a
    · show ((β 0).val * 64 + (β 1).val * 8) / 64 = (β 0).val
      omega
    · show ((β 0).val * 64 + (β 1).val * 8) / 8 % 8 = (β 1).val
      omega
    · show 0 = (β 2).val
      omega
    · show 0 = (β 3).val
      omega
  · have h7 : t.val % 8 = 7 := (flush0_10 t).mp hf
    blk_simp
    rw [after0_10, state_out m c t h7]
    idx_vars y
    obtain rfl : y0 = 0 := Subsingleton.elim _ _
    obtain rfl : y1 = 0 := Subsingleton.elim _ _
    have e : ((View.whole main_v34_1).slice (win0_10.rect t)).emb (ix4 0 0 y2 y3) = ix4 (pb t) (pg t) y2 y3 := by
      blk_ext [place t, pb, pg, pk]
    rw [e]
    have p : ∀ S : Vec Ideal S128x512 .f32, k0_pay2 S (ix4 0 0 y2 y3) = S (ix2 y2 y3) := fun S => by pointwise [k0_pay2]
    rw [p, state_at m c hA y2 y3 7 t h7, show (pk t).val = 7 from h7]
    rfl

/-- The kernel's run: both results as the specification gives them, the arguments unchanged. -/
theorem run_spec (ρ : Dev nD → PrngReg) (hA : ∀ c, (argsK m c).Ok) :
    θ_run defs (onTc (τ := τ) (main (F := Ideal))) ⟨m, fun _ => 0, ρ⟩ fun r => ∀ c : Dev nD,
      r.2.mem ((c : Thread nD τ).loc main_v34_0) = (fun i : S4x2048x4096.Idx => outAt (argsK m c) (i 0) (i 1) (i 2))
      ∧ r.2.mem ((c : Thread nD τ).loc main_v34_1) = (fun i : S4x8x128x512.Idx => st (argsK m c) (i 0) (i 1) (i 2) (i 3) 8)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_out m c (hA c)), (h c).2.1.trans (final_state m c (hA c)), (h c).2.2⟩)
    (run_blocks m ρ)

end Cert.KernelIdeal.Value
-- ==== Proof.RefTerms.lean ====
/- The terms the reference's run ends with, taken apart and named. -/
module

public import proofs.«01_k».proof.Proof.Gen.ReferenceIdeal.Run
public import proofs.«01_k».proof.Proof.Prefix
public import proofs.«01_k».proof.Proof.Spec

@[expose] public section

set_option maxRecDepth 16384
set_option maxHeartbeats 1000000
noncomputable section

open Idealize.ShloMosaic Idealize.ShloMosaic.TcCoe Idealize.SL.Sem Idealize.ShloMosaic.StableHlo

namespace Cert.ReferenceIdeal.Value

open Cert.ReferenceIdeal Cert.ReferenceIdeal.Gen

section Terms
variable {F : FTy → Type} [FloatOps F]

/-- What each position weighs in its chunk's contribution to the state. -/
def wstateV (V0 : Valuation τ sig (Elt F)) : FVec F S4x8x8x8x256 .f32 :=
  mulf (Host.exp (subf (broadcastInDim S4x8x8x8x256 ![0, 1, 2, 3, 4] bcast_S4x8x8x8x1_S4x8x8x8x256_0_1_2_3_4 (extractStridedSlice S4x8x8x8x1 ![0, 0, 0, 0, 255] (res_main_v27 V0) slices_S4x8x8x8x256_S4x8x8x8x1_0_0_0_0_255)) (res_main_v27 V0))) (res_main_v22 V0)

/-- The inputs at those weights. -/
def xwV (V0 : Valuation τ sig (Elt F)) : FVec F S4x8x256x8x8x64 .f32 :=
  mulf (broadcastInDim S4x8x256x8x8x64 ![0, 1, 2, 3, 4, 5] bcast_S4x8x256x8x8x1_S4x8x256x8x8x64_0_1_2_3_4_5 (broadcastInDim S4x8x256x8x8x1 ![0, 1, 2, 3, 4] bcast_S4x8x256x8x8_S4x8x256x8x8x1_0_1_2_3_4 (transpose S4x8x256x8x8 [0, 1, 4, 2, 3] (wstateV V0) transposes_S4x8x8x8x256_S4x8x256x8x8_0_1_4_2_3))) (res_main_v18 V0)

/-- The contributions of the chunks. -/
def statesV (V0 : Valuation τ sig (Elt F)) : FVec F S4x8x8x8x64x128 .f32 :=
  Host.dotGeneral dot_S4x8x256x8x8x64_S4x8x256x8x128_S4x8x8x8x64x128_2_2_45_4_013_013 none (xwV V0) (res_main_v20 V0)

/-- The initial state, then the contributions of the chunks. -/
def enterV (V0 : Valuation τ sig (Elt F)) : FVec F S4x9x8x8x64x128 .f32 :=
  concatenate S4x9x8x8x64x128 1 [⟨S4x1x8x8x64x128, (broadcastInDim S4x1x8x8x64x128 ![0, 2, 3, 4, 5] bcast_S4x8x8x64x128_S4x1x8x8x64x128_0_2_3_4_5 (shapeCast _ (V0 (Proc.devRef .tc main_arg6)) shapeCasts_S4x64x64x128_S4x8x8x64x128))⟩, ⟨S4x8x8x8x64x128, (statesV V0)⟩] concatenates_S4x1x8x8x64x128_S4x8x8x8x64x128_S4x9x8x8x64x128_d1

/-- The total decays of the chunks, a zero before them. -/
def padV (V0 : Valuation τ sig (Elt F)) : FVec F S4x8x8x9 .f32 :=
  pad S4x8x8x9 ![0, 0, 0, 1] ![0, 0, 0, 0] ![0, 0, 0, 0] (transpose S4x8x8x8 [0, 2, 3, 1] (shapeCast _ (extractStridedSlice S4x8x8x8x1 ![0, 0, 0, 0, 255] (res_main_v27 V0) slices_S4x8x8x8x256_S4x8x8x8x1_0_0_0_0_255) shapeCasts_S4x8x8x8x1_S4x8x8x8) transposes_S4x8x8x8_S4x8x8x8_0_2_3_1) (sitofp .f32 (constantI S_ 32 0#32)) pads_S4x8x8x8_S4x8x8x9_000_000_000_100 h_S_

/-- The totals strictly below the diagonal. -/
def selcV (V0 : Valuation τ sig (Elt F)) : FVec F S4x8x8x9x9 .f32 :=
  select (broadcastInDim S4x8x8x9x9 ![3, 4] bcast_S9x9_S4x8x8x9x9_3_4 (select (cmpi .sge (addi (iotaInDim S9x9 32 0) (broadcastInDim S9x9 ![] bcast_S_S9x9 (constantI S_ 32 4294967295#32))) (iotaInDim S9x9 32 1)) (broadcastInDim S9x9 ![] bcast_S_S9x9 (constantI S_ 1 1#1)) (broadcastInDim S9x9 ![] bcast_S_S9x9 (constantI S_ 1 0#1)))) (broadcastInDim S4x8x8x9x9 ![0, 1, 2, 3, 4] bcast_S4x8x8x9x1_S4x8x8x9x9_0_1_2_3_4 (broadcastInDim S4x8x8x9x1 ![0, 1, 2, 3] bcast_S4x8x8x9_S4x8x8x9x1_0_1_2_3 (padV V0))) (broadcastInDim S4x8x8x9x9 ![] bcast_S_S4x8x8x9x9 (sitofp .f32 (constantI S_ 32 0#32)))

/-- Their running sums. -/
def segcV (V0 : Valuation τ sig (Elt F)) : FVec F S4x8x8x9x9 .f32 :=
  Host.reduceWindowAdd ![1, 1, 1, 9, 1] ![1, 1, 1, 1, 1] ![0, 0, 0, 8, 0] ![0, 0, 0, 0, 0] (selcV V0) (broadcastInDim S_ ![] bcast_S_S_ (constant S_ .f32 0x00000000#32)) reduceWindows_S4x8x8x9x9_S4x8x8x9x9_w1s1p0_0_w1s1p0_0_w1s1p0_0_w9s1p8_0_w1s1p0_0 h_S_

/-- The decays from chunk to chunk. -/
def decaycV (V0 : Valuation τ sig (Elt F)) : FVec F S4x8x8x9x9 .f32 :=
  Host.exp (select (broadcastInDim S4x8x8x9x9 ![3, 4] bcast_S9x9_S4x8x8x9x9_3_4 (select (cmpi .sge (addi (iotaInDim S9x9 32 0) (broadcastInDim S9x9 ![] bcast_S_S9x9 (constantI S_ 32 0#32))) (iotaInDim S9x9 32 1)) (broadcastInDim S9x9 ![] bcast_S_S9x9 (constantI S_ 1 1#1)) (broadcastInDim S9x9 ![] bcast_S_S9x9 (constantI S_ 1 0#1)))) (segcV V0) (broadcastInDim S4x8x8x9x9 ![] bcast_S_S4x8x8x9x9 (id (constant S_ .f32 0xFF800000#32))))

/-- The decays of the positions strictly below the diagonal. -/
def selV (V0 : Valuation τ sig (Elt F)) : FVec F S4x8x8x8x256x256 .f32 :=
  select (broadcastInDim S4x8x8x8x256x256 ![4, 5] bcast_S256x256_S4x8x8x8x256x256_4_5 (select (cmpi .sge (addi (iotaInDim S256x256 32 0) (broadcastInDim S256x256 ![] bcast_S_S256x256 (constantI S_ 32 4294967295#32))) (iotaInDim S256x256 32 1)) (broadcastInDim S256x256 ![] bcast_S_S256x256 (constantI S_ 1 1#1)) (broadcastInDim S256x256 ![] bcast_S_S256x256 (constantI S_ 1 0#1)))) (broadcastInDim S4x8x8x8x256x256 ![0, 1, 2, 3, 4, 5] bcast_S4x8x8x8x256x1_S4x8x8x8x256x256_0_1_2_3_4_5 (broadcastInDim S4x8x8x8x256x1 ![0, 1, 2, 3, 4] bcast_S4x8x8x8x256_S4x8x8x8x256x1_0_1_2_3_4 (res_main_v26 V0))) (broadcastInDim S4x8x8x8x256x256 ![] bcast_S_S4x8x8x8x256x256 (sitofp .f32 (constantI S_ 32 0#32)))

/-- Their running sums. -/
def segV (V0 : Valuation τ sig (Elt F)) : FVec F S4x8x8x8x256x256 .f32 :=
  Host.reduceWindowAdd ![1, 1, 1, 1, 256, 1] ![1, 1, 1, 1, 1, 1] ![0, 0, 0, 0, 255, 0] ![0, 0, 0, 0, 0, 0] (selV V0) (broadcastInDim S_ ![] bcast_S_S_ (constant S_ .f32 0x00000000#32)) reduceWindows_S4x8x8x8x256x256_S4x8x8x8x256x256_w1s1p0_0_w1s1p0_0_w1s1p0_0_w1s1p0_0_w256s1p255_0_w1s1p0_0 h_S_

/-- The decays from position to position. -/
def decayV (V0 : Valuation τ sig (Elt F)) : FVec F S4x8x8x8x256x256 .f32 :=
  Host.exp (select (broadcastInDim S4x8x8x8x256x256 ![4, 5] bcast_S256x256_S4x8x8x8x256x256_4_5 (select (cmpi .sge (addi (iotaInDim S256x256 32 0) (broadcastInDim S256x256 ![] bcast_S_S256x256 (constantI S_ 32 0#32))) (iotaInDim S256x256 32 1)) (broadcastInDim S256x256 ![] bcast_S_S256x256 (constantI S_ 1 1#1)) (broadcastInDim S256x256 ![] bcast_S_S256x256 (constantI S_ 1 0#1)))) (segV V0) (broadcastInDim S4x8x8x8x256x256 ![] bcast_S_S4x8x8x8x256x256 (id (constant S_ .f32 0xFF800000#32))))

/-- The products of the output and input projections. -/
def cbV (V0 : Valuation τ sig (Elt F)) : FVec F S4x8x8x256x256 .f32 :=
  Host.dotGeneral dot_S4x8x256x8x128_S4x8x256x8x128_S4x8x8x256x256_4_4_2_2_013_013 none (res_main_v21 V0) (res_main_v20 V0)

/-- The weights of a chunk's own positions. -/
def wdiagV (V0 : Valuation τ sig (Elt F)) : FVec F S4x8x8x8x256x256 .f32 :=
  mulf (mulf (broadcastInDim S4x8x8x8x256x256 ![0, 1, 2, 3, 4, 5] bcast_S4x8x8x1x256x256_S4x8x8x8x256x256_0_1_2_3_4_5 (broadcastInDim S4x8x8x1x256x256 ![0, 1, 2, 4, 5] bcast_S4x8x8x256x256_S4x8x8x1x256x256_0_1_2_4_5 (cbV V0))) (decayV V0)) (broadcastInDim S4x8x8x8x256x256 ![0, 1, 2, 3, 4, 5] bcast_S4x8x8x8x1x256_S4x8x8x8x256x256_0_1_2_3_4_5 (broadcastInDim S4x8x8x8x1x256 ![0, 1, 2, 3, 5] bcast_S4x8x8x8x256_S4x8x8x8x1x256_0_1_2_3_5 (res_main_v22 V0)))

/-- What a chunk's own positions add. -/
def diagV (V0 : Valuation τ sig (Elt F)) : FVec F S4x8x8x8x64x256 .f32 :=
  Host.dotGeneral dot_S4x8x256x8x8x64_S4x8x8x8x256x256_S4x8x8x8x64x256_2_5_5_4_0134_0123 none (res_main_v18 V0) (wdiagV V0)

/-- The entering states read through the output projections. -/
def csV (V0 : Valuation τ sig (Elt F)) : FVec F S4x8x8x8x64x256 .f32 :=
  Host.dotGeneral dot_S4x8x8x8x64x128_S4x8x256x8x128_S4x8x8x8x64x256_5_4_34_2_012_013 none (extractStridedSlice S4x8x8x8x64x128 ![0, 0, 0, 0, 0, 0] (res_main_v74 V0) slices_S4x9x8x8x64x128_S4x8x8x8x64x128_0_0_0_0_0_0) (res_main_v21 V0)

/-- What the entering state adds. -/
def offV (V0 : Valuation τ sig (Elt F)) : FVec F S4x8x256x8x8x64 .f32 :=
  mulf (transpose S4x8x256x8x8x64 [0, 1, 5, 2, 3, 4] (csV V0) transposes_S4x8x8x8x64x256_S4x8x256x8x8x64_0_1_5_2_3_4) (broadcastInDim S4x8x256x8x8x64 ![0, 1, 2, 3, 4, 5] bcast_S4x8x256x8x8x1_S4x8x256x8x8x64_0_1_2_3_4_5 (broadcastInDim S4x8x256x8x8x1 ![0, 1, 2, 3, 4] bcast_S4x8x256x8x8_S4x8x256x8x8x1_0_1_2_3_4 (transpose S4x8x256x8x8 [0, 1, 4, 2, 3] (Host.exp (res_main_v27 V0)) transposes_S4x8x8x8x256_S4x8x256x8x8_0_1_4_2_3)))

/-- The skip. -/
def skipV (V0 : Valuation τ sig (Elt F)) : FVec F S4x2048x8x8x64 .f32 :=
  mulf (broadcastInDim S4x2048x8x8x64 ![0, 1, 2, 3, 4] bcast_S1x1x8x8x1_S4x2048x8x8x64_0_1_2_3_4 (broadcastInDim S1x1x8x8x1 ![2, 3, 4] bcast_S8x8x1_S1x1x8x8x1_2_3_4 (broadcastInDim S8x8x1 ![0, 1] bcast_S8x8_S8x8x1_0_1 (shapeCast _ (V0 (Proc.devRef .tc main_arg4)) shapeCasts_S64_S8x8)))) (res_main_v6 V0)

/-- The gate. -/
def gateV (V0 : Valuation τ sig (Elt F)) : FVec F S4x2048x4096 .f32 :=
  mulf (res_main_v0 V0) (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf (res_main_v0 V0)))))

/-- The normalized output. -/
def outV (V0 : Valuation τ sig (Elt F)) : FVec F S4x2048x4096 .f32 :=
  mulf (shapeCast _ (mulf (res_main_v96 V0) (broadcastInDim S4x2048x8x512 ![0, 1, 2, 3] bcast_S4x2048x8x1_S4x2048x8x512_0_1_2_3 (Host.rsqrt (addf (Host.divf (broadcastInDim S4x2048x8x1 ![0, 1, 2] bcast_S4x2048x8_S4x2048x8x1_0_1_2 (Host.reduceAdd (mulf (res_main_v96 V0) (res_main_v96 V0)) (constant S_ .f32 0x00000000#32) reducesTo_S4x2048x8x512_S4x2048x8_d3 h_S_)) (broadcastInDim S4x2048x8x1 ![] bcast_S_S4x2048x8x1 (constant S_ .f32 0x44000000#32))) (broadcastInDim S4x2048x8x1 ![] bcast_S_S4x2048x8x1 (constant S_ .f32 0x3727C5AC#32)))))) shapeCasts_S4x2048x8x512_S4x2048x4096) (broadcastInDim S4x2048x4096 ![0, 1, 2] bcast_S1x1x4096_S4x2048x4096_0_1_2 (broadcastInDim S1x1x4096 ![2] bcast_S4096_S1x1x4096_2 (V0 (Proc.devRef .tc main_arg5))))

/-- The state after the last chunk, by group. -/
def lastV (V0 : Valuation τ sig (Elt F)) : FVec F S4x8x128x512 .f32 :=
  shapeCast _ (transpose S4x8x128x8x64 [0, 1, 4, 2, 3] (shapeCast _ (extractStridedSlice S4x1x8x8x64x128 ![0, 8, 0, 0, 0, 0] (res_main_v74 V0) slices_S4x9x8x8x64x128_S4x1x8x8x64x128_0_8_0_0_0_0) shapeCasts_S4x1x8x8x64x128_S4x8x8x64x128) transposes_S4x8x8x64x128_S4x8x128x8x64_0_1_4_2_3) shapeCasts_S4x8x128x8x64_S4x8x128x512

theorem v74_eq (V0 : Valuation τ sig (Elt F)) : res_main_v74 V0 =
    transpose S4x9x8x8x64x128 [0, 5, 1, 2, 3, 4] (Host.dotGeneral dot_S4x9x8x8x64x128_S4x8x8x9x9_S4x8x8x64x128x9_1_4_45_3_023_012 none (enterV V0) (decaycV V0)) transposes_S4x8x8x64x128x9_S4x9x8x8x64x128_0_5_1_2_3_4 := rfl

theorem v96_eq (V0 : Valuation τ sig (Elt F)) : res_main_v96 V0 =
    shapeCast _ (mulf (shapeCast _ (addf (shapeCast _ (addf (transpose S4x8x256x8x8x64 [0, 1, 5, 2, 3, 4] (diagV V0) transposes_S4x8x8x8x64x256_S4x8x256x8x8x64_0_1_5_2_3_4) (offV V0)) shapeCasts_S4x8x256x8x8x64_S4x2048x8x8x64) (skipV V0)) shapeCasts_S4x2048x8x8x64_S4x2048x4096) (gateV V0)) shapeCasts_S4x2048x4096_S4x2048x8x512 := rfl

/-- The reference's run at these names. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110) = outV (launchContents m c)
      ∧ r.2.mem ((c.tc : Thread nD τ).loc main_v112) = lastV (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  run m ρ

end Terms

end Cert.ReferenceIdeal.Value
-- ==== Proof.Words.lean ====
/- Words: the two triangular masks, minus infinity and the zero word at the ideal instance. -/
module

public import proofs.«01_k».proof.Proof.Chunk
public import Idealize.ShloMosaic.Lib.Pointwise
public import Idealize.ShloMosaic.Lib.WordCmp

@[expose] public section
noncomputable section
open Idealize.ShloMosaic
namespace Cert.Words

/-- One less than a small positive word. -/
theorem pred_word (i : ℕ) (hi : i < 1024) (h : 0 < i) : IntOp.addi (BitVec.ofNat 32 i) 4294967295#32 = BitVec.ofNat 32 (i - 1) := by
  show BitVec.ofNat 32 i + 4294967295#32 = _
  rw [← BitVec.ofNat_add, ← BitVec.toNat_inj, BitVec.toNat_ofNat, BitVec.toNat_ofNat]
  omega

/-- No word below a thousand is at most minus one. -/
theorem below_zero (j : ℕ) (hj : j < 1024) : IntOp.cmpi CmpIPredicate.sge (IntOp.addi (BitVec.ofNat 32 0) 4294967295#32) (BitVec.ofNat 32 j) = 0#1 := by
  have e0 : IntOp.addi (BitVec.ofNat 32 0) 4294967295#32 = -1#32 := by decide
  rw [e0]
  show BitVec.ofBool ((BitVec.ofNat 32 j).sle (-1#32)) = 0#1
  have e1 : (BitVec.ofNat 32 j).toInt = j := by
    rw [BitVec.toInt_eq_toNat_cond, BitVec.toNat_ofNat, Nat.mod_eq_of_lt (by omega), if_pos (by omega)]
  have : (BitVec.ofNat 32 j).sle (-1#32) = false := by
    rw [BitVec.sle_eq_decide, decide_eq_false_iff_not, e1, show (-1#32 : BitVec 32).toInt = -1 by decide]
    omega
  rw [this]
  rfl

/-- The mask strictly below the diagonal. -/
theorem below {α : Type} (i j : ℕ) (hi : i < 1024) (hj : j < 1024) (a b : α) :
    Scalar.select (Scalar.select (IntOp.cmpi CmpIPredicate.sge (IntOp.addi (BitVec.ofNat 32 i) 4294967295#32) (BitVec.ofNat 32 j)) 1#1 0#1) a b
      = if j < i then a else b := by
  rcases Nat.eq_zero_or_pos i with rfl | h
  · rw [below_zero j hj, if_neg (Nat.not_lt_zero j)]
    rfl
  · rw [pred_word i hi h, WordCmp.cmpi_sge_ofNat (by omega) (by omega)]
    by_cases hji : j < i
    · rw [if_pos hji, decide_eq_true (by omega : j ≤ i - 1)]; rfl
    · rw [if_neg hji, decide_eq_false (by omega : ¬ j ≤ i - 1)]; rfl

/-- The mask on and below the diagonal. -/
theorem upto {α : Type} (i j : ℕ) (hi : i < 4096) (hj : j < 4096) (a b : α) :
    Scalar.select (Scalar.select (IntOp.cmpi CmpIPredicate.sge (IntOp.addi (BitVec.ofNat 32 i) 0#32) (BitVec.ofNat 32 j)) 1#1 0#1) a b
      = if j ≤ i then a else b := by
  have e : IntOp.addi (BitVec.ofNat 32 i) 0#32 = BitVec.ofNat 32 i := BitVec.add_zero _
  rw [e, WordCmp.cmpi_sge_ofNat (by omega) (by omega)]
  by_cases hji : j ≤ i
  · rw [if_pos hji, decide_eq_true hji]; rfl
  · rw [if_neg hji, decide_eq_false hji]; rfl

theorem low : Ideal.ofBits FTy.f32 4286578688#32 = ⊥ := by simp [Ideal.ofBits, Ideal.ieee]
theorem low' (i : Shape.Idx ⟨0, ![]⟩) : (id (constant (F := Ideal) ⟨0, ![]⟩ FTy.f32 4286578688#32) : FVec Ideal ⟨0, ![]⟩ .f32) i = ⊥ := low

theorem zero_word : (FloatOps.sitofp (F := Ideal) FTy.f32 0#32 : EReal) = 0 := by
  show (((0#32 : BitVec 32).toInt : ℝ) : EReal) = 0
  simp

end Cert.Words
-- ==== Proof.Ref.lean ====
/- The reference's terms at an index. -/
module

public import proofs.«01_k».proof.Proof.RefTerms
public import proofs.«01_k».proof.Proof.Words
public import Idealize.ShloMosaic.Lib.Pointwise
public import Idealize.ShloMosaic.Lib.WordCmp
public import Idealize.ShloMosaic.Lib.Tactic.CleanTypes

@[expose] public section

set_option maxRecDepth 16384
set_option maxHeartbeats 1000000
noncomputable section

open Idealize.ShloMosaic Idealize.ShloMosaic.TcCoe Idealize.SL.Sem Idealize.ShloMosaic.StableHlo

namespace Cert.ReferenceIdeal.Value

open Cert.ReferenceIdeal Cert.ReferenceIdeal.Gen Cert.Chunk Cert.Scan Cert.Words

variable (V0 : Valuation τ sig (Elt Ideal))

abbrev rZx : FVec Ideal S4x2048x10304 .f32 := V0 (Proc.devRef .tc main_arg0)
abbrev rXbc : FVec Ideal S4x2048x6144 .f32 := V0 (Proc.devRef .tc main_arg1)
abbrev rDtb : FVec Ideal S64 .f32 := V0 (Proc.devRef .tc main_arg2)
abbrev rAlog : FVec Ideal S64 .f32 := V0 (Proc.devRef .tc main_arg3)
abbrev rSkip : FVec Ideal S64 .f32 := V0 (Proc.devRef .tc main_arg4)
abbrev rGain : FVec Ideal S4096 .f32 := V0 (Proc.devRef .tc main_arg5)
abbrev rH0 : FVec Ideal S4x64x64x128 .f32 := V0 (Proc.devRef .tc main_arg6)

/-- The reference's arguments as plain functions. -/
def argsR : Args where
  zx b t j := rZx V0 (ix3 b t j)
  xbc b t j := rXbc V0 (ix3 b t j)
  dtb h := rDtb V0 (ix1 h)
  alog h := rAlog V0 (ix1 h)
  skip h := rSkip V0 (ix1 h)
  gain j := rGain V0 (ix1 j)
  h0 b h p n := rH0 V0 (ix4 b h p n)

theorem dt_apply (b : Fin 4) (k g r : Fin 8) (l : Fin 256) : res_main_v22 V0 (ix5 b k g r l) = dt (argsR V0) b (pos k l) (head g r) := by
  clean_types
  pointwise [res_main_v22, res_main_call0_v3, res_main_v11, res_main_call0_cst]
  rw [if_neg (not_not.mpr rfl)]
  rfl

theorem da_apply (b : Fin 4) (k g r : Fin 8) (l : Fin 256) : res_main_v26 V0 (ix5 b k g r l) = da (argsR V0) b k (head g r) l := by
  clean_types
  pointwise [res_main_v26]
  rw [dt_apply]
  rfl

theorem acs_apply (b : Fin 4) (k g r : Fin 8) (l : Fin 256) : res_main_v27 V0 (ix5 b k g r l) = acs (da (argsR V0) b k (head g r)) l := by
  refine Cert.Prefix.cumsum_apply (s := S4x8x8x8x256) (4 : Fin 5) 256 rfl _ _ _ _ (by decide) (by decide) (by decide) _ _ _ _ (fun i => ?_) _
    (da (argsR V0) b k (head g r)) (fun q i hi ho => ?_)
  · pointwise []
  · rw [← da_apply]
    congr 1
    funext a
    fin_cases a
    · exact ho 0 (by decide)
    · exact ho 1 (by decide)
    · exact ho 2 (by decide)
    · exact ho 3 (by decide)
    · exact Fin.ext hi

theorem sel_apply (b : Fin 4) (k g r : Fin 8) (i j : Fin 256) :
    selV V0 (ix6 b k g r i j) = if j.val < i.val then da (argsR V0) b k (head g r) i else 0 := by
  clean_types
  pointwise [selV]
  rw [below _ _ (by omega) (by omega), da_apply, zero_word]

theorem seg_apply (b : Fin 4) (k g r : Fin 8) (i j : Fin 256) :
    segV V0 (ix6 b k g r i j)
      = ∑ q : Fin 256, if q.val ≤ i.val then (if j.val < q.val then da (argsR V0) b k (head g r) q else 0) else 0 := by
  refine Cert.Prefix.cumsum_apply (s := S4x8x8x8x256x256) (4 : Fin 6) 256 rfl _ _ _ _ (by decide) (by decide) (by decide) _ _ _ _ (fun i => ?_) _
    (fun q => if j.val < q.val then da (argsR V0) b k (head g r) q else 0) (fun q i hi ho => ?_)
  · pointwise []
  · rw [← sel_apply]
    congr 1
    funext a
    fin_cases a
    · exact ho 0 (by decide)
    · exact ho 1 (by decide)
    · exact ho 2 (by decide)
    · exact ho 3 (by decide)
    · exact Fin.ext hi
    · exact ho 5 (by decide)

theorem decay_apply (b : Fin 4) (k g r : Fin 8) (i j : Fin 256) :
    decayV V0 (ix6 b k g r i j) = Ideal.exp (seg (da (argsR V0) b k (head g r)) i j) := by
  clean_types
  pointwise [decayV]
  rw [upto _ _ (by omega) (by omega), seg_apply]
  rw [low' ix0]
  rfl

theorem pad_apply (b : Fin 4) (g r : Fin 8) (i : Fin 9) :
    padV V0 (ix4 b g r i) = padT (tot (argsR V0) b (head g r)) i := by
  clean_types
  pointwise [padV]
  unfold padT
  by_cases h0 : i.val = 0
  · rw [if_pos h0, dif_neg (by omega), zero_word]
  · rw [if_neg h0, dif_pos (by omega), acs_apply]
    unfold tot
    rw [dif_pos (by omega)]

theorem selc_apply (b : Fin 4) (g r : Fin 8) (i j : Fin 9) :
    selcV V0 (ix5 b g r i j) = if j.val < i.val then padT (tot (argsR V0) b (head g r)) i else 0 := by
  clean_types
  pointwise [selcV]
  rw [below _ _ (by omega) (by omega), pad_apply, zero_word]

theorem segc_apply (b : Fin 4) (g r : Fin 8) (i j : Fin 9) :
    segcV V0 (ix5 b g r i j)
      = ∑ q : Fin 9, if q.val ≤ i.val then (if j.val < q.val then padT (tot (argsR V0) b (head g r)) q else 0) else 0 := by
  refine Cert.Prefix.cumsum_apply (s := S4x8x8x9x9) (3 : Fin 5) 9 rfl _ _ _ _ (by decide) (by decide) (by decide) _ _ _ _ (fun i => ?_) _
    (fun q => if j.val < q.val then padT (tot (argsR V0) b (head g r)) q else 0) (fun q i hi ho => ?_)
  · pointwise []
  · rw [← selc_apply]
    congr 1
    funext a
    fin_cases a
    · exact ho 0 (by decide)
    · exact ho 1 (by decide)
    · exact ho 2 (by decide)
    · exact Fin.ext hi
    · exact ho 4 (by decide)

theorem decayc_apply (b : Fin 4) (g r : Fin 8) (i j : Fin 9) :
    decaycV V0 (ix5 b g r i j) = Ideal.exp (seg (padT (tot (argsR V0) b (head g r))) i j) := by
  clean_types
  pointwise [decaycV]
  rw [upto _ _ (by omega) (by omega), segc_apply]
  rw [low' ix0]
  rfl

/-- A lane of a group from its head and its place in the head. -/
def inLane (r : Fin 8) (p : Fin 64) : Fin 512 := ⟨r.val * 64 + p.val, by omega⟩
theorem hd_inLane (r : Fin 8) (p : Fin 64) : hd (inLane r p) = r := Fin.ext (by show (r.val * 64 + p.val) / 64 = r.val; omega)
theorem pl_inLane (r : Fin 8) (p : Fin 64) : pl (inLane r p) = p := Fin.ext (by show (r.val * 64 + p.val) % 64 = p.val; omega)
theorem inLane_hd (w : Fin 512) : inLane (hd w) (pl w) = w := Fin.ext (by show w.val / 64 * 64 + w.val % 64 = w.val; omega)

theorem x_apply (b : Fin 4) (t : Fin 2048) (g r : Fin 8) (p : Fin 64) :
    res_main_v6 V0 (ix5 b t g r p) = xv (argsR V0) b t g (inLane r p) := by
  clean_types
  pointwise [res_main_v6]
  refine congrArg (fun q => rXbc V0 (ix3 b t q)) (Fin.ext ?_)
  simp only [inLane]
  omega

theorem xc_apply (b : Fin 4) (k : Fin 8) (l : Fin 256) (g r : Fin 8) (p : Fin 64) :
    res_main_v18 V0 (ix6 b k l g r p) = xv (argsR V0) b (pos k l) g (inLane r p) := by
  clean_types
  pointwise [res_main_v18]
  exact x_apply V0 b (pos k l) g r p

theorem b_apply (b : Fin 4) (k : Fin 8) (l : Fin 256) (g : Fin 8) (n : Fin 128) :
    res_main_v20 V0 (ix5 b k l g n) = bv (argsR V0) b (pos k l) g n := by
  clean_types
  pointwise [res_main_v20]
  rfl

theorem c_apply (b : Fin 4) (k : Fin 8) (l : Fin 256) (g : Fin 8) (n : Fin 128) :
    res_main_v21 V0 (ix5 b k l g n) = cv (argsR V0) b (pos k l) g n := by
  clean_types
  pointwise [res_main_v21]
  rfl

theorem z_apply (b : Fin 4) (t : Fin 2048) (g : Fin 8) (w : Fin 512) :
    res_main_v0 V0 (ix3 b t (lane g w)) = zv (argsR V0) b t g w := by
  clean_types
  pointwise [res_main_v0]
  rfl

theorem states_apply (b : Fin 4) (k g r : Fin 8) (p : Fin 64) (n : Fin 128) :
    statesV V0 (ix6 b k g r p n) = inn (argsR V0) b g n (inLane r p) k.val := by
  clean_types
  pointwise [statesV, xwV, wstateV]
  unfold inn
  rw [dif_pos k.isLt, hd_inLane]
  refine Finset.sum_congr rfl fun l _ => ?_
  rw [acs_apply, acs_apply, dt_apply, xc_apply, b_apply, mul_comm (bv _ _ _ _ _), mul_comm (xv _ _ _ _ _)]

theorem enter_apply (b : Fin 4) (g r : Fin 8) (i : Fin 9) (p : Fin 64) (n : Fin 128) :
    enterV V0 (ix6 b i g r p n)
      = entering (inn (argsR V0) b g n (inLane r p)) ((argsR V0).h0 b (head g r) p n) i := by
  clean_types
  pointwise [enterV]
  unfold entering
  by_cases h0 : i.val = 0
  · rw [if_pos h0, dif_pos (by omega)]
    rfl
  · rw [if_neg h0, dif_neg (by omega), states_apply]

end Cert.ReferenceIdeal.Value
-- ==== Proof.RefOut.lean ====
/- The reference's states and outputs at an index. -/
module

public import proofs.«01_k».proof.Proof.Ref
public import Idealize.ShloMosaic.Lib.Pointwise
public import Idealize.ShloMosaic.Lib.WordCmp
public import Idealize.ShloMosaic.Lib.Tactic.CleanTypes

@[expose] public section

set_option maxRecDepth 16384
set_option maxHeartbeats 1000000
noncomputable section

open Idealize.ShloMosaic Idealize.ShloMosaic.TcCoe Idealize.SL.Sem Idealize.ShloMosaic.StableHlo

namespace Cert.ReferenceIdeal.Value

open Cert.ReferenceIdeal Cert.ReferenceIdeal.Gen Cert.Chunk Cert.Scan Cert.Words

variable (V0 : Valuation τ sig (Elt Ideal))

/-- The states between the chunks are the recurrence's. -/
theorem v74_apply (hA : (argsR V0).Ok) (b : Fin 4) (g r : Fin 8) (i : Fin 9) (p : Fin 64) (n : Fin 128) :
    res_main_v74 V0 (ix6 b i g r p n) = st (argsR V0) b g n (inLane r p) i.val := by
  rw [v74_eq]
  clean_types
  pointwise []
  unfold st
  rw [hd_inLane, pl_inLane, state_eq _ (tot_fin _ hA b (head g r))]
  refine Finset.sum_congr rfl fun k _ => ?_
  rw [enter_apply, decayc_apply, mul_comm]

theorem cb_apply (b : Fin 4) (k g : Fin 8) (l s : Fin 256) :
    cbV V0 (ix5 b k g l s) = ∑ n : Fin 128, cv (argsR V0) b (pos k l) g n * bv (argsR V0) b (pos k s) g n := by
  clean_types
  pointwise [cbV]
  simp only [c_apply, b_apply]

theorem diag_apply (b : Fin 4) (k g r : Fin 8) (p : Fin 64) (l : Fin 256) :
    diagV V0 (ix6 b k g r p l) = ∑ s : Fin 256, (∑ n : Fin 128, cv (argsR V0) b (pos k l) g n * bv (argsR V0) b (pos k s) g n)
        * Ideal.exp (seg (da (argsR V0) b k (head g r)) l s) * dt (argsR V0) b (pos k s) (head g r)
        * xv (argsR V0) b (pos k s) g (inLane r p) := by
  clean_types
  pointwise [diagV, wdiagV]
  refine Finset.sum_congr rfl fun s _ => ?_
  rw [cb_apply, decay_apply, dt_apply, xc_apply, mul_comm]

theorem off_apply (hA : (argsR V0).Ok) (b : Fin 4) (k g r : Fin 8) (p : Fin 64) (l : Fin 256) :
    offV V0 (ix6 b k l g r p) = (∑ n : Fin 128, cv (argsR V0) b (pos k l) g n * st (argsR V0) b g n (inLane r p) k.val)
        * Ideal.exp (acs (da (argsR V0) b k (head g r)) l) := by
  clean_types
  pointwise [offV, csV]
  rw [acs_apply]
  refine congrArg (· * _) (Finset.sum_congr rfl fun n _ => ?_)
  rw [c_apply, mul_comm]
  refine congrArg (_ * ·) ?_
  exact v74_apply V0 hA b g r ⟨k.val, by omega⟩ p n

theorem gate_apply (b : Fin 4) (t : Fin 2048) (g : Fin 8) (w : Fin 512) :
    gateV V0 (ix3 b t (lane g w)) = zv (argsR V0) b t g w * Ideal.logistic (zv (argsR V0) b t g w) := by
  clean_types
  pointwise [gateV]
  rw [z_apply]
  rfl

theorem split_lane (g : Fin 8) (w : Fin 512) (h1 : (g.val * 512 + w.val) / 64 % 8 < 8) : (⟨(g.val * 512 + w.val) / 64 % 8, h1⟩ : Fin 8) = hd w :=
  Fin.ext (by show (g.val * 512 + w.val) / 64 % 8 = w.val / 64; omega)
theorem split_place (g : Fin 8) (w : Fin 512) (h1 : (g.val * 512 + w.val) % 64 < 64) : (⟨(g.val * 512 + w.val) % 64, h1⟩ : Fin 64) = pl w :=
  Fin.ext (by show (g.val * 512 + w.val) % 64 = w.val % 64; omega)
theorem split_chunk (k : Fin 8) (l : Fin 256) (h1 : (k.val * 256 + l.val) / 256 < 8) : (⟨(k.val * 256 + l.val) / 256, h1⟩ : Fin 8) = k :=
  Fin.ext (by show (k.val * 256 + l.val) / 256 = k.val; omega)
theorem split_pos (k : Fin 8) (l : Fin 256) (h1 : (k.val * 256 + l.val) % 256 < 256) : (⟨(k.val * 256 + l.val) % 256, h1⟩ : Fin 256) = l :=
  Fin.ext (by show (k.val * 256 + l.val) % 256 = l.val; omega)
theorem split_group (g : Fin 8) (w : Fin 512) (h1 : (g.val * 512 + w.val) / 512 < 8) : (⟨(g.val * 512 + w.val) / 512, h1⟩ : Fin 8) = g :=
  Fin.ext (by show (g.val * 512 + w.val) / 512 = g.val; omega)
theorem split_rest (g : Fin 8) (w : Fin 512) (h1 : (g.val * 512 + w.val) % 512 < 512) : (⟨(g.val * 512 + w.val) % 512, h1⟩ : Fin 512) = w :=
  Fin.ext (by show (g.val * 512 + w.val) % 512 = w.val; omega)
theorem split_head (g : Fin 8) (w : Fin 512) (h1 : g.val * 8 + (g.val * 512 + w.val) / 64 % 8 < 64) :
    (⟨g.val * 8 + (g.val * 512 + w.val) / 64 % 8, h1⟩ : Fin 64) = head g (hd w) :=
  Fin.ext (by show g.val * 8 + (g.val * 512 + w.val) / 64 % 8 = g.val * 8 + w.val / 64; omega)

/-- The output before its normalization. -/
theorem v96_apply (hA : (argsR V0).Ok) (b : Fin 4) (k : Fin 8) (l : Fin 256) (g : Fin 8) (w : Fin 512) :
    res_main_v96 V0 (ix4 b (pos k l) g w) = yv (argsR V0) b k l g w := by
  rw [v96_eq]
  clean_types
  pointwise [skipV]
  rw [split_head, split_lane, split_place, split_chunk, split_pos, diag_apply, off_apply V0 hA, x_apply, gate_apply, inLane_hd]
  rfl

theorem out_apply (hA : (argsR V0).Ok) (b : Fin 4) (k : Fin 8) (l : Fin 256) (g : Fin 8) (w : Fin 512) :
    outV V0 (ix3 b (pos k l) (lane g w)) = rms (yv (argsR V0) b k l g) ((argsR V0).gain (lane g w)) w := by
  clean_types
  pointwise [outV]
  rw [split_group, split_rest]
  have e : ∀ w, res_main_v96 V0 (ix4 b ⟨k.val * 256 + l.val, by omega⟩ g w) = yv (argsR V0) b k l g w := v96_apply V0 hA b k l g
  simp only [e]
  rfl

theorem last_apply (hA : (argsR V0).Ok) (b : Fin 4) (g : Fin 8) (n : Fin 128) (w : Fin 512) :
    lastV V0 (ix4 b g n w) = st (argsR V0) b g n w 8 := by
  clean_types
  pointwise [lastV]
  refine (v74_apply V0 hA b g (hd w) 8 (pl w) n).trans ?_
  rw [inLane_hd]
  rfl

/-- The reference's run: both results as the specification gives them, the arguments unchanged. -/
theorem run_spec (m : (ℓ : Loc nD τ sig) → Buf (Elt Ideal) ℓ) (ρ : Dev nD → PrngReg) (hA : ∀ c, (argsR (launchContents m c)).Ok) :
    θ_run defs (onTc (τ := τ) (main (F := Ideal))) ⟨m, fun _ => 0, ρ⟩ fun r => ∀ c : Dev nD,
      r.2.mem ((c.tc : Thread nD τ).loc main_v110) = (fun i : S4x2048x4096.Idx => outAt (argsR (launchContents m c)) (i 0) (i 1) (i 2))
      ∧ r.2.mem ((c.tc : Thread nD τ).loc main_v112) = (fun i : S4x8x128x512.Idx => st (argsR (launchContents m c)) (i 0) (i 1) (i 2) (i 3) 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans ?_, (h c).2.1.trans ?_, (h c).2.2⟩) (run_terms m ρ)
  · funext i
    obtain ⟨k, l, hk⟩ : ∃ (k : Fin 8) (l : Fin 256), i 1 = pos k l :=
      ⟨⟨(i 1).val / 256, by have : (i 1).val < 2048 := (i 1).isLt; omega⟩, ⟨(i 1).val % 256, by omega⟩,
        Fin.ext (by show (i 1).val = (i 1).val / 256 * 256 + (i 1).val % 256; omega)⟩
    obtain ⟨g, w, hg⟩ : ∃ (g : Fin 8) (w : Fin 512), i 2 = lane g w :=
      ⟨⟨(i 2).val / 512, by have : (i 2).val < 4096 := (i 2).isLt; omega⟩, ⟨(i 2).val % 512, by omega⟩,
        Fin.ext (by show (i 2).val = (i 2).val / 512 * 512 + (i 2).val % 512; omega)⟩
    have e : i = ix3 (i 0) (pos k l) (lane g w) := by rw [← hk, ← hg]; funext a; fin_cases a <;> rfl
    show _ = outAt _ (i 0) (i 1) (i 2)
    refine (congrArg _ e).trans ((out_apply _ (hA c) (i 0) k l g w).trans ?_)
    rw [hk, hg]
    exact (outAt_eq (argsR (launchContents m c)) (i 0) k g l w).symm
  · funext i
    have e : i = ix4 (i 0) (i 1) (i 2) (i 3) := by funext a; fin_cases a <;> rfl
    exact (congrArg _ e).trans (last_apply _ (hA c) (i 0) (i 1) (i 2) (i 3))

end Cert.ReferenceIdeal.Value
-- ==== Proof.Steps.lean ====
/- What the condition on the arguments says: the numbers the steps and the decays are computed from are finite. -/
module

public import proofs.«01_k».proof.Defs
public import proofs.«01_k».proof.Proof.Gen.Pre_finite_steps
public import proofs.«01_k».proof.Proof.Spec
public import Idealize.ShloMosaic.Lib.Pointwise
public import Idealize.ShloMosaic.Lib.ReduceAll

@[expose] public section

set_option maxRecDepth 16384
noncomputable section

open Idealize.ShloMosaic

namespace Cert.Steps

open Cert.Chunk Cert.Pre_finite_steps

theorem top_word : Ideal.ofBits FTy.f32 2139095040#32 = ⊤ := by simp [Ideal.ofBits, Ideal.ieee]

/-- Below plus infinity in absolute value is finite. -/
theorem fin_of_below (x : EReal) (h : FloatOps.cmpf (F := Ideal) (φ := .f32) .olt (FloatOps.absf (F := Ideal) (φ := .f32) x) (Ideal.ofBits FTy.f32 2139095040#32) = 1#1) : Fin' x := by
  rw [top_word] at h
  have h' : max x (-x) < ⊤ := by
    by_contra hn
    have : FloatOps.cmpf (F := Ideal) (φ := .f32) .olt (FloatOps.absf (F := Ideal) (φ := .f32) x) (⊤ : EReal) = 0#1 := by
      show BitVec.ofBool (decide (max x (-x) < ⊤)) = 0#1
      rw [decide_eq_false hn]; rfl
    rw [this] at h
    exact absurd h (by decide)
  induction x with
  | bot => simp at h'
  | top => simp at h'
  | coe r => exact ⟨r, rfl⟩

instance : Subsingleton S_.Idx := ⟨fun a b => funext fun i => i.elim0⟩

theorem and_one {a b : BitVec 1} (h : IntOp.andi a b = 1#1) : a = 1#1 ∧ b = 1#1 := by
  revert a b
  decide

theorem decode (x0 : FVec Ideal S4x2048x10304 .f32) (x1 : FVec Ideal S4x2048x6144 .f32) (x2 x3 x4 : FVec Ideal S64 .f32)
    (x5 : FVec Ideal S4096 .f32) (x6 : FVec Ideal S4x64x64x128 .f32) (h : fn x0 x1 x2 x3 x4 x5 x6 = fun _ => 1#1) :
    (∀ b t (k : Fin 64), Fin' (x0 (ix3 b t ⟨10240 + k.val, by omega⟩))) ∧ (∀ k, Fin' (x2 (ix1 k))) ∧ ∀ k, Fin' (x3 (ix1 k)) := by
  have h0 := congrFun h ix0
  obtain ⟨h1, h3⟩ := and_one h0
  obtain ⟨h1, h2⟩ := and_one h1
  refine ⟨fun b t k => ?_, fun k => ?_, fun k => ?_⟩
  · have e := Host.reduce_andi_all _ _ _ _ _ h1 (ix3 b t k)
    refine fin_of_below _ (Eq.trans ?_ e)
    pointwise []
  · have e := Host.reduce_andi_all _ _ _ _ _ h2 (ix1 k)
    exact fin_of_below _ (Eq.trans (by pointwise []) e)
  · have e := Host.reduce_andi_all _ _ _ _ _ h3 (ix1 k)
    exact fin_of_below _ (Eq.trans (by pointwise []) e)

end Cert.Steps
-- ==== Proof.UpSpec.lean ====
/- The feed-forward part's first half as plain functions of its arguments: the product with the first layer's weights, the
   causal convolution of its first half over the history rows, and the gate. -/
module

public import Idealize.ShloMosaic.PureOps.Ideal

@[expose] public section

noncomputable section

open Idealize.ShloMosaic

namespace Cert.Up

/-- The arguments, as plain functions. -/
structure Args where
  x : Fin 4 → Fin 2048 → Fin 2048 → EReal
  hist : Fin 4 → Fin 2 → Fin 5632 → EReal
  w : Fin 2048 → Fin 11264 → EReal
  cw : Fin 3 → Fin 5632 → EReal
  cb : Fin 5632 → EReal

variable (A : Args)

/-- Entry (t, j) of batch `b`'s product with the weights. -/
def prod (b : Fin 4) (t : Fin 2048) (j : Fin 11264) : EReal := ∑ k : Fin 2048, A.x b t k * A.w k j

/-- The two column halves of the product. -/
def left (j : Fin 5632) : Fin 11264 := ⟨j.val, by omega⟩
def right (j : Fin 5632) : Fin 11264 := ⟨5632 + j.val, by omega⟩

/-- The two history rows and after them the product's first half. -/
def ah (b : Fin 4) (s : Fin 2050) (j : Fin 5632) : EReal :=
  if h : s.val < 2 then A.hist b ⟨s.val, h⟩ j else prod A b ⟨s.val - 2, by omega⟩ (left j)

/-- The causal convolution with three weights. -/
def conv (b : Fin 4) (t : Fin 2048) (j : Fin 5632) : EReal :=
  A.cb j + A.cw 0 j * ah A b ⟨t.val, by omega⟩ j + A.cw 1 j * ah A b ⟨1 + t.val, by omega⟩ j + A.cw 2 j * ah A b ⟨2 + t.val, by omega⟩ j

/-- The gate's function, with its constants as the programs print them. -/
def gelu (v : EReal) : EReal :=
  v * (Ideal.ofBits .f32 0x3F000000#32 * (1
    + Ideal.tanh (Ideal.ofBits .f32 0x3F4C422A#32 * (v + Ideal.ofBits .f32 0x3D372713#32 * (v * (v * v))))))

/-- The first result at batch `b`, row `t`, column `j`. -/
def outAt (b : Fin 4) (t : Fin 2048) (j : Fin 5632) : EReal := gelu (conv A b t j) * prod A b t (right j)

/-- The first result with its batches one after another. -/
def flat (r : Fin 8192) (j : Fin 5632) : EReal := outAt A ⟨r.val / 2048, by omega⟩ ⟨r.val % 2048, by omega⟩ j

/-- The second result: the last eight rows. -/
def tailAt (b : Fin 4) (r : Fin 8) (j : Fin 5632) : EReal := prod A b ⟨2040 + r.val, by omega⟩ (left j)

end Cert.Up
-- ==== Proof.UpBody.lean ====
/- The body of the feed-forward part's first launch, read at an index: what one grid point stores, as functions of the
   point's blocks. -/
module

public import proofs.«01_k».proof.Proof.Gen.Kernel2Ideal.Value
public import proofs.«01_k».proof.Proof.UpSpec
public import Idealize.ShloMosaic.Lib.Pipeline.ValueKit
public import Idealize.ShloMosaic.Lib.Pointwise
public import Idealize.ShloMosaic.Lib.WordCmp
public import Idealize.ShloMosaic.Lib.Pipeline.ReadBack

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

section Points
variable {F : FTy → Type} [FloatOps F]
variable (m : (ℓ : Loc nD τ sig) → Buf (Elt F) ℓ)

/-- `k` rows on in the scratch that holds the eight rows `H` and after them the rows `A`. -/
def shifted (A : FVec F S1024x512 .f32) (H : FVec F S8x512 .f32) (k : ℕ) (h : ∀ a, (![k, 0] : Fin 2 → ℕ) a + S1024x512.size a ≤ S1032x512.size a) :
    Vec F S1024x512 .f32 :=
  (View.whole cc0_scratch0).readCov [⟨Rect.unit (s := S1032x512) ![8, 0] S1024x512.size inb_S1032x512_S1024x512_8_0, k0_pay7 A⟩,
    ⟨Rect.unit (s := S1032x512) ![0, 0] S8x512.size inb_S1032x512_S8x512_0_0, k0_pay6 H⟩] (Rect.unit (s := S1032x512) ![k, 0] S1024x512.size h).toLoadRect

theorem tail_at (c : Dev nD) (t : Fin cfg0.N) : (outsAt0 m c t).2 = k0_pay1 (k0_pay3 (iblk m c 0 t) (iblk m c 3 t)) := by
  unfold outsAt0
  dsimp only
  frame_out

/-- What a point stores in the first result's buffer. -/
def outV (i : grid0.Coords) (x : Vec F S1024x2048 .bf16) (xh : Vec F S16x2048 .bf16) (hist : Vec F S1x8x512 .f32) (wa wg : Vec F S1x2048x512 .bf16)
    (cw : Vec F S3x512 .f32) (cb : Vec F S1x512 .f32) : FVec F S1024x512 .bf16 :=
  k0_pay8 (k0_pay4 x wg) cb
    (View.ld cw (Rect.unit (s := S3x512) ![0, 0] S1x512.size inb_S3x512_S1x512_0_0)) (shifted (k0_pay3 x wa) (k0_pay5 i xh wa hist) 6 inb_S1032x512_S1024x512_6_0)
    (View.ld cw (Rect.unit (s := S3x512) ![1, 0] S1x512.size inb_S3x512_S1x512_1_0)) (shifted (k0_pay3 x wa) (k0_pay5 i xh wa hist) 7 inb_S1032x512_S1024x512_7_0)
    (View.ld cw (Rect.unit (s := S3x512) ![2, 0] S1x512.size inb_S3x512_S1x512_2_0)) (shifted (k0_pay3 x wa) (k0_pay5 i xh wa hist) 8 inb_S1032x512_S1024x512_8_0)

theorem out_at (c : Dev nD) (t : Fin cfg0.N) : (outsAt0 m c t).1
    = outV (grid0.coords t) (iblk m c 0 t) (iblk m c 1 t) (iblk m c 2 t) (iblk m c 3 t) (iblk m c 4 t) (iblk m c 5 t) (iblk m c 6 t) := by
  unfold outsAt0
  dsimp only
  frame_out
  rfl

end Points

/-! ## The payloads at an index, over the extended reals -/

/-- Row `r` of the scratch. -/
def row (A : FVec Ideal S1024x512 .f32) (H : FVec Ideal S8x512 .f32) (r : Fin 1032) (n : Fin 512) : EReal :=
  if h : r.val < 8 then H (ix2 ⟨r.val, h⟩ n) else A (ix2 ⟨r.val - 8, by omega⟩ n)

theorem shifted_apply (A : FVec Ideal S1024x512 .f32) (H : FVec Ideal S8x512 .f32) (k : ℕ)
    (h : ∀ a, (![k, 0] : Fin 2 → ℕ) a + S1024x512.size a ≤ S1032x512.size a) (hk : k ≤ 8) (l : Fin 1024) (n : Fin 512) :
    shifted A H k h (ix2 l n) = row A H ⟨k + l.val, by omega⟩ n := by
  unfold shifted row
  rw [View.readCov_eq_canon']
  show View.canon _ _ = _
  by_cases hl : k + l.val < 8
  · rw [dif_pos hl]
    rw [View.canon_cons_of_not_mem]
    · have e : (Rect.unit (s := S1032x512) ![k, 0] S1024x512.size h).toLoadRect.idx (ix2 l n)
          = (Rect.unit (s := S1032x512) ![0, 0] S8x512.size inb_S1032x512_S8x512_0_0).emb (ix2 ⟨k + l.val, hl⟩ n) := by
        funext a; apply Fin.ext
        fin_cases a
        · show k + 1 * l.val = 0 + 1 * (k + l.val); omega
        · show 0 + 1 * n.val = 0 + 1 * n.val; omega
      refine (congrArg (View.canon _) e).trans ?_
      refine (View.canon_cons_emb (Rect.unit (s := S1032x512) ![0, 0] S8x512.size inb_S1032x512_S8x512_0_0) _ _ _).trans ?_
      pointwise [k0_pay6]
    · intro hm
      obtain ⟨q, hq1, hq2⟩ := (LoadRect.mem_set _).mp hm 0
      have e : k + 1 * l.val = 8 + 1 * q := hq2
      omega
  · rw [dif_neg hl]
    have e : (Rect.unit (s := S1032x512) ![k, 0] S1024x512.size h).toLoadRect.idx (ix2 l n)
        = (Rect.unit (s := S1032x512) ![8, 0] S1024x512.size inb_S1032x512_S1024x512_8_0).emb (ix2 ⟨k + l.val - 8, by omega⟩ n) := by
      funext a; apply Fin.ext
      fin_cases a
      · show k + 1 * l.val = 8 + 1 * (k + l.val - 8); omega
      · show 0 + 1 * n.val = 0 + 1 * n.val; omega
    refine (congrArg (View.canon _) e).trans ?_
    refine (View.canon_cons_emb (Rect.unit (s := S1032x512) ![8, 0] S1024x512.size inb_S1032x512_S1024x512_8_0) _ _ _).trans ?_
    pointwise [k0_pay7]

theorem a_apply (x : Vec Ideal S1024x2048 .bf16) (w : Vec Ideal S1x2048x512 .bf16) (l : Fin 1024) (n : Fin 512) :
    k0_pay3 x w (ix2 l n) = ∑ k : Fin 2048, x (ix2 l k) * w (ix3 0 k n) := by
  pointwise [k0_pay3, k0_pay2]

theorem g_apply (x : Vec Ideal S1024x2048 .bf16) (w : Vec Ideal S1x2048x512 .bf16) (l : Fin 1024) (n : Fin 512) :
    k0_pay4 x w (ix2 l n) = ∑ k : Fin 2048, x (ix2 l k) * w (ix3 0 k n) := by
  pointwise [k0_pay4, k0_pay2]

theorem tail_apply (x : Vec Ideal S1024x2048 .bf16) (w : Vec Ideal S1x2048x512 .bf16) (r : Fin 8) (n : Fin 512) :
    k0_pay1 (k0_pay3 x w) (ix3 0 r n) = ∑ k : Fin 2048, x (ix2 ⟨1016 + r.val, by omega⟩ k) * w (ix3 0 k n) := by
  pointwise [k0_pay1, k0_pay3, k0_pay2]

/-- The word the point compares to see whether its rows start a sequence. -/
theorem starts_word : ∀ i : Fin 8, Scalar.cmpi CmpIPredicate.eq
        (Scalar.select
          (Scalar.andi
            (Scalar.xori
              (Scalar.cmpi CmpIPredicate.slt
                (Scalar.remsi (BitVec.ofNat 32 i.val)
                  (Scalar.select (Scalar.cmpi CmpIPredicate.eq 2#32 0#32) 1#32 2#32))
                0#32)
              (Scalar.cmpi CmpIPredicate.slt (Scalar.select (Scalar.cmpi CmpIPredicate.eq 2#32 0#32) 1#32 2#32) 0#32))
            (Scalar.cmpi CmpIPredicate.ne
              (Scalar.remsi (BitVec.ofNat 32 i.val) (Scalar.select (Scalar.cmpi CmpIPredicate.eq 2#32 0#32) 1#32 2#32))
              0#32))
          (Scalar.addi
            (Scalar.remsi (BitVec.ofNat 32 i.val) (Scalar.select (Scalar.cmpi CmpIPredicate.eq 2#32 0#32) 1#32 2#32))
            (Scalar.select (Scalar.cmpi CmpIPredicate.eq 2#32 0#32) 1#32 2#32))
          (Scalar.remsi (BitVec.ofNat 32 i.val) (Scalar.select (Scalar.cmpi CmpIPredicate.eq 2#32 0#32) 1#32 2#32)))
        0#32 = if i.val % 2 = 0 then 1#1 else 0#1 := by decide +kernel

theorem head_apply (i : grid0.Coords) (xh : Vec Ideal S16x2048 .bf16) (w : Vec Ideal S1x2048x512 .bf16) (hist : Vec Ideal S1x8x512 .f32) (r : Fin 8) (n : Fin 512) :
    k0_pay5 i xh w hist (ix2 r n) = if (i 1).val % 2 = 0 then hist (ix3 0 r n) else ∑ k : Fin 2048, xh (ix2 ⟨8 + r.val, by omega⟩ k) * w (ix3 0 k n) := by
  pointwise [k0_pay5]
  refine (congrArg (fun u => Scalar.select u _ _) (starts_word (i 1))).trans ?_
  by_cases h : (i 1).val % 2 = 0
  · rw [if_pos h, if_pos h]
    rfl
  · rw [if_neg h, if_neg h]
    rfl

theorem out_apply (i : grid0.Coords) (x : Vec Ideal S1024x2048 .bf16) (xh : Vec Ideal S16x2048 .bf16) (hist : Vec Ideal S1x8x512 .f32) (wa wg : Vec Ideal S1x2048x512 .bf16)
    (cw : Vec Ideal S3x512 .f32) (cb : Vec Ideal S1x512 .f32) (l : Fin 1024) (n : Fin 512) :
    outV i x xh hist wa wg cw cb (ix2 l n)
      = Up.gelu (cb (ix2 0 n) + cw (ix2 0 n) * row (k0_pay3 x wa) (k0_pay5 i xh wa hist) ⟨6 + l.val, by omega⟩ n
          + cw (ix2 1 n) * row (k0_pay3 x wa) (k0_pay5 i xh wa hist) ⟨7 + l.val, by omega⟩ n
          + cw (ix2 2 n) * row (k0_pay3 x wa) (k0_pay5 i xh wa hist) ⟨8 + l.val, by omega⟩ n)
        * ∑ k : Fin 2048, x (ix2 l k) * wg (ix3 0 k n) := by
  unfold outV
  pointwise [k0_pay8]
  rw [shifted_apply _ _ _ _ (by omega), shifted_apply _ _ _ _ (by omega), shifted_apply _ _ _ _ (by omega), g_apply]
  rfl

end Cert.Kernel2Ideal.Value
-- ==== Proof.UpFinal.lean ====
/- The feed-forward part's first launch over its whole grid: the arrays it is given, its blocks at an index, and its two
   result arrays. -/
module

public import proofs.«01_k».proof.Proof.UpBody
public import Idealize.ShloMosaic.Lib.StableHlo.Run
public import Idealize.ShloMosaic.Lib.Pipeline.Covers

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel2Ideal.Value

open Cert.Kernel2Ideal Cert.Kernel2Ideal.Gen

section Arrays
variable {F : FTy → Type} [FloatOps F]
variable (m : (ℓ : Loc nD τ sig) → Buf (Elt F) ℓ) (c : Dev nD)

abbrev aX : FVec F S4x2048x2048 .f32 := m (c.tc.loc main_arg0)
abbrev aHist : FVec F S4x2x5632 .f32 := m (c.tc.loc main_arg1)
abbrev aW : FVec F S4x2048x11264 .f32 := m (c.tc.loc main_arg2)
abbrev aCw : FVec F S3x5632 .f32 := m (c.tc.loc main_arg3)
abbrev aCb : FVec F S5632 .f32 := m (c.tc.loc main_arg4)

def xV : FVec F S8192x2048 .bf16 := shapeCast S8192x2048 (truncf .bf16 (aX m c) bitsLt_bf16_f32) shapeCasts_S4x2048x2048_S8192x2048
def wV : FVec F S4x2048x11264 .bf16 := truncf .bf16 (aW m c) bitsLt_bf16_f32
def histV : FVec F S4x8x5632 .f32 :=
  pad S4x8x5632 ![0, 6, 0] ![0, 0, 0] ![0, 0, 0] (aHist m c) (sitofp .f32 (constantI S_ 32 0#32)) pads_S4x2x5632_S4x8x5632_000_600_000
def cbV : FVec F S1x5632 .f32 := shapeCast S1x5632 (aCb m c) shapeCasts_S5632_S1x5632

theorem V_x : V m c main_v2 = xV m c := by
  unfold_abbrev_sides
  simp only [hostOps0, hostOps0_1, hostOps0_2, List.flatten_cons, List.flatten_nil, List.cons_append,
    List.nil_append, List.append_nil]
  after_results
  rfl
theorem V_w : V m c main_v1 = wV m c := by
  unfold_abbrev_sides
  simp only [hostOps0, hostOps0_1, hostOps0_2, List.flatten_cons, List.flatten_nil, List.cons_append,
    List.nil_append, List.append_nil]
  after_results
  rfl
theorem V_hist : V m c main_v3 = histV m c := by
  unfold_abbrev_sides
  simp only [hostOps0, hostOps0_1, hostOps0_2, List.flatten_cons, List.flatten_nil, List.cons_append,
    List.nil_append, List.append_nil]
  after_results
  rfl
theorem V_cw : V m c main_arg3 = aCw m c := by
  unfold_abbrev_sides
  simp only [hostOps0, hostOps0_1, hostOps0_2, List.flatten_cons, List.flatten_nil, List.cons_append,
    List.nil_append, List.append_nil]
  after_results
theorem V_cb : V m c main_v4 = cbV m c := by
  unfold_abbrev_sides
  simp only [hostOps0, hostOps0_1, hostOps0_2, List.flatten_cons, List.flatten_nil, List.cons_append,
    List.nil_append, List.append_nil]
  after_results
  rfl
end Arrays

variable (m : (ℓ : Loc nD τ sig) → Buf (Elt Ideal) ℓ) (c : Dev nD)

/-- The arguments of the launch's program, as plain functions. -/
def argsK : Up.Args where
  x b t k := aX m c (ix3 b t k)
  hist b s j := aHist m c (ix3 b s j)
  w k j := aW m c (ix3 0 k j)
  cw k j := aCw m c (ix2 k j)
  cb j := aCb m c (ix1 j)

theorem x_apply (r : Fin 8192) (k : Fin 2048) : xV m c (ix2 r k) = (argsK m c).x ⟨r.val / 2048, by omega⟩ ⟨r.val % 2048, by omega⟩ k := by
  pointwise [xV]
  rfl
theorem w_apply (k : Fin 2048) (j : Fin 11264) : wV m c (ix3 0 k j) = (argsK m c).w k j := by
  pointwise [wV]
  rfl
theorem hist_apply (b : Fin 4) (s : Fin 2) (j : Fin 5632) : histV m c (ix3 b ⟨6 + s.val, by omega⟩ j) = (argsK m c).hist b s j := by
  pointwise [histV]
  rfl
theorem cb_apply (j : Fin 5632) : cbV m c (ix2 0 j) = (argsK m c).cb j := by
  pointwise [cbV]
  rfl

/-- The batch, the row tile within it and the column tile of a grid point. -/
def pb (t : Fin cfg0.N) : Fin 4 := ⟨t.val % 8 / 2, by omega⟩
def pt (t : Fin cfg0.N) : Fin 2 := ⟨t.val % 2, by omega⟩
def pj (t : Fin cfg0.N) : Fin 11 := ⟨t.val / 8, by have := t.isLt; have e : cfg0.N = 88 := N_0; omega⟩
/-- A row of a batch, by its tile; a column, by its tile. -/
def rowOf (q : Fin 2) (l : Fin 1024) : Fin 2048 := ⟨q.val * 1024 + l.val, by omega⟩
def colOf (j : Fin 11) (n : Fin 512) : Fin 5632 := ⟨j.val * 512 + n.val, by omega⟩

theorem place : ∀ t : Fin cfg0.N,
    (cfg0.win 0).index t = ![t.val % 8, 0]
    ∧ (cfg0.win 1).index t = ![t.val % 8 * 64 - 1, 0]
    ∧ (cfg0.win 2).index t = ![t.val % 8 / 2, 0, t.val / 8]
    ∧ (cfg0.win 3).index t = ![0, 0, t.val / 8]
    ∧ (cfg0.win 4).index t = ![0, 0, 11 + t.val / 8]
    ∧ (cfg0.win 5).index t = ![0, t.val / 8]
    ∧ (cfg0.win 6).index t = ![0, t.val / 8]
    ∧ (cfg0.win 7).index t = ![t.val % 8, t.val / 8]
    ∧ (cfg0.win 8).index t = ![t.val % 8 / 2, 0, t.val / 8] := by decide +kernel

theorem coord : ∀ t : Fin cfg0.N, (grid0.coords t 1).val = t.val % 8 := by decide +kernel

variable (t : Fin cfg0.N)

theorem blk0 (l : Fin 1024) (k : Fin 2048) : iblk m c 0 t (ix2 l k) = (argsK m c).x (pb t) (rowOf (pt t) l) k := by
  have e := x_apply m c ⟨t.val % 8 * 1024 + l.val, by omega⟩ k
  have e1 : (⟨(t.val % 8 * 1024 + l.val) / 2048, by omega⟩ : Fin 4) = pb t := Fin.ext (by show (t.val % 8 * 1024 + l.val) / 2048 = t.val % 8 / 2; omega)
  have e2 : (⟨(t.val % 8 * 1024 + l.val) % 2048, by omega⟩ : Fin 2048) = rowOf (pt t) l :=
    Fin.ext (by show (t.val % 8 * 1024 + l.val) % 2048 = t.val % 2 * 1024 + l.val; omega)
  rw [← e1, ← e2]
  refine Eq.trans ?_ e
  rw [← V_x]
  blk_ext [iblk, place t]

theorem blk1 (h : t.val % 2 = 1) (r : Fin 8) (hr : 6 ≤ r.val) (k : Fin 2048) :
    iblk m c 1 t (ix2 ⟨8 + r.val, by omega⟩ k) = (argsK m c).x (pb t) ⟨1016 + r.val, by omega⟩ k := by
  have e := x_apply m c ⟨t.val % 8 * 1024 - 8 + r.val, by omega⟩ k
  have e1 : (⟨(t.val % 8 * 1024 - 8 + r.val) / 2048, by omega⟩ : Fin 4) = pb t := Fin.ext (by show (t.val % 8 * 1024 - 8 + r.val) / 2048 = t.val % 8 / 2; omega)
  have e2 : (⟨(t.val % 8 * 1024 - 8 + r.val) % 2048, by omega⟩ : Fin 2048) = ⟨1016 + r.val, by omega⟩ :=
    Fin.ext (by show (t.val % 8 * 1024 - 8 + r.val) % 2048 = 1016 + r.val; omega)
  rw [← e1, ← e2]
  refine Eq.trans ?_ e
  rw [← V_x]
  blk_ext [iblk, place t]

theorem blk2 (s : Fin 2) (n : Fin 512) : iblk m c 2 t (ix3 0 ⟨6 + s.val, by omega⟩ n) = (argsK m c).hist (pb t) s (colOf (pj t) n) := by
  rw [← hist_apply, ← V_hist]
  blk_ext [iblk, place t, pb, pj, colOf]

theorem blk3 (k : Fin 2048) (n : Fin 512) : iblk m c 3 t (ix3 0 k n) = (argsK m c).w k (Up.left (colOf (pj t) n)) := by
  rw [← w_apply, ← V_w]
  blk_ext [iblk, place t, pj, colOf, Up.left]

theorem blk4 (k : Fin 2048) (n : Fin 512) : iblk m c 4 t (ix3 0 k n) = (argsK m c).w k (Up.right (colOf (pj t) n)) := by
  rw [← w_apply, ← V_w]
  blk_ext [iblk, place t, pj, colOf, Up.right]

theorem blk5 (k : Fin 3) (n : Fin 512) : iblk m c 5 t (ix2 k n) = (argsK m c).cw k (colOf (pj t) n) := by
  show _ = aCw m c (ix2 k (colOf (pj t) n))
  rw [← V_cw]
  blk_ext [iblk, place t, pj, colOf]

theorem blk6 (n : Fin 512) : iblk m c 6 t (ix2 0 n) = (argsK m c).cb (colOf (pj t) n) := by
  rw [← cb_apply, ← V_cb]
  blk_ext [iblk, place t, pj, colOf]

/-- The scratch from its sixth row on is the point's part of the extended rows. -/
theorem row_eq (q : ℕ) (hq : q < 1026) (n : Fin 512) :
    row (k0_pay3 (iblk m c 0 t) (iblk m c 3 t)) (k0_pay5 (grid0.coords t) (iblk m c 1 t) (iblk m c 3 t) (iblk m c 2 t)) ⟨6 + q, by omega⟩ n
      = Up.ah (argsK m c) (pb t) ⟨(pt t).val * 1024 + q, by omega⟩ (colOf (pj t) n) := by
  unfold row Up.ah
  by_cases hq2 : q < 2
  · rw [dif_pos (by show 6 + q < 8; omega), head_apply, coord]
    by_cases ht : t.val % 2 = 0
    · have hp : (pt t).val = 0 := ht
      rw [if_pos (by omega), dif_pos (by show (pt t).val * 1024 + q < 2; omega)]
      refine (blk2 m c t ⟨q, hq2⟩ n).trans ?_
      exact congrArg (fun s => (argsK m c).hist (pb t) s _) (Fin.ext (by show q = (pt t).val * 1024 + q; omega))
    · have hp : (pt t).val = 1 := by show t.val % 2 = 1; omega
      rw [if_neg (by omega), dif_neg (by show ¬ (pt t).val * 1024 + q < 2; omega)]
      unfold Up.prod
      refine Finset.sum_congr rfl fun k _ => ?_
      rw [blk3]
      refine congrArg (· * _) ?_
      refine (blk1 m c t (by omega) ⟨6 + q, by omega⟩ (by show 6 ≤ 6 + q; omega) k).trans ?_
      exact congrArg (fun s => (argsK m c).x (pb t) s k) (Fin.ext (by show 1016 + (6 + q) = (pt t).val * 1024 + q - 2; omega))
  · rw [dif_neg (by show ¬ 6 + q < 8; omega), dif_neg (by show ¬ (pt t).val * 1024 + q < 2; omega), a_apply]
    unfold Up.prod
    refine Finset.sum_congr rfl fun k _ => ?_
    rw [blk3, blk0]
    refine congrArg (· * _) ?_
    exact congrArg (fun s => (argsK m c).x (pb t) s k) (Fin.ext (by show (pt t).val * 1024 + (6 + q - 8) = (pt t).val * 1024 + q - 2; omega))

theorem out_point (l : Fin 1024) (n : Fin 512) :
    (outsAt0 m c t).1 (ix2 l n) = Up.outAt (argsK m c) (pb t) (rowOf (pt t) l) (colOf (pj t) n) := by
  rw [out_at, out_apply, blk6, blk5, blk5, blk5]
  unfold Up.outAt Up.conv
  refine congrArg₂ (· * ·) (congrArg Up.gelu ?_) ?_
  · refine congrArg₂ (· + ·) (congrArg₂ (· + ·) (congrArg ((argsK m c).cb (colOf (pj t) n) + (argsK m c).cw 0 (colOf (pj t) n) * ·) ?_) (congrArg (fun u => _ * u) ?_)) (congrArg (fun u => _ * u) ?_)
    · exact (row_eq m c t l.val (by omega) n).trans (congrArg (fun s => Up.ah _ _ s _) (Fin.ext (by show _ = (pt t).val * 1024 + l.val; rfl)))
    · refine Eq.trans ?_ ((row_eq m c t (1 + l.val) (by omega) n).trans (congrArg (fun s => Up.ah _ _ s _)
        (Fin.ext (by show (pt t).val * 1024 + (1 + l.val) = 1 + ((pt t).val * 1024 + l.val); omega))))
      exact congrArg (fun r => row _ _ r n) (Fin.ext (by show 7 + l.val = 6 + (1 + l.val); omega))
    · refine Eq.trans ?_ ((row_eq m c t (2 + l.val) (by omega) n).trans (congrArg (fun s => Up.ah _ _ s _)
        (Fin.ext (by show (pt t).val * 1024 + (2 + l.val) = 2 + ((pt t).val * 1024 + l.val); omega))))
      exact congrArg (fun r => row _ _ r n) (Fin.ext (by show 8 + l.val = 6 + (2 + l.val); omega))
  · unfold Up.prod
    simp only [blk0, blk4]

theorem tail_point (h : t.val % 2 = 1) (r : Fin 8) (n : Fin 512) :
    (outsAt0 m c t).2 (ix3 0 r n) = Up.tailAt (argsK m c) (pb t) r (colOf (pj t) n) := by
  rw [tail_at, tail_apply]
  unfold Up.tailAt Up.prod
  simp only [blk0, blk3]
  have e : rowOf (pt t) ⟨1016 + r.val, by omega⟩ = ⟨2040 + r.val, by omega⟩ :=
    Fin.ext (by show t.val % 2 * 1024 + (1016 + r.val) = 2040 + r.val; omega)
  rw [e]

/-- The first result array. -/
theorem final_out : (dats m 0 c).arrAt 7 cfg0.N = fun i : S8192x5632.Idx => Up.flat (argsK m c) (i 0) (i 1) := by
  refine (dats m 0 c).arrAt_eq_of_covers 7 _ ((cfg0.win 7).covers_of_index_surj rfl (by decide) fun β => ?_) fun t hf y => ?_
  · have h0 : (β 0).val < 8 := (β 0).isLt
    have h1 : (β 1).val < 11 := (β 1).isLt
    refine ⟨⟨(β 1).val * 8 + (β 0).val, by show _ < 88; omega⟩, fun a => ?_⟩
    rw [(place _).2.2.2.2.2.2.2.1]
    fin_cases a
    · show ((β 1).val * 8 + (β 0).val) % 8 = (β 0).val
      omega
    · show ((β 1).val * 8 + (β 0).val) / 8 = (β 1).val
      omega
  · blk_simp
    rw [after0_7]
    idx_vars y
    rw [out_point m c t]
    have e : ((View.whole main_v5_0).slice (win0_7.rect t)).emb (ix2 y0 y1) = ix2 ⟨t.val % 8 * 1024 + y0.val, by omega⟩ (colOf (pj t) y1) := by
      blk_ext [place t, pj, colOf]
    rw [e]
    have e1 : (⟨(t.val % 8 * 1024 + y0.val) / 2048, by omega⟩ : Fin 4) = pb t := Fin.ext (by show (t.val % 8 * 1024 + y0.val) / 2048 = t.val % 8 / 2; omega)
    have e2 : (⟨(t.val % 8 * 1024 + y0.val) % 2048, by omega⟩ : Fin 2048) = rowOf (pt t) y0 :=
      Fin.ext (by show (t.val % 8 * 1024 + y0.val) % 2048 = t.val % 2 * 1024 + y0.val; omega)
    rw [← e1, ← e2]
    rfl

/-- The second result array. -/
theorem final_tail : (dats m 0 c).arrAt 8 cfg0.N = fun i : S4x8x5632.Idx => Up.tailAt (argsK m c) (i 0) (i 1) (i 2) := by
  refine (dats m 0 c).arrAt_eq_of_covers 8 _ ((cfg0.win 8).covers_of_index_surj rfl (by decide) fun β => ?_) fun t hf y => ?_
  · have h0 : (β 0).val < 4 := (β 0).isLt
    have h1 : (β 1).val < 1 := (β 1).isLt
    have h2 : (β 2).val < 11 := (β 2).isLt
    refine ⟨⟨(β 2).val * 8 + (β 0).val * 2, by show _ < 88; omega⟩, fun a => ?_⟩
    rw [(place _).2.2.2.2.2.2.2.2]
    fin_cases a
    · show ((β 2).val * 8 + (β 0).val * 2) % 8 / 2 = (β 0).val
      omega
    · show 0 = (β 1).val
      omega
    · show ((β 2).val * 8 + (β 0).val * 2) / 8 = (β 2).val
      omega
  · have h7 : t.val % 2 = 1 := (flush0_8 t).mp hf
    blk_simp
    rw [after0_8]
    idx_vars y
    obtain rfl : y0 = 0 := Subsingleton.elim _ _
    rw [tail_point m c t h7]
    have e : ((View.whole main_v5_1).slice (win0_8.rect t)).emb (ix3 0 y1 y2) = ix3 (pb t) y1 (colOf (pj t) y2) := by
      blk_ext [place t, pb, pj, colOf]
    rw [e]
    rfl

/-- The launch's run: both results as the specification gives them, the arguments unchanged. -/
theorem run_spec (ρ : Dev nD → PrngReg) :
    θ_run defs (onTc (τ := τ) (main (F := Ideal))) ⟨m, fun _ => 0, ρ⟩ fun r => ∀ c : Dev nD,
      r.2.mem ((c : Thread nD τ).loc main_v5_0) = (fun i : S8192x5632.Idx => Up.flat (argsK m c) (i 0) (i 1))
      ∧ r.2.mem ((c : Thread nD τ).loc main_v5_1) = (fun i : S4x8x5632.Idx => Up.tailAt (argsK m c) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_tail m c), (h c).2.2⟩)
    (run_blocks m ρ)

end Cert.Kernel2Ideal.Value
-- ==== Proof.UpRef.lean ====
/- The reference's run of the feed-forward part's first half: its two results at an index. -/
module

public import proofs.«01_k».proof.Proof.Gen.Reference2Ideal.Run
public import proofs.«01_k».proof.Proof.UpSpec
public import Idealize.ShloMosaic.Lib.Pointwise
public import Idealize.ShloMosaic.Lib.WordCmp
public import Idealize.ShloMosaic.Lib.Tactic.CleanTypes

@[expose] public section

set_option maxRecDepth 16384
set_option maxHeartbeats 1000000
noncomputable section

open Idealize.ShloMosaic Idealize.ShloMosaic.TcCoe Idealize.SL.Sem Idealize.ShloMosaic.StableHlo

namespace Cert.Reference2Ideal.Value

open Cert.Reference2Ideal Cert.Reference2Ideal.Gen

variable (m : (ℓ : Loc nD τ sig) → Buf (Elt Ideal) ℓ) (c : Dev nD)

abbrev aX : FVec Ideal S4x2048x2048 .f32 := m (c.tc.loc main_arg0)
abbrev aHist : FVec Ideal S4x2x5632 .f32 := m (c.tc.loc main_arg1)
abbrev aW : FVec Ideal S4x2048x11264 .f32 := m (c.tc.loc main_arg2)
abbrev aCw : FVec Ideal S3x5632 .f32 := m (c.tc.loc main_arg3)
abbrev aCb : FVec Ideal S5632 .f32 := m (c.tc.loc main_arg4)

/-- The reference's arguments, as plain functions. -/
def argsR : Up.Args where
  x b t k := aX m c (ix3 b t k)
  hist b s j := aHist m c (ix3 b s j)
  w k j := aW m c (ix3 0 k j)
  cw k j := aCw m c (ix2 k j)
  cb j := aCb m c (ix1 j)

/-- The product with the first layer's weights. -/
def prodV : FVec Ideal S4x2048x11264 .f32 :=
  Host.dotGeneral dot_S4x2048x2048_S2048x11264_S4x2048x11264_2_0_01_1_n_n none (aX m c)
    (shapeCast _ (extractStridedSlice S1x2048x11264 ![0, 0, 0] (aW m c) slices_S4x2048x11264_S1x2048x11264_0_0_0) shapeCasts_S1x2048x11264_S2048x11264)

/-- The history rows and after them the product's first half. -/
def ahV : FVec Ideal S4x2050x5632 .f32 :=
  concatenate S4x2050x5632 1 [⟨S4x2x5632, aHist m c⟩, ⟨S4x2048x5632, extractStridedSlice S4x2048x5632 ![0, 0, 0] (prodV m c) slices_S4x2048x11264_S4x2048x5632_0_0_0⟩]
    concatenates_S4x2x5632_S4x2048x5632_S4x2050x5632_d1

theorem prod_apply (b : Fin 4) (t : Fin 2048) (j : Fin 11264) : prodV m c (ix3 b t j) = Up.prod (argsR m c) b t j := by
  clean_types
  pointwise [prodV]
  rfl

theorem ah_apply (b : Fin 4) (s : Fin 2050) (j : Fin 5632) : ahV m c (ix3 b s j) = Up.ah (argsR m c) b s j := by
  unfold Up.ah
  clean_types
  by_cases h : s.val < 2
  · rw [dif_pos h]
    pointwise [ahV]
    rw [dif_pos h]
    rfl
  · rw [dif_neg h, ← prod_apply]
    pointwise [ahV]
    rw [dif_neg h]
    rfl

/-- The convolution. -/
def convV : FVec Ideal S4x2048x5632 .f32 :=
  addf (addf (addf (broadcastInDim S4x2048x5632 ![0, 1, 2] bcast_S1x1x5632_S4x2048x5632_0_1_2 (broadcastInDim S1x1x5632 ![2] bcast_S5632_S1x1x5632_2 (aCb m c)))
    (mulf (broadcastInDim S4x2048x5632 ![0, 1, 2] bcast_S1x1x5632_S4x2048x5632_0_1_2 (broadcastInDim S1x1x5632 ![2] bcast_S5632_S1x1x5632_2 (shapeCast _ (extractStridedSlice S1x5632 ![0, 0] (aCw m c) slices_S3x5632_S1x5632_0_0) shapeCasts_S1x5632_S5632))) (extractStridedSlice S4x2048x5632 ![0, 0, 0] (ahV m c) slices_S4x2050x5632_S4x2048x5632_0_0_0)))
    (mulf (broadcastInDim S4x2048x5632 ![0, 1, 2] bcast_S1x1x5632_S4x2048x5632_0_1_2 (broadcastInDim S1x1x5632 ![2] bcast_S5632_S1x1x5632_2 (shapeCast _ (extractStridedSlice S1x5632 ![1, 0] (aCw m c) slices_S3x5632_S1x5632_1_0) shapeCasts_S1x5632_S5632))) (extractStridedSlice S4x2048x5632 ![0, 1, 0] (ahV m c) slices_S4x2050x5632_S4x2048x5632_0_1_0)))
    (mulf (broadcastInDim S4x2048x5632 ![0, 1, 2] bcast_S1x1x5632_S4x2048x5632_0_1_2 (broadcastInDim S1x1x5632 ![2] bcast_S5632_S1x1x5632_2 (shapeCast _ (extractStridedSlice S1x5632 ![2, 0] (aCw m c) slices_S3x5632_S1x5632_2_0) shapeCasts_S1x5632_S5632))) (extractStridedSlice S4x2048x5632 ![0, 2, 0] (ahV m c) slices_S4x2050x5632_S4x2048x5632_0_2_0))

/-- The first result. -/
def outV : FVec Ideal S8192x5632 .bf16 :=
  truncf .bf16 (shapeCast _ (mulf (mulf (convV m c) (mulf (broadcastInDim S4x2048x5632 ![] bcast_S_S4x2048x5632 (constant S_ .f32 0x3F000000#32)) (addf (broadcastInDim S4x2048x5632 ![] bcast_S_S4x2048x5632 (constant S_ .f32 0x3F800000#32)) (Host.tanh (mulf (broadcastInDim S4x2048x5632 ![] bcast_S_S4x2048x5632 (constant S_ .f32 0x3F4C422A#32)) (addf (convV m c) (mulf (broadcastInDim S4x2048x5632 ![] bcast_S_S4x2048x5632 (constant S_ .f32 0x3D372713#32)) (mulf (mulf (convV m c) (convV m c)) (convV m c))))))))) (extractStridedSlice S4x2048x5632 ![0, 0, 5632] (prodV m c) slices_S4x2048x11264_S4x2048x5632_0_0_5632)) shapeCasts_S4x2048x5632_S8192x5632) bitsLt_bf16_f32

theorem out_eq : res_main_v44 m c = outV m c := rfl

theorem conv_apply (b : Fin 4) (t : Fin 2048) (j : Fin 5632) : convV m c (ix3 b t j) = Up.conv (argsR m c) b t j := by
  clean_types
  pointwise [convV]
  simp only [ah_apply]
  rfl

theorem out_apply (r : Fin 8192) (j : Fin 5632) :
    outV m c (ix2 r j) = Up.flat (argsR m c) r j := by
  clean_types
  pointwise [outV]
  simp only [conv_apply, prod_apply]
  rw [mul_comm (_ * _ : EReal) (Up.conv _ _ _ _)]
  rfl

/-- The second result. -/
def tailV : FVec Ideal S4x8x5632 .f32 := extractStridedSlice S4x8x5632 ![0, 2042, 0] (ahV m c) slices_S4x2050x5632_S4x8x5632_0_2042_0

theorem tail_apply (b : Fin 4) (r : Fin 8) (j : Fin 5632) : tailV m c (ix3 b r j) = Up.tailAt (argsR m c) b r j := by
  clean_types
  pointwise [tailV]
  rw [ah_apply]
  unfold Up.ah Up.tailAt
  rw [dif_neg (by show ¬(2042 + r.val < 2); omega)]
  exact congrArg (fun t => Up.prod _ b t _) (Fin.ext (by show 2042 + r.val - 2 = 2040 + r.val; omega))

/-- The reference's run: both results as the specification gives them, the arguments unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v44) = (fun i : S8192x5632.Idx => Up.flat (argsR m c) (i 0) (i 1))
      ∧ r.2.mem ((c.tc : Thread nD τ).loc main_v45) = (fun i : S4x8x5632.Idx => Up.tailAt (argsR m c) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (run m ρ)
  · rw [out_eq]
    funext i
    have e : i = ix2 (i 0) (i 1) := by funext a; fin_cases a <;> rfl
    exact (congrArg _ e).trans (out_apply m c (i 0) (i 1))
  · funext i
    have e : i = ix3 (i 0) (i 1) (i 2) := by funext a; fin_cases a <;> rfl
    exact (congrArg (tailV m c) e).trans (tail_apply m c (i 0) (i 1) (i 2))

end Cert.Reference2Ideal.Value
-- ==== Proof.DownSpec.lean ====
/- The feed-forward part's second half as plain functions of its arguments: the product with the last layer's weights, the
   residual sum and the layer norm. The product's sum is also taken in four stretches. -/
module

public import Idealize.ShloMosaic.PureOps.Ideal
public import Idealize.ShloMosaic.Lib.Pipeline.ValueKit.Acc

@[expose] public section

noncomputable section

open Idealize.ShloMosaic

namespace Cert.Down

/-- The arguments, as plain functions. -/
structure Args where
  h : Fin 4 → Fin 2048 → Fin 5632 → EReal
  w : Fin 5632 → Fin 2048 → EReal
  x : Fin 4 → Fin 2048 → Fin 2048 → EReal
  g : Fin 2048 → EReal
  b : Fin 2048 → EReal

variable (A : Args)

/-- Entry (t, j) of batch `b`'s product with the weights. -/
def prod (b : Fin 4) (t : Fin 2048) (j : Fin 2048) : EReal := ∑ k : Fin 5632, A.h b t k * A.w k j

/-- Place `q` of stretch `s` of the summed axis. -/
def col (s : Fin 4) (q : Fin 1408) : Fin 5632 := ⟨s.val * 1408 + q.val, by omega⟩

/-- One stretch of the product's sum, and the sum of the first `n` stretches. -/
def part (b : Fin 4) (t : Fin 2048) (j : Fin 2048) (s : Fin 4) : EReal := ∑ q : Fin 1408, A.h b t (col s q) * A.w (col s q) j
def upto (b : Fin 4) (t : Fin 2048) (j : Fin 2048) (n : ℕ) : EReal :=
  ∑ s ∈ Finset.range n, if h : s < 4 then part A b t j ⟨s, h⟩ else 0

theorem upto_zero (b : Fin 4) (t : Fin 2048) (j : Fin 2048) : upto A b t j 0 = 0 := Finset.sum_range_zero _

theorem upto_succ (b : Fin 4) (t : Fin 2048) (j : Fin 2048) (s : Fin 4) : upto A b t j (s.val + 1) = upto A b t j s.val + part A b t j s := by
  unfold upto
  rw [Finset.sum_range_succ, dif_pos s.isLt]

theorem upto_four (b : Fin 4) (t : Fin 2048) (j : Fin 2048) : upto A b t j 4 = prod A b t j := by
  let f : ℕ → EReal := fun k => if h : k < 5632 then A.h b t ⟨k, h⟩ * A.w ⟨k, h⟩ j else 0
  have e1 : prod A b t j = ∑ l : Fin (4 * 1408), f l.val := by
    show (∑ k : Fin 5632, _) = ∑ k : Fin 5632, f k.val
    refine Finset.sum_congr rfl fun k _ => ?_
    show _ = dite _ _ _
    rw [dif_pos k.isLt]
  rw [e1, ← Fin.sum_univ_univ_mul_add 4 1408 f]
  unfold upto
  rw [← Fin.sum_univ_eq_sum_range (fun s => if h : s < 4 then part A b t j ⟨s, h⟩ else 0) 4]
  refine Finset.sum_congr rfl fun s _ => ?_
  rw [dif_pos s.isLt]
  unfold part
  refine Finset.sum_congr rfl fun q _ => ?_
  show _ = dite _ _ _
  rw [dif_pos (by omega)]
  rfl

/-- A row's layer norm at column `j`. -/
def mean (z : Fin 2048 → EReal) : EReal := Ideal.div (∑ k, z k) (Ideal.ofBits .f32 0x45000000#32)
def ln (z : Fin 2048 → EReal) (g b : EReal) (j : Fin 2048) : EReal :=
  (z j - mean z) * Ideal.rsqrt (mean (fun k => (z k - mean z) * (z k - mean z)) + Ideal.ofBits .f32 0x3727C5AC#32) * g + b

/-- The residual sum. -/
def res (x y : EReal) : EReal := Ideal.ofBits .f32 0x3FD744FD#32 * x + y

/-- The result at batch `b`, row `t`, column `j`. -/
def outAt (b : Fin 4) (t : Fin 2048) (j : Fin 2048) : EReal :=
  ln (fun k => res (A.x b t k) (prod A b t k)) (A.g j) (A.b j) j

/-- The result with its batches one after another. -/
def flat (r : Fin 8192) (j : Fin 2048) : EReal := outAt A ⟨r.val / 2048, by omega⟩ ⟨r.val % 2048, by omega⟩ j

end Cert.Down
-- ==== Proof.DownBody.lean ====
/- The body of the feed-forward part's second launch, read at an index: what one grid point leaves in the running sum and
   stores in the results, as functions of the point's blocks. -/
module

public import proofs.«01_k».proof.Proof.Gen.Kernel3Ideal.Value
public import proofs.«01_k».proof.Proof.DownSpec
public import Idealize.ShloMosaic.Lib.Pipeline.ValueKit
public import Idealize.ShloMosaic.Lib.Pointwise
public import Idealize.ShloMosaic.Lib.WordCmp
public import Idealize.ShloMosaic.Lib.Pipeline.ReadBack

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

section Points
variable {F : FTy → Type} [FloatOps F]
variable (m : (ℓ : Loc nD τ sig) → Buf (Elt F) ℓ)

theorem acc_first (c : Dev nD) (t : Fin cfg0.N) (h : t.val % 4 = 0) :
    (outsAt0 m c t.val t.isLt).2.2 = k0_pay2 k0_pay1 (iblk m c 0 t) (iblk m c 1 t) := by
  rw [outsAt0_A m c t h (by omega)]
  dsimp only
  frame_out

theorem acc_middle (c : Dev nD) (t : Fin cfg0.N) (h : ¬t.val % 4 = 0) (h3 : ¬t.val % 4 = 3) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_B m c t h h3]
  dsimp only
  frame_out
  simp only [read_unread_whole]

theorem acc_last (c : Dev nD) (t : Fin cfg0.N) (h3 : t.val % 4 = 3) :
    (outsAt0 m c t.val t.isLt).2.2
      = k0_pay2 (outsAt0 m c (t.val - 1) (Nat.lt_of_le_of_lt (Nat.sub_le _ _) t.isLt)).2.2 (iblk m c 0 t) (iblk m c 1 t) := by
  rw [outsAt0_C m c t (by omega) h3]
  dsimp only
  frame_out
  simp only [read_unread_whole]

theorem out_at (c : Dev nD) (t : Fin cfg0.N) (h3 : t.val % 4 = 3) :
    (outsAt0 m c t.val t.isLt).1
      = k0_pay3 (iblk m c 2 t) (outsAt0 m c t.val t.isLt).2.2 (iblk m c 3 t) (iblk m c 4 t) := by
  rw [acc_last m c t h3, outsAt0_C m c t (by omega) h3]
  dsimp only
  frame_out
  simp only [read_unread_whole]

theorem outb_at (c : Dev nD) (t : Fin cfg0.N) (h3 : t.val % 4 = 3) :
    (outsAt0 m c t.val t.isLt).2.1
      = k0_pay4 (iblk m c 2 t) (outsAt0 m c t.val t.isLt).2.2 (iblk m c 3 t) (iblk m c 4 t) := by
  rw [acc_last m c t h3, outsAt0_C m c t (by omega) h3]
  dsimp only
  frame_out
  simp only [read_unread_whole]

end Points

/-! ## The payloads at an index, over the extended reals -/

theorem zero_apply (l : Fin 512) (n : Fin 2048) : k0_pay1 (F := Ideal) (ix2 l n) = 0 := by
  pointwise [k0_pay1]

theorem step_apply (S : Vec Ideal S512x2048 .f32) (h : Vec Ideal S512x1408 .bf16) (w : Vec Ideal S1x1408x2048 .bf16) (l : Fin 512) (n : Fin 2048) :
    k0_pay2 S h w (ix2 l n) = S (ix2 l n) + ∑ q : Fin 1408, h (ix2 l q) * w (ix3 0 q n) := by
  pointwise [k0_pay2]

theorem ln_apply (x y : Vec Ideal S512x2048 .f32) (g b : Vec Ideal S1x2048 .f32) (l : Fin 512) (n : Fin 2048) :
    k0_pay3 x y g b (ix2 l n) = Down.ln (fun k => Down.res (x (ix2 l k)) (y (ix2 l k))) (g (ix2 0 n)) (b (ix2 0 n)) n := by
  pointwise [k0_pay3]
  rfl

theorem lnb_apply (x y : Vec Ideal S512x2048 .f32) (g b : Vec Ideal S1x2048 .f32) (l : Fin 512) (n : Fin 2048) :
    k0_pay4 x y g b (ix2 l n) = Down.ln (fun k => Down.res (x (ix2 l k)) (y (ix2 l k))) (g (ix2 0 n)) (b (ix2 0 n)) n := by
  refine Eq.trans ?_ (ln_apply x y g b l n)
  pointwise [k0_pay4]

end Cert.Kernel3Ideal.Value
-- ==== Proof.DownFinal.lean ====
/- The feed-forward part's second launch over its whole grid: the arrays it is given, its blocks at an index, the running sum
   after every point, and its two result arrays. -/
module

public import proofs.«01_k».proof.Proof.DownBody
public import Idealize.ShloMosaic.Lib.StableHlo.Run
public import Idealize.ShloMosaic.Lib.Pipeline.Covers

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel3Ideal.Value

open Cert.Kernel3Ideal Cert.Kernel3Ideal.Gen

section Arrays
variable {F : FTy → Type} [FloatOps F]
variable (m : (ℓ : Loc nD τ sig) → Buf (Elt F) ℓ) (c : Dev nD)

abbrev aH : FVec F S4x2048x5632 .bf16 := m (c.tc.loc main_arg0)
abbrev aW : FVec F S4x5632x2048 .f32 := m (c.tc.loc main_arg1)
abbrev aX : FVec F S4x2048x2048 .f32 := m (c.tc.loc main_arg2)
abbrev aG : FVec F S2048 .f32 := m (c.tc.loc main_arg3)
abbrev aB : FVec F S2048 .f32 := m (c.tc.loc main_arg4)

def wV : FVec F S4x5632x2048 .bf16 := truncf .bf16 (aW m c) bitsLt_bf16_f32
def hV : FVec F S8192x5632 .bf16 := shapeCast S8192x5632 (aH m c) shapeCasts_S4x2048x5632_S8192x5632
def xV : FVec F S8192x2048 .f32 := shapeCast S8192x2048 (aX m c) shapeCasts_S4x2048x2048_S8192x2048
def gV : FVec F S1x2048 .f32 := shapeCast S1x2048 (aG m c) shapeCasts_S2048_S1x2048
def bV : FVec F S1x2048 .f32 := shapeCast S1x2048 (aB m c) shapeCasts_S2048_S1x2048

theorem V_w : V m c main_v0 = wV m c := by
  unfold_abbrev_sides
  simp only [hostOps0]
  after_results
  rfl
theorem V_h : V m c main_v1 = hV m c := by
  unfold_abbrev_sides
  simp only [hostOps0]
  after_results
  rfl
theorem V_x : V m c main_v2 = xV m c := by
  unfold_abbrev_sides
  simp only [hostOps0]
  after_results
  rfl
theorem V_g : V m c main_v3 = gV m c := by
  unfold_abbrev_sides
  simp only [hostOps0]
  after_results
  rfl
theorem V_b : V m c main_v4 = bV m c := by
  unfold_abbrev_sides
  simp only [hostOps0]
  after_results
  rfl
end Arrays

variable (m : (ℓ : Loc nD τ sig) → Buf (Elt Ideal) ℓ) (c : Dev nD)

/-- The arguments of the launch's program, as plain functions. -/
def argsK : Down.Args where
  h b t k := aH m c (ix3 b t k)
  w k j := aW m c (ix3 3 k j)
  x b t j := aX m c (ix3 b t j)
  g j := aG m c (ix1 j)
  b j := aB m c (ix1 j)

/-- The batch of one of the 8192 rows, and the row's place in it. -/
def rb (r : Fin 8192) : Fin 4 := ⟨r.val / 2048, by omega⟩
def rt (r : Fin 8192) : Fin 2048 := ⟨r.val % 2048, by omega⟩

theorem w_apply (k : Fin 5632) (j : Fin 2048) : wV m c (ix3 3 k j) = (argsK m c).w k j := by
  pointwise [wV]
  rfl
theorem h_apply (r : Fin 8192) (k : Fin 5632) : hV m c (ix2 r k) = (argsK m c).h (rb r) (rt r) k := by
  pointwise [hV]
  rfl
theorem x_apply (r : Fin 8192) (k : Fin 2048) : xV m c (ix2 r k) = (argsK m c).x (rb r) (rt r) k := by
  pointwise [xV]
  rfl
theorem g_apply (j : Fin 2048) : gV m c (ix2 0 j) = (argsK m c).g j := by
  pointwise [gV]
  rfl
theorem b_apply (j : Fin 2048) : bV m c (ix2 0 j) = (argsK m c).b j := by
  pointwise [bV]
  rfl

/-- The rows and the stretch of the summed axis of a grid point. -/
def pr (t : Fin cfg0.N) (l : Fin 512) : Fin 8192 := ⟨t.val / 4 * 512 + l.val, by have := t.isLt; have e : cfg0.N = 64 := N_0; omega⟩
def pk (t : Fin cfg0.N) : Fin 4 := ⟨t.val % 4, by omega⟩

theorem place : ∀ t : Fin cfg0.N,
    (cfg0.win 0).index t = ![t.val / 4, t.val % 4]
    ∧ (cfg0.win 1).index t = ![3, t.val % 4, 0]
    ∧ (cfg0.win 2).index t = ![t.val / 4, 0]
    ∧ (cfg0.win 3).index t = ![0, 0]
    ∧ (cfg0.win 4).index t = ![0, 0]
    ∧ (cfg0.win 5).index t = ![t.val / 4, 0]
    ∧ (cfg0.win 6).index t = ![t.val / 4, 0] := by decide +kernel

variable (t : Fin cfg0.N)

theorem blk0 (l : Fin 512) (q : Fin 1408) : iblk m c 0 t (ix2 l q) = (argsK m c).h (rb (pr t l)) (rt (pr t l)) (Down.col (pk t) q) := by
  rw [← h_apply, ← V_h]
  blk_ext [iblk, place t, pr, pk, Down.col]

theorem blk1 (q : Fin 1408) (j : Fin 2048) : iblk m c 1 t (ix3 0 q j) = (argsK m c).w (Down.col (pk t) q) j := by
  rw [← w_apply, ← V_w]
  blk_ext [iblk, place t, pk, Down.col]

theorem blk2 (l : Fin 512) (j : Fin 2048) : iblk m c 2 t (ix2 l j) = (argsK m c).x (rb (pr t l)) (rt (pr t l)) j := by
  rw [← x_apply, ← V_x]
  blk_ext [iblk, place t, pr]

theorem blk3 (j : Fin 2048) : iblk m c 3 t (ix2 0 j) = (argsK m c).g j := by
  rw [← g_apply, ← V_g]
  blk_ext [iblk, place t]

theorem blk4 (j : Fin 2048) : iblk m c 4 t (ix2 0 j) = (argsK m c).b j := by
  rw [← b_apply, ← V_b]
  blk_ext [iblk, place t]

/-- One point's step of the running sum. -/
theorem step_point (S : Vec Ideal S512x2048 .f32) (l : Fin 512) (j : Fin 2048)
    (hS : S (ix2 l j) = Down.upto (argsK m c) (rb (pr t l)) (rt (pr t l)) j (pk t).val) :
    k0_pay2 S (iblk m c 0 t) (iblk m c 1 t) (ix2 l j) = Down.upto (argsK m c) (rb (pr t l)) (rt (pr t l)) j ((pk t).val + 1) := by
  rw [step_apply, hS, Down.upto_succ]
  unfold Down.part
  simp only [blk0, blk1]

/-- The running sum after a point. -/
theorem acc_at (l : Fin 512) (j : Fin 2048) : ∀ (k : ℕ) (t : Fin cfg0.N), t.val % 4 = k →
    (outsAt0 m c t.val t.isLt).2.2 (ix2 l j) = Down.upto (argsK m c) (rb (pr t l)) (rt (pr t l)) j ((pk t).val + 1) := by
  intro k
  induction k with
  | zero =>
    intro t h
    rw [acc_first m c t h]
    refine step_point m c t _ l j ?_
    rw [zero_apply, show (pk t).val = 0 from h, Down.upto_zero]
  | succ k ih =>
    intro t h
    have e : (outsAt0 m c t.val t.isLt).2.2
        = k0_pay2 (outsAt0 m c (t.val - 1) (Nat.lt_of_le_of_lt (Nat.sub_le _ _) t.isLt)).2.2 (iblk m c 0 t) (iblk m c 1 t) := by
      by_cases h3 : t.val % 4 = 3
      · exact acc_last m c t h3
      · exact acc_middle m c t (by omega) h3
    rw [e]
    refine step_point m c t _ l j ?_
    refine (ih ⟨t.val - 1, Nat.lt_of_le_of_lt (Nat.sub_le _ _) t.isLt⟩ (by show (t.val - 1) % 4 = k; omega)).trans ?_
    have e1 : pr ⟨t.val - 1, Nat.lt_of_le_of_lt (Nat.sub_le _ _) t.isLt⟩ l = pr t l :=
      Fin.ext (by show (t.val - 1) / 4 * 512 + l.val = t.val / 4 * 512 + l.val; omega)
    have e2 : (pk ⟨t.val - 1, Nat.lt_of_le_of_lt (Nat.sub_le _ _) t.isLt⟩).val + 1 = (pk t).val := by show (t.val - 1) % 4 + 1 = t.val % 4; omega
    rw [e1, e2]

theorem acc_end (h : t.val % 4 = 3) (l : Fin 512) (j : Fin 2048) :
    (outsAt0 m c t.val t.isLt).2.2 (ix2 l j) = Down.prod (argsK m c) (rb (pr t l)) (rt (pr t l)) j := by
  rw [acc_at m c l j 3 t h, show (pk t).val = 3 from h, Down.upto_four]

theorem out_point (h : t.val % 4 = 3) (l : Fin 512) (j : Fin 2048) :
    (outsAt0 m c t.val t.isLt).1 (ix2 l j) = Down.flat (argsK m c) (pr t l) j := by
  rw [out_at m c t h, ln_apply, blk3, blk4]
  simp only [blk2, acc_end m c t h]
  rfl

theorem outb_point (h : t.val % 4 = 3) (l : Fin 512) (j : Fin 2048) :
    (outsAt0 m c t.val t.isLt).2.1 (ix2 l j) = Down.flat (argsK m c) (pr t l) j := by
  rw [outb_at m c t h, lnb_apply, blk3, blk4]
  simp only [blk2, acc_end m c t h]
  rfl

/-- The first result array. -/
theorem final_out : (dats m 0 c).arrAt 5 cfg0.N = fun i : S8192x2048.Idx => Down.flat (argsK m c) (i 0) (i 1) := by
  refine (dats m 0 c).arrAt_eq_of_covers 5 _ ((cfg0.win 5).covers_of_index_surj rfl (by decide) fun β => ?_) fun t hf y => ?_
  · have h0 : (β 0).val < 16 := (β 0).isLt
    have h1 : (β 1).val < 1 := (β 1).isLt
    refine ⟨⟨(β 0).val * 4, by show _ < 64; omega⟩, fun a => ?_⟩
    rw [(place _).2.2.2.2.2.1]
    fin_cases a
    · show ((β 0).val * 4) / 4 = (β 0).val
      omega
    · show 0 = (β 1).val
      omega
  · have h3 : t.val % 4 = 3 := (flush0_5 t).mp hf
    blk_simp
    rw [after0_5]
    idx_vars y
    rw [out_point m c t h3]
    have e : ((View.whole main_v5_0).slice (win0_5.rect t)).emb (ix2 y0 y1) = ix2 (pr t y0) y1 := by
      blk_ext [place t, pr]
    rw [e]
    rfl

/-- The second result array. -/
theorem final_outb : (dats m 0 c).arrAt 6 cfg0.N = fun i : S8192x2048.Idx => Down.flat (argsK m c) (i 0) (i 1) := by
  refine (dats m 0 c).arrAt_eq_of_covers 6 _ ((cfg0.win 6).covers_of_index_surj rfl (by decide) fun β => ?_) fun t hf y => ?_
  · have h0 : (β 0).val < 16 := (β 0).isLt
    have h1 : (β 1).val < 1 := (β 1).isLt
    refine ⟨⟨(β 0).val * 4, by show _ < 64; omega⟩, fun a => ?_⟩
    rw [(place _).2.2.2.2.2.2]
    fin_cases a
    · show ((β 0).val * 4) / 4 = (β 0).val
      omega
    · show 0 = (β 1).val
      omega
  · have h3 : t.val % 4 = 3 := (flush0_6 t).mp hf
    blk_simp
    rw [after0_6]
    idx_vars y
    rw [outb_point m c t h3]
    have e : ((View.whole main_v5_1).slice (win0_6.rect t)).emb (ix2 y0 y1) = ix2 (pr t y0) y1 := by
      blk_ext [place t, pr]
    rw [e]
    rfl

/-- The launch's run: both results as the specification gives them, the arguments unchanged. -/
theorem run_spec (ρ : Dev nD → PrngReg) :
    θ_run defs (onTc (τ := τ) (main (F := Ideal))) ⟨m, fun _ => 0, ρ⟩ fun r => ∀ c : Dev nD,
      r.2.mem ((c : Thread nD τ).loc main_v5_0) = (fun i : S8192x2048.Idx => Down.flat (argsK m c) (i 0) (i 1))
      ∧ r.2.mem ((c : Thread nD τ).loc main_v5_1) = (fun i : S8192x2048.Idx => Down.flat (argsK m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_outb m c), (h c).2.2⟩)
    (run_blocks m ρ)

end Cert.Kernel3Ideal.Value
-- ==== Proof.DownRef.lean ====
/- The reference's run of the feed-forward part's second half: its two results at an index. -/
module

public import proofs.«01_k».proof.Proof.Gen.Reference3Ideal.Run
public import proofs.«01_k».proof.Proof.DownSpec
public import Idealize.ShloMosaic.Lib.Pointwise
public import Idealize.ShloMosaic.Lib.WordCmp
public import Idealize.ShloMosaic.Lib.Tactic.CleanTypes

@[expose] public section

set_option maxRecDepth 16384
set_option maxHeartbeats 1000000
noncomputable section

open Idealize.ShloMosaic Idealize.ShloMosaic.TcCoe Idealize.SL.Sem Idealize.ShloMosaic.StableHlo

namespace Cert.Reference3Ideal.Value

open Cert.Reference3Ideal Cert.Reference3Ideal.Gen

variable (m : (ℓ : Loc nD τ sig) → Buf (Elt Ideal) ℓ) (c : Dev nD)

abbrev aH : FVec Ideal S4x2048x5632 .bf16 := m (c.tc.loc main_arg0)
abbrev aW : FVec Ideal S4x5632x2048 .f32 := m (c.tc.loc main_arg1)
abbrev aX : FVec Ideal S4x2048x2048 .f32 := m (c.tc.loc main_arg2)
abbrev aG : FVec Ideal S2048 .f32 := m (c.tc.loc main_arg3)
abbrev aB : FVec Ideal S2048 .f32 := m (c.tc.loc main_arg4)

/-- The reference's arguments, as plain functions. -/
def argsR : Down.Args where
  h b t k := aH m c (ix3 b t k)
  w k j := aW m c (ix3 3 k j)
  x b t j := aX m c (ix3 b t j)
  g j := aG m c (ix1 j)
  b j := aB m c (ix1 j)

/-- The residual sum. -/
def zV : FVec Ideal S4x2048x2048 .f32 :=
  addf (mulf (broadcastInDim S4x2048x2048 ![] bcast_S_S4x2048x2048 (constant S_ .f32 0x3FD744FD#32)) (aX m c)) (Host.dotGeneral dot_S4x2048x5632_S5632x2048_S4x2048x2048_2_0_01_1_n_n none (aH m c) (shapeCast _ (extractStridedSlice S1x5632x2048 ![3, 0, 0] (aW m c) slices_S4x5632x2048_S1x5632x2048_3_0_0) shapeCasts_S1x5632x2048_S5632x2048))

/-- The rows' means of an array, and the array less its rows' means. -/
def meanV (z : FVec Ideal S4x2048x2048 .f32) : FVec Ideal S4x2048x1 .f32 :=
  Host.divf (broadcastInDim S4x2048x1 ![0, 1] bcast_S4x2048_S4x2048x1_0_1 (Host.reduceAdd z (constant S_ .f32 0x00000000#32) reducesTo_S4x2048x2048_S4x2048_d2 h_S_)) (broadcastInDim S4x2048x1 ![] bcast_S_S4x2048x1 (constant S_ .f32 0x45000000#32))
def cV (z : FVec Ideal S4x2048x2048 .f32) : FVec Ideal S4x2048x2048 .f32 :=
  subf z (broadcastInDim S4x2048x2048 ![0, 1, 2] bcast_S4x2048x1_S4x2048x2048_0_1_2 (meanV z))

theorem z_apply (b : Fin 4) (t : Fin 2048) (j : Fin 2048) :
    zV m c (ix3 b t j) = Down.res ((argsR m c).x b t j) (Down.prod (argsR m c) b t j) := by
  clean_types
  pointwise [zV]
  rfl

theorem mean_apply (z : FVec Ideal S4x2048x2048 .f32) (b : Fin 4) (t : Fin 2048) : meanV z (ix3 b t 0) = Down.mean fun k => z (ix3 b t k) := by
  clean_types
  pointwise [meanV]
  rfl

theorem c_apply (z : FVec Ideal S4x2048x2048 .f32) (b : Fin 4) (t : Fin 2048) (j : Fin 2048) :
    cV z (ix3 b t j) = z (ix3 b t j) - Down.mean fun k => z (ix3 b t k) := by
  rw [← mean_apply]
  clean_types
  pointwise [cV]

/-- The layer norm of an array's rows. -/
def lnV (z : FVec Ideal S4x2048x2048 .f32) : FVec Ideal S4x2048x2048 .f32 :=
  addf (mulf (mulf (cV z) (broadcastInDim S4x2048x2048 ![0, 1, 2] bcast_S4x2048x1_S4x2048x2048_0_1_2 (Host.rsqrt (addf (meanV (mulf (cV z) (cV z))) (broadcastInDim S4x2048x1 ![] bcast_S_S4x2048x1 (constant S_ .f32 0x3727C5AC#32)))))) (broadcastInDim S4x2048x2048 ![0, 1, 2] bcast_S1x1x2048_S4x2048x2048_0_1_2 (broadcastInDim S1x1x2048 ![2] bcast_S2048_S1x1x2048_2 (aG m c)))) (broadcastInDim S4x2048x2048 ![0, 1, 2] bcast_S1x1x2048_S4x2048x2048_0_1_2 (broadcastInDim S1x1x2048 ![2] bcast_S2048_S1x1x2048_2 (aB m c)))

/-- The two results. -/
def outV : FVec Ideal S8192x2048 .f32 := shapeCast _ (lnV m c (zV m c)) shapeCasts_S4x2048x2048_S8192x2048
def outbV : FVec Ideal S8192x2048 .bf16 := truncf .bf16 (outV m c) bitsLt_bf16_f32

theorem out_eq : res_main_v30 m c = outV m c := rfl
theorem outb_eq : res_main_v31 m c = outbV m c := rfl

theorem ln_apply (z : FVec Ideal S4x2048x2048 .f32) (b : Fin 4) (t : Fin 2048) (j : Fin 2048) :
    lnV m c z (ix3 b t j) = Down.ln (fun k => z (ix3 b t k)) ((argsR m c).g j) ((argsR m c).b j) j := by
  clean_types
  pointwise [lnV]
  rw [mean_apply, c_apply]
  unfold Down.ln
  have e : (fun k => mulf (cV z) (cV z) (ix3 b t k)) = fun k => (z (ix3 b t k) - Down.mean fun k => z (ix3 b t k)) * (z (ix3 b t k) - Down.mean fun k => z (ix3 b t k)) := by
    funext k
    rw [← c_apply]
    rfl
  rw [e]
  rfl

theorem out_apply (r : Fin 8192) (j : Fin 2048) : outV m c (ix2 r j) = Down.flat (argsR m c) r j := by
  have e : outV m c (ix2 r j) = lnV m c (zV m c) (ix3 ⟨r.val / 2048, by omega⟩ ⟨r.val % 2048, by omega⟩ j) := by
    clean_types
    pointwise [outV]
  rw [e, ln_apply]
  simp only [z_apply]
  rfl

/-- The reference's run: both results as the specification gives them, the arguments unchanged. -/
theorem run_spec (ρ : Dev nD → PrngReg) :
    θ_run defs (onTc (τ := τ) (main (F := Ideal))) ⟨m, fun _ => 0, ρ⟩ fun r => ∀ c : Dev nD,
      r.2.mem ((c.tc : Thread nD τ).loc main_v30) = (fun i : S8192x2048.Idx => Down.flat (argsR m c) (i 0) (i 1))
      ∧ r.2.mem ((c.tc : Thread nD τ).loc main_v31) = (fun i : S8192x2048.Idx => Down.flat (argsR m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2⟩) (run m ρ)
  · rw [out_eq]
    funext i
    have e : i = ix2 (i 0) (i 1) := by funext a; fin_cases a <;> rfl
    exact (congrArg _ e).trans (out_apply m c (i 0) (i 1))
  · rw [outb_eq]
    funext i
    have e : i = ix2 (i 0) (i 1) := by funext a; fin_cases a <;> rfl
    exact (congrArg (outV m c) e).trans (out_apply m c (i 0) (i 1))

end Cert.Reference3Ideal.Value
-- ==== Proof.CellMath.lean ====
/- The mathematics of the mLSTM memory, with no program in it. The stabiliser and the memory are recurrences over the
   positions; run over a stretch of any length from any position they are the closed forms of a chunk, which is how both
   programs compute them. -/
module

public import proofs.«01_k».proof.Proof.Chunk

@[expose] public section

noncomputable section

namespace Cert.Cell

open Idealize.ShloMosaic Cert.Chunk

section Recurrences
variable (f i : ℕ → ℝ) (m0 : ℝ)

/-- The stabiliser before position `n`: forget gates `f` and input gates `i` in the logarithm. -/
def mx : ℕ → ℝ
  | 0 => m0
  | n + 1 => max (mx n + f n) (i n)

/-- A memory entry before position `n`, from what the positions write. -/
def mem (u : ℕ → ℝ) (c0 : ℝ) : ℕ → ℝ
  | 0 => c0
  | n + 1 => Real.exp (f n + mx f i m0 n - mx f i m0 (n + 1)) * mem u c0 n + Real.exp (i n - mx f i m0 (n + 1)) * u n

/-- The forget gates from position `p` up to `p + s`. -/
def run (p s : ℕ) : ℝ := ∑ k ∈ Finset.range (s + 1), f (p + k)

theorem run_succ (p t : ℕ) : run f p (t + 1) = run f p t + f (p + t + 1) := by
  unfold run
  rw [Finset.sum_range_succ _ (t + 1), ← add_assoc]

theorem run_zero (p : ℕ) : run f p 0 = f p := by
  unfold run
  rw [Finset.sum_range_one, add_zero]

theorem mx_ge_start (p t : ℕ) : mx f i m0 p + run f p t ≤ mx f i m0 (p + t + 1) := by
  induction t with
  | zero => rw [run_zero]; exact le_max_left _ _
  | succ t ih =>
    rw [run_succ]
    refine le_trans ?_ (le_max_left _ _)
    show _ ≤ mx f i m0 (p + t + 1) + f (p + t + 1)
    linarith

theorem mx_ge (p t s : ℕ) (hs : s ≤ t) : run f p t - run f p s + i (p + s) ≤ mx f i m0 (p + t + 1) := by
  induction t with
  | zero =>
    obtain rfl : s = 0 := by omega
    rw [sub_self, zero_add]
    exact le_max_right _ _
  | succ t ih =>
    rcases Nat.lt_or_ge t s with h | h
    · obtain rfl : s = t + 1 := by omega
      rw [sub_self, zero_add]
      exact le_max_right _ _
    · have := ih h
      rw [run_succ]
      refine le_trans ?_ (le_max_left _ _)
      show _ ≤ mx f i m0 (p + t + 1) + f (p + t + 1)
      linarith

theorem mx_attained (p t : ℕ) : mx f i m0 (p + t + 1) = mx f i m0 p + run f p t
    ∨ ∃ s ≤ t, mx f i m0 (p + t + 1) = run f p t - run f p s + i (p + s) := by
  induction t with
  | zero =>
    rcases max_choice (mx f i m0 p + f p) (i p) with h | h
    · exact .inl (by rw [run_zero]; exact h)
    · exact .inr ⟨0, le_refl _, by rw [sub_self, zero_add]; exact h⟩
  | succ t ih =>
    rcases max_choice (mx f i m0 (p + t + 1) + f (p + t + 1)) (i (p + t + 1)) with h | h
    · have e : mx f i m0 (p + (t + 1) + 1) = mx f i m0 (p + t + 1) + f (p + t + 1) := h
      rcases ih with h1 | ⟨s, hs, h1⟩
      · exact .inl (by rw [e, h1, run_succ]; ring)
      · exact .inr ⟨s, by omega, by rw [e, h1, run_succ]; ring⟩
    · exact .inr ⟨t + 1, le_refl _, by rw [sub_self, zero_add]; exact h⟩

/-- The memory over a stretch: what was there, and what each position of the stretch wrote, decayed since. -/
theorem mem_stretch (u : ℕ → ℝ) (c0 : ℝ) (p t : ℕ) :
    mem f i m0 u c0 (p + t + 1) = Real.exp (mx f i m0 p + run f p t - mx f i m0 (p + t + 1)) * mem f i m0 u c0 p
      + ∑ s ∈ Finset.range (t + 1), Real.exp (run f p t - run f p s + i (p + s) - mx f i m0 (p + t + 1)) * u (p + s) := by
  induction t with
  | zero =>
    rw [Finset.sum_range_one, run_zero, sub_self, zero_add]
    show Real.exp (f p + mx f i m0 p - mx f i m0 (p + 1)) * mem f i m0 u c0 p + Real.exp (i p - mx f i m0 (p + 1)) * u p = _
    rw [add_comm (f p)]
    rfl
  | succ t ih =>
    rw [Finset.sum_range_succ, sub_self, zero_add]
    show Real.exp (f (p + t + 1) + mx f i m0 (p + t + 1) - mx f i m0 (p + t + 1 + 1)) * mem f i m0 u c0 (p + t + 1)
      + Real.exp (i (p + t + 1) - mx f i m0 (p + t + 1 + 1)) * u (p + t + 1) = _
    rw [ih, mul_add, Finset.mul_sum, ← mul_assoc, ← Real.exp_add, ← add_assoc]
    refine congrArg₂ (· + ·) (congrArg₂ (· + ·) ?_ (Finset.sum_congr rfl fun s _ => ?_)) rfl
    · refine congrArg (fun r => Real.exp r * _) ?_
      rw [run_succ]
      show _ = _ - mx f i m0 (p + t + 1 + 1)
      ring
    · rw [← mul_assoc, ← Real.exp_add]
      refine congrArg (fun r => Real.exp r * _) ?_
      rw [run_succ]
      show _ = _ - mx f i m0 (p + t + 1 + 1)
      ring

end Recurrences

/-! The same over a stretch of `L` positions in the extended reals, as the programs write it. -/

/-- A maximum that is one of its terms. -/
theorem max_fold {ι : Type} (S : Finset ι) (x : ι → EReal) (a M : EReal) (ha : a ≤ M) (hx : ∀ k ∈ S, x k ≤ M)
    (hM : M = a ∨ ∃ k ∈ S, M = x k) : max a (S.fold max ⊥ x) = M := by
  refine le_antisymm (max_le ha ?_) ?_
  · rw [Finset.fold_max_le]
    exact ⟨bot_le, hx⟩
  · rcases hM with rfl | ⟨k, hk, rfl⟩
    · exact le_max_left _ _
    · exact le_max_of_le_right (by rw [Finset.le_fold_max]; exact .inr ⟨k, hk, le_refl _⟩)

section Stretch
variable (f i : ℕ → ℝ) (m0 : ℝ) {L : ℕ} (p : ℕ)

/-- The exponent with which position `s` reaches position `t` of the stretch, before the stabiliser. -/
def ex (t s : Fin L) : EReal :=
  if s.val ≤ t.val then ((run f p t.val - run f p s.val + i (p + s.val) : ℝ) : EReal) else ⊥

theorem stab (t : Fin L) :
    max ((mx f i m0 p : EReal) + (run f p t.val : EReal)) (Finset.univ.fold max ⊥ (ex f i p t)) = (mx f i m0 (p + t.val + 1) : EReal) := by
  refine max_fold _ _ _ _ ?_ (fun s _ => ?_) ?_
  · rw [← EReal.coe_add, EReal.coe_le_coe_iff]; exact mx_ge_start f i m0 p t.val
  · unfold ex
    split
    · next h => rw [EReal.coe_le_coe_iff]; exact mx_ge f i m0 p t.val s.val h
    · exact bot_le
  · rcases mx_attained f i m0 p t.val with h | ⟨s, hs, h⟩
    · left; rw [h, EReal.coe_add]
    · refine .inr ⟨⟨s, by omega⟩, Finset.mem_univ _, ?_⟩
      unfold ex
      rw [if_pos hs, h]

theorem exp_ex (t s : Fin L) (M : ℝ) :
    Ideal.exp (ex f i p t s - (M : EReal)) = (((if s.val ≤ t.val then Real.exp (run f p t.val - run f p s.val + i (p + s.val) - M) else 0) : ℝ) : EReal) := by
  unfold ex
  split
  · rw [← EReal.coe_sub, Ideal.exp_coe]
  · rw [EReal.bot_sub]; rfl

/-- A sum over the positions up to `t` of a stretch. -/
theorem sum_upto (t : Fin L) (g : ℕ → ℝ) : (∑ s : Fin L, if s.val ≤ t.val then g s.val else 0) = ∑ s ∈ Finset.range (t.val + 1), g s := by
  have e := t.isLt
  rw [Fin.sum_univ_eq_sum_range (fun s => if s ≤ t.val then g s else 0) L, ← Finset.sum_filter]
  refine Finset.sum_congr (Finset.ext fun s => ?_) fun _ _ => rfl
  rw [Finset.mem_filter, Finset.mem_range, Finset.mem_range]
  omega

/-- The running sum of the forget gates, as the programs form it. -/
theorem run_sum (x : Fin L → EReal) (hx : ∀ s : Fin L, x s = (f (p + s.val) : EReal)) (t : Fin L) :
    (∑ s : Fin L, if s.val ≤ t.val then x s else 0) = (run f p t.val : EReal) := by
  unfold run
  rw [← sum_upto t (fun k => f (p + k)), coe_sum]
  refine Finset.sum_congr rfl fun s _ => ?_
  rw [hx]
  split <;> rfl

variable {D : ℕ} (q : Fin D → ℝ) (k : Fin D → ℕ → ℝ) (v : ℕ → ℝ) (c0 : Fin D → ℝ)

/-- What a query reads: the part written inside the stretch plus the part that was there is the memory it reads. -/
theorem read (t : Fin L) :
    (∑ s : Fin L, (∑ d : Fin D, (q d : EReal) * (k d (p + s.val) : EReal))
        * Ideal.exp (ex f i p t s - (mx f i m0 (p + t.val + 1) : EReal)) * (v (p + s.val) : EReal))
      + Ideal.exp ((mx f i m0 p : EReal) + (run f p t.val : EReal) - (mx f i m0 (p + t.val + 1) : EReal))
        * (∑ d : Fin D, (q d : EReal) * (mem f i m0 (fun n => k d n * v n) (c0 d) p : EReal))
      = ((∑ d : Fin D, q d * mem f i m0 (fun n => k d n * v n) (c0 d) (p + t.val + 1) : ℝ) : EReal) := by
  simp only [exp_ex, ← EReal.coe_add, ← EReal.coe_sub, ← EReal.coe_mul, ← coe_sum, Ideal.exp_coe]
  refine congrArg _ ?_
  simp only [mem_stretch f i m0 _ _ p t.val]
  rw [show (∑ d : Fin D, q d * (Real.exp (mx f i m0 p + run f p t.val - mx f i m0 (p + t.val + 1)) * mem f i m0 (fun n => k d n * v n) (c0 d) p
      + ∑ s ∈ Finset.range (t.val + 1), Real.exp (run f p t.val - run f p s + i (p + s) - mx f i m0 (p + t.val + 1)) * (k d (p + s) * v (p + s))))
    = (∑ d : Fin D, ∑ s : Fin L, q d * (if s.val ≤ t.val then Real.exp (run f p t.val - run f p s.val + i (p + s.val) - mx f i m0 (p + t.val + 1)) else 0) * (k d (p + s.val) * v (p + s.val)))
      + ∑ d : Fin D, q d * (Real.exp (mx f i m0 p + run f p t.val - mx f i m0 (p + t.val + 1)) * mem f i m0 (fun n => k d n * v n) (c0 d) p) from ?_]
  · rw [Finset.sum_comm, Finset.mul_sum]
    refine congrArg₂ (· + ·) (Finset.sum_congr rfl fun s _ => ?_) (Finset.sum_congr rfl fun d _ => by ring)
    rw [Finset.sum_mul, Finset.sum_mul]
    exact Finset.sum_congr rfl fun d _ => by ring
  · rw [← Finset.sum_add_distrib]
    refine Finset.sum_congr rfl fun d _ => ?_
    rw [mul_add, add_comm, ← sum_upto t (fun s => Real.exp (run f p t.val - run f p s + i (p + s) - mx f i m0 (p + t.val + 1)) * (k d (p + s) * v (p + s))), Finset.mul_sum]
    refine congrArg₂ (· + ·) (Finset.sum_congr rfl fun s _ => ?_) rfl
    split <;> ring

/-- What a stretch leaves in one memory entry. -/
theorem leave (u : ℕ → ℝ) (z : ℝ) (hL : 0 < L) :
    Ideal.exp ((mx f i m0 p : EReal) + (run f p (L - 1) : EReal) - (mx f i m0 (p + L) : EReal)) * (mem f i m0 u z p : EReal)
      + ∑ s : Fin L, Ideal.exp (((run f p (L - 1) - run f p s.val + i (p + s.val) : ℝ) : EReal) - (mx f i m0 (p + L) : EReal)) * (u (p + s.val) : EReal)
      = (mem f i m0 u z (p + L) : EReal) := by
  have e : p + L = p + (L - 1) + 1 := by omega
  simp only [← EReal.coe_add, ← EReal.coe_sub, ← EReal.coe_mul, ← coe_sum, Ideal.exp_coe]
  refine congrArg _ ?_
  rw [e, mem_stretch f i m0 _ _ p (L - 1), ← e, show L - 1 + 1 = L by omega,
    Fin.sum_univ_eq_sum_range (fun s => Real.exp (run f p (L - 1) - run f p s + i (p + s) - mx f i m0 (p + L)) * u (p + s)) L]

end Stretch

end Cert.Cell

end
-- ==== Proof.CellBody.lean ====
/- The body of the mLSTM cell's launch, read at an index: what one grid point leaves in the carried memory and stabiliser
   and in its outputs, as functions of the point's blocks. -/
module

public import proofs.«01_k».proof.Proof.Gen.Kernel4Ideal.Value
public import proofs.«01_k».proof.Proof.CellMath
public import proofs.«01_k».proof.Proof.Words
public import Idealize.ShloMosaic.Lib.Pipeline.ValueKit
public import Idealize.ShloMosaic.Lib.Pointwise
public import Idealize.ShloMosaic.Lib.WordCmp
public import Idealize.ShloMosaic.Lib.Pipeline.ReadBack

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

section Payloads
variable {F : FTy → Type} [FloatOps F]

/-- The first lane of the carried stabiliser. -/
abbrev lane0 (M : Vec F S1x128 .f32) : Vec F S1x1 .f32 :=
  View.ld M (Rect.unit (s := S1x128) ![0, 0] ![1, 1] inb_S1x128_S1x1_0_0)

/-- The memory a sequence starts with: the initial memory, and beside it the initial normalizer. -/
def startC (c0 : Vec F S1x1x1024x1024 .f32) (n0 : Vec F S1x1x1024x128 .f32) : Vec F S1024x1152 .f32 :=
  View.canon [⟨Rect.unit (s := S1024x1152) ![0, 1024] ![1024, 128] inb_S1024x1152_S1024x128_0_1024, k0_pay7 n0⟩,
    ⟨Rect.unit (s := S1024x1152) ![0, 0] ![1024, 1024] inb_S1024x1152_S1024x1024_0_0, k0_pay6 c0⟩]

/-- The memory a point leaves, from its blocks and the memory and stabiliser it starts with. -/
def stepC (kt : Vec F S1x1x1024x256 .bf16) (v : Vec F S1x256x1024 .bf16) (a : Vec F S1x1x256x1 .f32) (g : Vec F S1x1x1x1x256 .f32)
    (C : Vec F S1024x1152 .f32) (mp : Vec F S1x1 .f32) : FVec F S1024x1152 .f32 :=
  k0_pay1 (k0_pay22 (k0_pay11 a) mp (k0_pay15 a g mp)) (k0_pay23 (k0_pay10 kt) (k0_pay11 a) (k0_pay12 g) (k0_pay15 a g mp)) (k0_pay24 v) C

/-- The stabiliser a point leaves. -/
def stepM (a : Vec F S1x1x256x1 .f32) (g : Vec F S1x1x1x1x256 .f32) (mp : Vec F S1x1 .f32) : FVec F S1x128 .f32 :=
  k0_pay2 (k0_pay20 (k0_pay15 a g mp))

/-- What a point stores to the output. -/
def outV (q : Vec F S1x256x1024 .bf16) (kt : Vec F S1x1x1024x256 .bf16) (v : Vec F S1x256x1024 .bf16) (a : Vec F S1x1x256x1 .f32)
    (g : Vec F S1x1x1x1x256 .f32) (gain : Vec F S1x1024 .f32) (xc z : Vec F S1x256x1024 .f32) (skip : Vec F S1x1024 .f32)
    (C : Vec F S1024x1152 .f32) (mp : Vec F S1x1 .f32) : FVec F S1x256x1024 .bf16 :=
  k0_pay19 (k0_pay18 (k0_pay9 q) (k0_pay15 a g mp) (k0_pay16 q kt a g mp) (k0_pay17 a g mp) C v gain) skip xc z

end Payloads

section Points
variable {F : FTy → Type} [FloatOps F]
variable (m : (ℓ : Loc nD τ sig) → Buf (Elt F) ℓ)

abbrev prev (c : Dev nD) (t : Fin cfg0.N) := outsAt0 m c (t.val - 1) (Nat.lt_of_le_of_lt (Nat.sub_le _ _) t.isLt)

theorem mem_next (c : Dev nD) (t : Fin cfg0.N) (h0 : ¬t.val % 8 = 0) :
    (outsAt0 m c t.val t.isLt).2.2.2.2.1 = stepC (iblk m c 1 t) (iblk m c 2 t) (iblk m c 3 t) (iblk m c 4 t) (prev m c t).2.2.2.2.1 (lane0 (prev m c t).2.2.2.2.2) := by
  by_cases h1 : t.val % 8 = 7
  · rw [outsAt0_C m c t h0 h1]
    dsimp only
    frame_out
    simp only [read_unread_whole]
    rfl
  · rw [outsAt0_B m c t h0 h1]
    dsimp only
    frame_out
    simp only [read_unread_whole]
    rfl

theorem stab_next (c : Dev nD) (t : Fin cfg0.N) (h0 : ¬t.val % 8 = 0) :
    (outsAt0 m c t.val t.isLt).2.2.2.2.2 = stepM (iblk m c 3 t) (iblk m c 4 t) (lane0 (prev m c t).2.2.2.2.2) := by
  by_cases h1 : t.val % 8 = 7
  · rw [outsAt0_C m c t h0 h1]
    dsimp only
    frame_out
    simp only [read_unread_whole]
    rfl
  · rw [outsAt0_B m c t h0 h1]
    dsimp only
    frame_out
    simp only [read_unread_whole]
    rfl

theorem out_next (c : Dev nD) (t : Fin cfg0.N) (h0 : ¬t.val % 8 = 0) :
    (outsAt0 m c t.val t.isLt).1 = outV (iblk m c 0 t) (iblk m c 1 t) (iblk m c 2 t) (iblk m c 3 t) (iblk m c 4 t) (iblk m c 8 t)
      (iblk m c 9 t) (iblk m c 10 t) (iblk m c 11 t) (prev m c t).2.2.2.2.1 (lane0 (prev m c t).2.2.2.2.2) := by
  by_cases h1 : t.val % 8 = 7
  · rw [outsAt0_C m c t h0 h1]
    dsimp only
    frame_out
    simp only [read_unread_whole]
    rfl
  · rw [outsAt0_B m c t h0 h1]
    dsimp only
    frame_out
    simp only [read_unread_whole]
    rfl

/-- A load of the whole memory after stores to parts of it. -/
theorem load_whole (L : List (View.Piece (Elt F) S1024x1152 .f32)) :
    (View.whole cc0_scratch0).readCov L (Rect.unit (s := S1024x1152) ![0, 0] ![1024, 1152] inb_S1024x1152_S1024x1152_0_0).toLoadRect = View.canon L := by
  rw [View.readCov_eq_canon']
  exact View.ld_unit_lit (S := S1024x1152) (off := ![0, 0]) inb_S1024x1152_S1024x1152_0_0 (View.canon L) (by decide)

theorem stab_first (c : Dev nD) (t : Fin cfg0.N) (h0 : t.val % 8 = 0) :
    (outsAt0 m c t.val t.isLt).2.2.2.2.2 = stepM (iblk m c 3 t) (iblk m c 4 t) (lane0 (k0_pay8 (iblk m c 7 t))) := by
  rw [outsAt0_A m c t h0 (by omega)]
  dsimp only
  frame_out
  simp (disch := decide) only [View.readCov_fill]
  rfl

theorem mem_first (c : Dev nD) (t : Fin cfg0.N) (h0 : t.val % 8 = 0) :
    (outsAt0 m c t.val t.isLt).2.2.2.2.1 = stepC (iblk m c 1 t) (iblk m c 2 t) (iblk m c 3 t) (iblk m c 4 t) (startC (iblk m c 5 t) (iblk m c 6 t)) (lane0 (k0_pay8 (iblk m c 7 t))) := by
  rw [outsAt0_A m c t h0 (by omega)]
  dsimp only
  frame_out
  simp (disch := decide) only [View.readCov_fill, load_whole]
  rfl

theorem out_first (c : Dev nD) (t : Fin cfg0.N) (h0 : t.val % 8 = 0) :
    (outsAt0 m c t.val t.isLt).1 = outV (iblk m c 0 t) (iblk m c 1 t) (iblk m c 2 t) (iblk m c 3 t) (iblk m c 4 t) (iblk m c 8 t)
      (iblk m c 9 t) (iblk m c 10 t) (iblk m c 11 t) (startC (iblk m c 5 t) (iblk m c 6 t)) (lane0 (k0_pay8 (iblk m c 7 t))) := by
  rw [outsAt0_A m c t h0 (by omega)]
  dsimp only
  frame_out
  simp (disch := decide) only [View.readCov_fill, load_whole]
  rfl

/-- The last point of a sequence stores the memory, the normalizer and the stabiliser it leaves. -/
theorem mem_out (c : Dev nD) (t : Fin cfg0.N) (h1 : t.val % 8 = 7) :
    (outsAt0 m c t.val t.isLt).2.1 = k0_pay3 (View.ld (outsAt0 m c t.val t.isLt).2.2.2.2.1
      (Rect.unit (s := S1024x1152) ![0, 0] ![1024, 1024] inb_S1024x1152_S1024x1024_0_0)) := by
  rw [mem_next m c t (by omega), outsAt0_C m c t (by omega) h1]
  dsimp only
  frame_out
  simp (disch := decide) only [View.readCov_fill, read_unread_whole]
  rfl

theorem norm_out (c : Dev nD) (t : Fin cfg0.N) (h1 : t.val % 8 = 7) :
    (outsAt0 m c t.val t.isLt).2.2.1 = k0_pay4 (View.ld (outsAt0 m c t.val t.isLt).2.2.2.2.1
      (Rect.unit (s := S1024x1152) ![0, 1024] ![1024, 128] inb_S1024x1152_S1024x128_0_1024)) := by
  rw [mem_next m c t (by omega), outsAt0_C m c t (by omega) h1]
  dsimp only
  frame_out
  simp (disch := decide) only [View.readCov_fill, read_unread_whole]
  rfl

theorem stab_out (c : Dev nD) (t : Fin cfg0.N) (h1 : t.val % 8 = 7) :
    (outsAt0 m c t.val t.isLt).2.2.2.1 = k0_pay5 (outsAt0 m c t.val t.isLt).2.2.2.2.2 := by
  rw [stab_next m c t (by omega), outsAt0_C m c t (by omega) h1]
  dsimp only
  frame_out
  simp (disch := decide) only [View.readCov_fill, read_unread_whole]
  rfl

end Points

end Cert.Kernel4Ideal.Value
-- ==== Proof.CellSpec.lean ====
/- What the mLSTM cell computes, from plain functions of the arguments: the stabiliser, the memory and the normalizer after
   every position, and the output read from them. -/
module

public import proofs.«01_k».proof.Proof.CellMath
public import proofs.«01_k».proof.Proof.Spec

@[expose] public section

set_option maxRecDepth 16384

noncomputable section

namespace Cert.Cell

open Idealize.ShloMosaic Cert.Chunk

/-- The arguments as plain functions of their coordinates. -/
structure Args where
  q : Fin 4 → Fin 2048 → Fin 4096 → EReal
  k : Fin 4 → Fin 2048 → Fin 4096 → EReal
  v : Fin 4 → Fin 2048 → Fin 4096 → EReal
  ig : Fin 4 → Fin 2048 → Fin 4 → EReal
  fg : Fin 4 → Fin 2048 → Fin 4 → EReal
  c0 : Fin 4 → Fin 4 → Fin 1024 → Fin 1024 → EReal
  n0 : Fin 4 → Fin 4 → Fin 1024 → EReal
  m0 : Fin 4 → Fin 4 → EReal
  gain : Fin 4096 → EReal
  xc : Fin 4 → Fin 2048 → Fin 4096 → EReal
  up : Fin 4 → Fin 2048 → Fin 8192 → EReal
  skip : Fin 4096 → EReal

/-- Lane `d` of head `h`. -/
abbrev lane (h : Fin 4) (d : Fin 1024) : Fin 4096 := ⟨h.val * 1024 + d.val, by omega⟩
/-- The lane of the up-projection that gates lane `d` of head `h`. -/
abbrev zlane (h : Fin 4) (d : Fin 1024) : Fin 8192 := ⟨4096 + (h.val * 1024 + d.val), by omega⟩

/-- The scale of the keys. -/
def scale : EReal := Ideal.ofBits FTy.f32 1023410176#32

/-- The log of the sigmoid, as both programs are written. -/
def lsig (u : EReal) : EReal := -(Cert.Scan.softplus (-u))

theorem lsig_fin {u : EReal} (h : Fin' u) : Fin' (lsig u) := by
  obtain ⟨r, rfl⟩ := h
  obtain ⟨s, hs⟩ := Cert.Scan.softplus_fin (u := -(r : EReal)) ⟨-r, (EReal.coe_neg r).symm ▸ rfl⟩
  exact ⟨-s, by rw [lsig, hs, EReal.coe_neg]⟩

/-- The sequence of the reals a finite row holds, zero beyond it. -/
def seq (g : Fin 2048 → EReal) (n : ℕ) : ℝ := if h : n < 2048 then (g ⟨n, h⟩).toReal else 0

theorem seq_at {g : Fin 2048 → EReal} (hg : ∀ t, Fin' (g t)) (n : ℕ) (hn : n < 2048) : (seq g n : EReal) = g ⟨n, hn⟩ := by
  obtain ⟨r, hr⟩ := hg ⟨n, hn⟩
  rw [seq, dif_pos hn, hr, EReal.toReal_coe]

theorem real_at {x : EReal} (h : Fin' x) : (x.toReal : EReal) = x := by
  obtain ⟨r, rfl⟩ := h
  rw [EReal.toReal_coe]

theorem scale_eq : scale = ((1 / 32 : ℝ) : EReal) := by
  simp [scale, Ideal.ofBits, Ideal.ieee]
  norm_num [zpow_neg]
  exact (EReal.coe_mul _ _).symm.trans (congrArg _ (by norm_num))

theorem scale_fin : Fin' scale := ⟨_, scale_eq⟩

variable (A : Args)

/-- Finiteness of everything the recurrences read. -/
structure Args.Ok : Prop where
  q : ∀ b t j, Fin' (A.q b t j)
  k : ∀ b t j, Fin' (A.k b t j)
  v : ∀ b t j, Fin' (A.v b t j)
  ig : ∀ b t h, Fin' (A.ig b t h)
  fg : ∀ b t h, Fin' (A.fg b t h)
  c0 : ∀ b h d e, Fin' (A.c0 b h d e)
  n0 : ∀ b h d, Fin' (A.n0 b h d)
  m0 : ∀ b h, Fin' (A.m0 b h)

section
variable (b h : Fin 4)

def fs : ℕ → ℝ := seq fun t => lsig (A.fg b t h)
def is : ℕ → ℝ := seq fun t => A.ig b t h
def ks (d : Fin 1024) : ℕ → ℝ := seq fun t => A.k b t (lane h d) * scale
def vs (e : Fin 1024) : ℕ → ℝ := seq fun t => A.v b t (lane h e)
def qs (t : Fin 2048) (d : Fin 1024) : ℝ := (A.q b t (lane h d)).toReal

/-- The stabiliser, the memory and the normalizer before position `n`. -/
def mv (n : ℕ) : ℝ := mx (fs A b h) (is A b h) (A.m0 b h).toReal n
def cm (d e : Fin 1024) (n : ℕ) : ℝ := mem (fs A b h) (is A b h) (A.m0 b h).toReal (fun n => ks A b h d n * vs A b h e n) (A.c0 b h d e).toReal n
def nm (d : Fin 1024) (n : ℕ) : ℝ := mem (fs A b h) (is A b h) (A.m0 b h).toReal (fun n => ks A b h d n * 1) (A.n0 b h d).toReal n

variable {A}
theorem fs_at (ok : A.Ok) (n : ℕ) (hn : n < 2048) : (fs A b h n : EReal) = lsig (A.fg b ⟨n, hn⟩ h) := seq_at (fun t => lsig_fin (ok.fg b t h)) n hn
theorem is_at (ok : A.Ok) (n : ℕ) (hn : n < 2048) : (is A b h n : EReal) = A.ig b ⟨n, hn⟩ h := seq_at (fun t => ok.ig b t h) n hn
theorem ks_at (ok : A.Ok) (d : Fin 1024) (n : ℕ) (hn : n < 2048) : (ks A b h d n : EReal) = A.k b ⟨n, hn⟩ (lane h d) * scale :=
  seq_at (fun t => (ok.k b t _).mul scale_fin) n hn
theorem vs_at (ok : A.Ok) (e : Fin 1024) (n : ℕ) (hn : n < 2048) : (vs A b h e n : EReal) = A.v b ⟨n, hn⟩ (lane h e) := seq_at (fun t => ok.v b t _) n hn
theorem qs_at (ok : A.Ok) (t : Fin 2048) (d : Fin 1024) : (qs A b h t d : EReal) = A.q b t (lane h d) := real_at (ok.q b t _)
theorem mv_zero (ok : A.Ok) : (mv A b h 0 : EReal) = A.m0 b h := real_at (ok.m0 b h)
theorem cm_zero (ok : A.Ok) (d e : Fin 1024) : (cm A b h d e 0 : EReal) = A.c0 b h d e := real_at (ok.c0 b h d e)
theorem nm_zero (ok : A.Ok) (d : Fin 1024) : (nm A b h d 0 : EReal) = A.n0 b h d := real_at (ok.n0 b h d)
variable (A)

/-- What position `t` reads from the memory and from the normalizer, and the quotient. -/
def num (t : Fin 2048) (e : Fin 1024) : EReal := ((∑ d : Fin 1024, qs A b h t d * cm A b h d e (t.val + 1) : ℝ) : EReal)
def den (t : Fin 2048) : EReal := ((∑ d : Fin 1024, qs A b h t d * nm A b h d (t.val + 1) : ℝ) : EReal)
def hv (t : Fin 2048) (e : Fin 1024) : EReal :=
  Ideal.div (num A b h t e) (max (FloatOps.absf (F := Ideal) (φ := .f32) (den A b h t)) (Ideal.exp (-(mv A b h (t.val + 1) : EReal))))

end

/-- A head's layer norm of one row, times the weight. -/
def mean (u : Fin 1024 → EReal) : EReal := Ideal.div (∑ e : Fin 1024, u e) (Ideal.ofBits FTy.f32 1149239296#32)
def norm (u : Fin 1024 → EReal) (g : EReal) (e : Fin 1024) : EReal :=
  (u e - mean u) * Ideal.rsqrt (mean (fun e => (u e - mean u) * (u e - mean u)) + Ideal.ofBits FTy.f32 925353388#32) * g

/-- The output at a position and a lane of a head. -/
def outv (b h : Fin 4) (t : Fin 2048) (e : Fin 1024) : EReal :=
  (norm (hv A b h t) (A.gain (lane h e)) e + A.skip (lane h e) * A.xc b t (lane h e)) * (A.up b t (zlane h e) * Ideal.logistic (A.up b t (zlane h e)))

def outAt (b : Fin 4) (t : Fin 2048) (j : Fin 4096) : EReal := outv A b ⟨j.val / 1024, by omega⟩ t ⟨j.val % 1024, by omega⟩

/-- The padded normalizer. -/
def normAt (b h : Fin 4) (d : Fin 1024) (w : Fin 128) : EReal := if w.val = 0 then (nm A b h d 2048 : EReal) else 0

theorem outAt_eq (b h : Fin 4) (t : Fin 2048) (e : Fin 1024) : outAt A b t (lane h e) = outv A b h t e := by
  have e1 : (⟨(h.val * 1024 + e.val) / 1024, by omega⟩ : Fin 4) = h := Fin.ext (by show (h.val * 1024 + e.val) / 1024 = h.val; omega)
  have e2 : (⟨(h.val * 1024 + e.val) % 1024, by omega⟩ : Fin 1024) = e := Fin.ext (by show (h.val * 1024 + e.val) % 1024 = e.val; omega)
  unfold outAt
  show outv A b ⟨(h.val * 1024 + e.val) / 1024, _⟩ t ⟨(h.val * 1024 + e.val) % 1024, _⟩ = _
  rw [e1, e2]

end Cert.Cell

end
-- ==== Proof.CellApply.lean ====
/- The payloads of the mLSTM cell's body at an index, over the extended reals. -/
module

public import proofs.«01_k».proof.Proof.CellBody
public import proofs.«01_k».proof.Proof.CellSpec
public import proofs.«01_k».proof.Proof.Body

@[expose] public section

set_option maxRecDepth 16384
set_option maxHeartbeats 1000000
noncomputable section

open Idealize.ShloMosaic Idealize.ShloMosaic.TcCoe Idealize.SL.Sem

namespace Cert.Kernel4Ideal.Value

open Cert.Kernel4Ideal Cert.Kernel4Ideal.Gen
open Cert.KernelIdeal.Value (sel_causal negInf)

section Apply
variable (q : Vec Ideal S1x256x1024 .bf16) (kt : Vec Ideal S1x1x1024x256 .bf16) (v : Vec Ideal S1x256x1024 .bf16)
  (a : Vec Ideal S1x1x256x1 .f32) (g : Vec Ideal S1x1x1x1x256 .f32)
  (gain : Vec Ideal S1x1024 .f32) (xc z : Vec Ideal S1x256x1024 .f32) (skip : Vec Ideal S1x1024 .f32)
  (C : Vec Ideal S1024x1152 .f32) (mp : Vec Ideal S1x1 .f32)

/-- The exponents of a point's positions, the stabiliser of its rows. -/
def dm (l s : Fin 256) : EReal := if s.val ≤ l.val then a (ix4 0 0 l 0) + g (ix5 0 0 0 0 s) else ⊥
def sm (l : Fin 256) : EReal := max (mp (ix2 0 0) + a (ix4 0 0 l 0)) (Finset.univ.fold max ⊥ (dm a g l))

theorem dm_apply (l s : Fin 256) : k0_pay13 a g (ix2 l s) = dm a g l s := by
  pointwise [k0_pay13, k0_pay11, k0_pay12]
  simp only [sel_causal, negInf]
  rfl

theorem sm_apply (l : Fin 256) : k0_pay15 a g mp (ix2 l 0) = sm a g mp l := by
  pointwise [k0_pay15, k0_pay14, k0_pay11]
  simp only [dm_apply, negInf]
  rfl

theorem stepM_apply (w : Fin 128) : stepM a g mp (ix2 0 w) = sm a g mp 255 := by
  pointwise [stepM, k0_pay2, k0_pay20]
  exact sm_apply a g mp 255

theorem stepC_mem (d e : Fin 1024) : stepC kt v a g C mp (ix2 d ⟨e.val, by omega⟩)
    = Ideal.exp (mp (ix2 0 0) + a (ix4 0 0 255 0) - sm a g mp 255) * C (ix2 d ⟨e.val, by omega⟩)
      + ∑ s : Fin 256, kt (ix4 0 0 d s) * Ideal.exp (a (ix4 0 0 255 0) + g (ix5 0 0 0 0 s) - sm a g mp 255) * v (ix3 0 s e) := by
  pointwise [stepC, k0_pay1, k0_pay22, k0_pay23, k0_pay24, k0_pay21, k0_pay20, k0_pay10, k0_pay11, k0_pay12]
  simp only [sm_apply]

theorem stepC_norm (d : Fin 1024) (w : Fin 128) : stepC kt v a g C mp (ix2 d ⟨1024 + w.val, by omega⟩)
    = Ideal.exp (mp (ix2 0 0) + a (ix4 0 0 255 0) - sm a g mp 255) * C (ix2 d ⟨1024 + w.val, by omega⟩)
      + ∑ s : Fin 256, kt (ix4 0 0 d s) * Ideal.exp (a (ix4 0 0 255 0) + g (ix5 0 0 0 0 s) - sm a g mp 255) * (if w.val = 0 then 1 else 0) := by
  pointwise [stepC, k0_pay1, k0_pay22, k0_pay23, k0_pay24, k0_pay21, k0_pay20, k0_pay10, k0_pay11, k0_pay12]
  simp only [sm_apply, show (0#32 : BitVec 32) = BitVec.ofNat 32 0 from rfl, WordCmp.cmpi_eq_ofNat (show w.val < 2 ^ 32 by omega) (show 0 < 2 ^ 32 by omega),
    WordCmp.select_ofBool, decide_eq_true_eq]
  refine congrArg _ (Finset.sum_congr rfl fun s _ => ?_)
  split
  · rw [mul_one]
  · rw [mul_zero]

/-- What row `l` of a point reads: the quotient the layer norm takes. -/
def quot (l : Fin 256) (e : Fin 1024) : EReal :=
  Ideal.div ((∑ s : Fin 256, (∑ d : Fin 1024, q (ix3 0 l d) * kt (ix4 0 0 d s)) * Ideal.exp (dm a g l s - sm a g mp l) * v (ix3 0 s e))
      + Ideal.exp (mp (ix2 0 0) + a (ix4 0 0 l 0) - sm a g mp l) * (∑ d : Fin 1024, q (ix3 0 l d) * C (ix2 d ⟨e.val, by omega⟩)))
    (max (FloatOps.absf (F := Ideal) (φ := .f32) ((∑ s : Fin 256, (∑ d : Fin 1024, q (ix3 0 l d) * kt (ix4 0 0 d s)) * Ideal.exp (dm a g l s - sm a g mp l))
        + Ideal.exp (mp (ix2 0 0) + a (ix4 0 0 l 0) - sm a g mp l) * (∑ d : Fin 1024, q (ix3 0 l d) * C (ix2 d ⟨1024, by omega⟩))))
      (Ideal.exp (0 - sm a g mp l)))

theorem out_apply (l : Fin 256) (e : Fin 1024) : outV q kt v a g gain xc z skip C mp (ix3 0 l e)
    = (Cert.Cell.norm (quot q kt v a g C mp l) (gain (ix2 0 e)) e + skip (ix2 0 e) * xc (ix3 0 l e)) * (z (ix3 0 l e) * Ideal.logistic (z (ix3 0 l e))) := by
  pointwise [outV, k0_pay19, k0_pay18, k0_pay17, k0_pay16, k0_pay14, k0_pay11, k0_pay10, k0_pay9]
  simp only [sm_apply, dm_apply]
  rfl

end Apply

end Cert.Kernel4Ideal.Value
-- ==== Proof.CellArrays.lean ====
/- The arrays the host program hands to the mLSTM cell's launch, as terms of the arguments. -/
module

public import proofs.«01_k».proof.Proof.CellApply

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

section Terms
variable {F : FTy → Type} [FloatOps F]

/-- The zero the softplus is written with. -/
def zeroV : FVec F S4x2048x4 .f32 := broadcastInDim S4x2048x4 ![] bcast_S_S4x2048x4 (constant S_ .f32 0x00000000#32)

/-- The logs of the forget gates. -/
def logfV (f : FVec F S4x2048x4 .f32) : FVec F S4x2048x4 .f32 :=
  Host.negf (select (cmpf .une (subf (Host.negf f) zeroV) (subf (Host.negf f) zeroV)) (addf (Host.negf f) zeroV)
    (addf (maximumf (Host.negf f) zeroV) (Host.log1p (Host.exp (Host.negf (Host.absf (subf (Host.negf f) zeroV)))))))

/-- The logs of the forget gates summed up inside each chunk. -/
def acsV (f : FVec F S4x2048x4 .f32) : FVec F S4x8x256x4 .f32 :=
  Host.reduceWindowAdd ![1, 1, 256, 1] ![1, 1, 1, 1] ![0, 0, 255, 0] ![0, 0, 0, 0]
    (shapeCast S4x8x256x4 (logfV f) shapeCasts_S4x2048x4_S4x8x256x4)
    (broadcastInDim S_ ![] bcast_S_S_ (constant S_ .f32 0x00000000#32) : FVec F S_ .f32)
    reduceWindows_S4x8x256x4_S4x8x256x4_w1s1p0_0_w1s1p0_0_w256s1p255_0_w1s1p0_0 h_S_

/-- The same as a column for each sequence. -/
def colV (f : FVec F S4x2048x4 .f32) : FVec F S4x4x2048x1 .f32 :=
  shapeCast S4x4x2048x1 (transpose S4x4x8x256 [0, 3, 1, 2] (acsV f) transposes_S4x8x256x4_S4x4x8x256_0_3_1_2) shapeCasts_S4x4x8x256_S4x4x2048x1

/-- The input gates less the sums, as a row for each chunk. -/
def rowV (i f : FVec F S4x2048x4 .f32) : FVec F S4x4x8x1x256 .f32 :=
  shapeCast S4x4x8x1x256 (transpose S4x4x8x256 [0, 3, 1, 2] (subf (shapeCast S4x8x256x4 i shapeCasts_S4x2048x4_S4x8x256x4) (acsV f))
    transposes_S4x8x256x4_S4x4x8x256_0_3_1_2) shapeCasts_S4x4x8x256_S4x4x8x1x256

/-- The scaled keys of each head, the position last. -/
def ktV (k : FVec F S4x2048x4096 .bf16) : FVec F S4x4x1024x2048 .bf16 :=
  transpose S4x4x1024x2048 [0, 2, 1, 3] (transpose S4x1024x4x2048 [0, 3, 2, 1] (shapeCast S4x2048x4x1024
    (mulf k (broadcastInDim S4x2048x4096 ![] bcast_S_S4x2048x4096 (constant S_ .bf16 0x3D00#16)))
    shapeCasts_S4x2048x4096_S4x2048x4x1024) transposes_S4x2048x4x1024_S4x1024x4x2048_0_3_2_1) transposes_S4x1024x4x2048_S4x4x1024x2048_0_2_1_3

/-- The initial normalizer in the first lane, zeros beside it. -/
def n0V (n : FVec F S4x4x1024 .f32) : FVec F S4x4x1024x128 .f32 :=
  pad S4x4x1024x128 ![0, 0, 0, 0] ![0, 0, 0, 127] ![0, 0, 0, 0] (broadcastInDim S4x4x1024x1 ![0, 1, 2] bcast_S4x4x1024_S4x4x1024x1_0_1_2 n)
    (sitofp .f32 (constantI S_ 32 0#32) : FVec F S_ .f32) pads_S4x4x1024x1_S4x4x1024x128_000_000_000_01270 h_S_

/-- The initial stabiliser in every lane. -/
def m0V (x : FVec F S4x4 .f32) : FVec F S4x4x1x128 .f32 :=
  broadcastInDim S4x4x1x128 ![0, 1, 2, 3] bcast_S4x4x1x1_S4x4x1x128_0_1_2_3 (broadcastInDim S4x4x1x1 ![0, 1] bcast_S4x4_S4x4x1x1_0_1 x)

/-- Weights as a row. -/
def weightV (g : FVec F S4096 .f32) : FVec F S1x4096 .f32 := shapeCast S1x4096 g shapeCasts_S4096_S1x4096

end Terms

section Arrays
variable {F : FTy → Type} [FloatOps F]
variable (m : (ℓ : Loc nD τ sig) → Buf (Elt F) ℓ)

abbrev aQ (c : Dev nD) : FVec F S4x2048x4096 .bf16 := m (c.tc.loc main_arg0)
abbrev aK (c : Dev nD) : FVec F S4x2048x4096 .bf16 := m (c.tc.loc main_arg1)
abbrev aV (c : Dev nD) : FVec F S4x2048x4096 .bf16 := m (c.tc.loc main_arg2)
abbrev aI (c : Dev nD) : FVec F S4x2048x4 .f32 := m (c.tc.loc main_arg3)
abbrev aF (c : Dev nD) : FVec F S4x2048x4 .f32 := m (c.tc.loc main_arg4)
abbrev aC0 (c : Dev nD) : FVec F S4x4x1024x1024 .f32 := m (c.tc.loc main_arg5)
abbrev aN0 (c : Dev nD) : FVec F S4x4x1024 .f32 := m (c.tc.loc main_arg6)
abbrev aM0 (c : Dev nD) : FVec F S4x4 .f32 := m (c.tc.loc main_arg7)
abbrev aGain (c : Dev nD) : FVec F S4096 .f32 := m (c.tc.loc main_arg8)
abbrev aXc (c : Dev nD) : FVec F S4x2048x4096 .f32 := m (c.tc.loc main_arg9)
abbrev aUp (c : Dev nD) : FVec F S4x2048x8192 .f32 := m (c.tc.loc main_arg10)
abbrev aSkip (c : Dev nD) : FVec F S4096 .f32 := m (c.tc.loc main_arg11)

theorem V_q (c : Dev nD) : V m c main_arg0 = aQ m c := by
  unfold_abbrev_sides
  simp only [hostOps0, hostOps0_1, hostOps0_2, hostOps0_3, hostOps0_4, hostOps0_5, List.flatten_cons, List.flatten_nil, List.cons_append,
    List.nil_append, List.append_nil]
  after_results
theorem V_v (c : Dev nD) : V m c main_arg2 = aV m c := by
  unfold_abbrev_sides
  simp only [hostOps0, hostOps0_1, hostOps0_2, hostOps0_3, hostOps0_4, hostOps0_5, List.flatten_cons, List.flatten_nil, List.cons_append,
    List.nil_append, List.append_nil]
  after_results
theorem V_c0 (c : Dev nD) : V m c main_arg5 = aC0 m c := by
  unfold_abbrev_sides
  simp only [hostOps0, hostOps0_1, hostOps0_2, hostOps0_3, hostOps0_4, hostOps0_5, List.flatten_cons, List.flatten_nil, List.cons_append,
    List.nil_append, List.append_nil]
  after_results
theorem V_xc (c : Dev nD) : V m c main_arg9 = aXc m c := by
  unfold_abbrev_sides
  simp only [hostOps0, hostOps0_1, hostOps0_2, hostOps0_3, hostOps0_4, hostOps0_5, List.flatten_cons, List.flatten_nil, List.cons_append,
    List.nil_append, List.append_nil]
  after_results
theorem V_up (c : Dev nD) : V m c main_arg10 = aUp m c := by
  unfold_abbrev_sides
  simp only [hostOps0, hostOps0_1, hostOps0_2, hostOps0_3, hostOps0_4, hostOps0_5, List.flatten_cons, List.flatten_nil, List.cons_append,
    List.nil_append, List.append_nil]
  after_results
theorem V_kt (c : Dev nD) : V m c main_v5 = ktV (aK m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_col (c : Dev nD) : V m c main_v9 = colV (aF m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_row (c : Dev nD) : V m c main_v13 = rowV (aI m c) (aF m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_n0 (c : Dev nD) : V m c main_v15 = n0V (aN0 m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_m0 (c : Dev nD) : V m c main_v17 = m0V (aM0 m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_gain (c : Dev nD) : V m c main_v18 = weightV (aGain m c) := by
  unfold_abbrev_sides
  simp only [hostOps0, hostOps0_1, hostOps0_2, hostOps0_3, hostOps0_4, hostOps0_5, List.flatten_cons, List.flatten_nil, List.cons_append,
    List.nil_append, List.append_nil]
  after_results
  rfl
theorem V_skip (c : Dev nD) : V m c main_v19 = weightV (aSkip m c) := by
  unfold_abbrev_sides
  simp only [hostOps0, hostOps0_1, hostOps0_2, hostOps0_3, hostOps0_4, hostOps0_5, List.flatten_cons, List.flatten_nil, List.cons_append,
    List.nil_append, List.append_nil]
  after_results
  rfl
end Arrays

end Cert.Kernel4Ideal.Value
-- ==== Proof.CellHost.lean ====
/- The arrays the host program hands to the mLSTM cell's launch, at an index over the extended reals. -/
module

public import proofs.«01_k».proof.Proof.CellArrays
public import proofs.«01_k».proof.Proof.Prefix

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen

open Cert.Chunk Cert.Cell
open Cert.Scan (pos)

/-- The arguments of the launch's program, as plain functions. -/
def argsK (m : (ℓ : Loc nD τ sig) → Buf (Elt Ideal) ℓ) (c : Dev nD) : Args where
  q b t j := aQ m c (ix3 b t j)
  k b t j := aK m c (ix3 b t j)
  v b t j := aV m c (ix3 b t j)
  ig b t h := aI m c (ix3 b t h)
  fg b t h := aF m c (ix3 b t h)
  c0 b h d e := aC0 m c (ix4 b h d e)
  n0 b h d := aN0 m c (ix3 b h d)
  m0 b h := aM0 m c (ix2 b h)
  gain j := aGain m c (ix1 j)
  xc b t j := aXc m c (ix3 b t j)
  up b t j := aUp m c (ix3 b t j)
  skip j := aSkip m c (ix1 j)

variable (m : (ℓ : Loc nD τ sig) → Buf (Elt Ideal) ℓ) (c : Dev nD)

theorem logf_apply (b : Fin 4) (t : Fin 2048) (h : Fin 4) : logfV (aF m c) (ix3 b t h) = lsig ((argsK m c).fg b t h) := by
  pointwise [logfV, zeroV]
  rw [if_neg (not_not.mpr rfl)]
  rfl

theorem acs_apply (ok : (argsK m c).Ok) (b : Fin 4) (k : Fin 8) (l : Fin 256) (h : Fin 4) :
    acsV (aF m c) (ix4 b k l h) = (run (fs (argsK m c) b h) (k.val * 256) l.val : EReal) := by
  refine Eq.trans (Cert.Prefix.cumsum_apply (s := S4x8x256x4) (2 : Fin 4) 256 rfl _ _ _ _ (by decide) (by decide) (by decide) _ _ _ _
    (fun i => ?_) _ (fun s => (fs (argsK m c) b h (k.val * 256 + s.val) : EReal)) (fun q i hi ho => ?_)) (run_sum _ _ _ (fun s => rfl) l)
  · pointwise []
  · rw [fs_at b h ok _ (by omega), ← logf_apply]
    obtain rfl : i = ix4 b k q h := by
      funext a
      fin_cases a
      · exact ho 0 (by decide)
      · exact ho 1 (by decide)
      · exact Fin.ext hi
      · exact ho 3 (by decide)
    pointwise []

theorem col_apply (ok : (argsK m c).Ok) (b h : Fin 4) (k : Fin 8) (l : Fin 256) :
    colV (aF m c) (ix4 b h (pos k l) 0) = (run (fs (argsK m c) b h) (k.val * 256) l.val : EReal) := by
  refine Eq.trans ?_ (acs_apply m c ok b k l h)
  pointwise [colV]
  congr 2
  · exact Fin.ext (by show (k.val * 256 + l.val) / 256 = k.val; omega)
  · exact Fin.ext (by show (k.val * 256 + l.val) % 256 = l.val; omega)

theorem row_apply (ok : (argsK m c).Ok) (b h : Fin 4) (k : Fin 8) (l : Fin 256) :
    rowV (aI m c) (aF m c) (ix5 b h k 0 l)
      = (is (argsK m c) b h (k.val * 256 + l.val) : EReal) - (run (fs (argsK m c) b h) (k.val * 256) l.val : EReal) := by
  rw [is_at b h ok _ (by omega)]
  pointwise [rowV]
  rw [acs_apply m c ok b k l h]
  rfl

theorem bf16_scale : (Ideal.ofBits FTy.bf16 15616#16 : EReal) = scale := by
  rw [scale_eq]
  simp [Ideal.ofBits, Ideal.ieee]
  exact (EReal.coe_mul _ _).symm.trans (congrArg _ (by norm_num))

theorem kt_apply (ok : (argsK m c).Ok) (b h : Fin 4) (d : Fin 1024) (t : Fin 2048) :
    ktV (aK m c) (ix4 b h d t) = (ks (argsK m c) b h d t.val : EReal) := by
  rw [ks_at b h ok d _ t.isLt]
  pointwise [ktV]
  rw [bf16_scale]
  rfl

theorem n0_apply (b h : Fin 4) (d : Fin 1024) (w : Fin 128) : n0V (aN0 m c) (ix4 b h d w) = if w.val = 0 then (argsK m c).n0 b h d else 0 := by
  pointwise [n0V]
  by_cases hw : w.val = 0
  · rw [dif_pos (by omega), if_pos hw]
    rfl
  · rw [dif_neg (by omega), if_neg hw]
    show (((0#32 : BitVec 32).toInt : ℝ) : EReal) = 0
    simp

theorem m0_apply (b h : Fin 4) (w : Fin 128) : m0V (aM0 m c) (ix4 b h 0 w) = (argsK m c).m0 b h := by
  pointwise [m0V]
  rfl

theorem gain_apply (j : Fin 4096) : weightV (aGain m c) (ix2 0 j) = (argsK m c).gain j := by
  pointwise [weightV]
  rfl
theorem skip_apply (j : Fin 4096) : weightV (aSkip m c) (ix2 0 j) = (argsK m c).skip j := by
  pointwise [weightV]
  rfl

end Cert.Kernel4Ideal.Value
-- ==== Proof.CellBlocks.lean ====
/- The cell's input blocks at a grid point, read at an index as entries of the arguments. -/
module

public import proofs.«01_k».proof.Proof.CellHost

@[expose] public section

set_option maxRecDepth 16384
set_option maxHeartbeats 1000000
noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Chunk Cert.Cell
open Cert.Scan (pos)

/-- The batch, head and chunk of a grid point. -/
def pb (t : Fin cfg0.N) : Fin 4 := ⟨t.val / 32, by have := t.isLt; have e : cfg0.N = 128 := N_0; omega⟩
def ph (t : Fin cfg0.N) : Fin 4 := ⟨t.val / 8 % 4, by omega⟩
def pk (t : Fin cfg0.N) : Fin 8 := ⟨t.val % 8, by omega⟩

theorem place : ∀ t : Fin cfg0.N,
    (cfg0.win 0).index t = ![t.val / 32, t.val % 8, t.val / 8 % 4]
    ∧ (cfg0.win 1).index t = ![t.val / 32, t.val / 8 % 4, 0, t.val % 8]
    ∧ (cfg0.win 2).index t = ![t.val / 32, t.val % 8, t.val / 8 % 4]
    ∧ (cfg0.win 3).index t = ![t.val / 32, t.val / 8 % 4, t.val % 8, 0]
    ∧ (cfg0.win 4).index t = ![t.val / 32, t.val / 8 % 4, t.val % 8, 0, 0]
    ∧ (cfg0.win 5).index t = ![t.val / 32, t.val / 8 % 4, 0, 0]
    ∧ (cfg0.win 6).index t = ![t.val / 32, t.val / 8 % 4, 0, 0]
    ∧ (cfg0.win 7).index t = ![t.val / 32, t.val / 8 % 4, 0, 0]
    ∧ (cfg0.win 8).index t = ![0, t.val / 8 % 4]
    ∧ (cfg0.win 9).index t = ![t.val / 32, t.val % 8, t.val / 8 % 4]
    ∧ (cfg0.win 10).index t = ![t.val / 32, t.val % 8, 4 + t.val / 8 % 4]
    ∧ (cfg0.win 11).index t = ![0, t.val / 8 % 4]
    ∧ (cfg0.win 12).index t = ![t.val / 32, t.val % 8, t.val / 8 % 4]
    ∧ (cfg0.win 13).index t = ![t.val / 32, t.val / 8 % 4, 0, 0]
    ∧ (cfg0.win 14).index t = ![t.val / 32, t.val / 8 % 4, 0, 0]
    ∧ (cfg0.win 15).index t = ![t.val / 32, t.val / 8 % 4, 0, 0] := by decide +kernel

variable (m : (ℓ : Loc nD τ sig) → Buf (Elt Ideal) ℓ) (c : Dev nD) (t : Fin cfg0.N)

theorem blk0 (ok : (argsK m c).Ok) (l : Fin 256) (d : Fin 1024) :
    iblk m c 0 t (ix3 0 l d) = (qs (argsK m c) (pb t) (ph t) (pos (pk t) l) d : EReal) := by
  rw [qs_at _ _ ok]
  show _ = aQ m c (ix3 (pb t) (pos (pk t) l) (lane (ph t) d))
  rw [← V_q]
  blk_ext [iblk, place t, pb, ph, pk]

theorem blk1 (ok : (argsK m c).Ok) (d : Fin 1024) (s : Fin 256) :
    iblk m c 1 t (ix4 0 0 d s) = (ks (argsK m c) (pb t) (ph t) d ((pk t).val * 256 + s.val) : EReal) := by
  rw [show (pk t).val * 256 + s.val = (pos (pk t) s).val from rfl, ← kt_apply m c ok, ← V_kt]
  blk_ext [iblk, place t, pb, ph, pk]

theorem blk2 (ok : (argsK m c).Ok) (s : Fin 256) (e : Fin 1024) :
    iblk m c 2 t (ix3 0 s e) = (vs (argsK m c) (pb t) (ph t) e ((pk t).val * 256 + s.val) : EReal) := by
  rw [vs_at _ _ ok _ _ (by omega)]
  show _ = aV m c (ix3 (pb t) (pos (pk t) s) (lane (ph t) e))
  rw [← V_v]
  blk_ext [iblk, place t, pb, ph, pk]

theorem blk3 (ok : (argsK m c).Ok) (l : Fin 256) :
    iblk m c 3 t (ix4 0 0 l 0) = (run (fs (argsK m c) (pb t) (ph t)) ((pk t).val * 256) l.val : EReal) := by
  rw [← col_apply m c ok, ← V_col]
  blk_ext [iblk, place t, pb, ph, pk]

theorem blk4 (ok : (argsK m c).Ok) (s : Fin 256) :
    iblk m c 4 t (ix5 0 0 0 0 s) = (is (argsK m c) (pb t) (ph t) ((pk t).val * 256 + s.val) : EReal)
      - (run (fs (argsK m c) (pb t) (ph t)) ((pk t).val * 256) s.val : EReal) := by
  rw [← row_apply m c ok, ← V_row]
  blk_ext [iblk, place t, pb, ph, pk]

theorem blk5 (d e : Fin 1024) : iblk m c 5 t (ix4 0 0 d e) = (argsK m c).c0 (pb t) (ph t) d e := by
  show _ = aC0 m c (ix4 (pb t) (ph t) d e)
  rw [← V_c0]
  blk_ext [iblk, place t, pb, ph, pk]

theorem blk6 (d : Fin 1024) (w : Fin 128) : iblk m c 6 t (ix4 0 0 d w) = if w.val = 0 then (argsK m c).n0 (pb t) (ph t) d else 0 := by
  rw [← n0_apply, ← V_n0]
  blk_ext [iblk, place t, pb, ph, pk]

theorem blk7 (w : Fin 128) : iblk m c 7 t (ix4 0 0 0 w) = (argsK m c).m0 (pb t) (ph t) := by
  rw [← m0_apply m c _ _ w, ← V_m0]
  blk_ext [iblk, place t, pb, ph, pk]

theorem blk8 (e : Fin 1024) : iblk m c 8 t (ix2 0 e) = (argsK m c).gain (lane (ph t) e) := by
  rw [← gain_apply, ← V_gain]
  blk_ext [iblk, place t, pb, ph, pk]

theorem blk9 (l : Fin 256) (e : Fin 1024) : iblk m c 9 t (ix3 0 l e) = (argsK m c).xc (pb t) (pos (pk t) l) (lane (ph t) e) := by
  show _ = aXc m c (ix3 (pb t) (pos (pk t) l) (lane (ph t) e))
  rw [← V_xc]
  blk_ext [iblk, place t, pb, ph, pk]

theorem blk10 (l : Fin 256) (e : Fin 1024) : iblk m c 10 t (ix3 0 l e) = (argsK m c).up (pb t) (pos (pk t) l) (zlane (ph t) e) := by
  show _ = aUp m c (ix3 (pb t) (pos (pk t) l) (zlane (ph t) e))
  rw [← V_up]
  blk_ext [iblk, place t, pb, ph, pk]

theorem blk11 (e : Fin 1024) : iblk m c 11 t (ix2 0 e) = (argsK m c).skip (lane (ph t) e) := by
  rw [← skip_apply, ← V_skip]
  blk_ext [iblk, place t, pb, ph, pk]

end Cert.Kernel4Ideal.Value
-- ==== Proof.CellStart.lean ====
/- Parts of the carried memory and stabiliser at an index. -/
module

public import proofs.«01_k».proof.Proof.CellBlocks

@[expose] public section

set_option maxRecDepth 16384
set_option maxHeartbeats 200000
noncomputable section

open Idealize.ShloMosaic Idealize.ShloMosaic.TcCoe Idealize.SL.Sem

namespace Cert.Kernel4Ideal.Value

open Cert.Kernel4Ideal Cert.Kernel4Ideal.Gen

abbrev boxC : Rect S1024x1152 := Rect.unit (s := S1024x1152) ![0, 0] ![1024, 1024] inb_S1024x1152_S1024x1024_0_0
abbrev boxN : Rect S1024x1152 := Rect.unit (s := S1024x1152) ![0, 1024] ![1024, 128] inb_S1024x1152_S1024x128_0_1024
abbrev boxM : Rect S1x128 := Rect.unit (s := S1x128) ![0, 0] ![1, 1] inb_S1x128_S1x1_0_0

theorem boxC_emb (d e : Fin 1024) : boxC.emb (ix2 d e) = ix2 d ⟨e.val, by omega⟩ := by
  funext a
  fin_cases a
  · exact Fin.ext (by show 0 + 1 * d.val = d.val; omega)
  · exact Fin.ext (by show 0 + 1 * e.val = e.val; omega)

theorem boxN_emb (d : Fin 1024) (w : Fin 128) : boxN.emb (ix2 d w) = ix2 d ⟨1024 + w.val, by omega⟩ := by
  funext a
  fin_cases a
  · exact Fin.ext (by show 0 + 1 * d.val = d.val; omega)
  · exact Fin.ext (by show 1024 + 1 * w.val = 1024 + w.val; omega)

theorem boxM_emb : boxM.emb (ix2 0 0) = ix2 0 0 := by
  funext a
  fin_cases a <;> rfl

theorem boxN_misses (d e : Fin 1024) : (ix2 d ⟨e.val, by omega⟩ : S1024x1152.Idx) ∉ boxN.set := by
  intro h
  rw [Rect.mem_set_unit] at h
  have h1 : 1024 ≤ e.val := (h 1).1
  omega

theorem lane0_apply (M : Vec Ideal S1x128 .f32) : lane0 M (ix2 0 0) = M (ix2 0 0) := congrArg M boxM_emb

theorem ld_mem (C : Vec Ideal S1024x1152 .f32) (d e : Fin 1024) : k0_pay3 (View.ld C boxC) (ix4 0 0 d e) = C (ix2 d ⟨e.val, by omega⟩) := by
  pointwise [k0_pay3]

theorem ld_norm (C : Vec Ideal S1024x1152 .f32) (d : Fin 1024) (w : Fin 128) :
    k0_pay4 (View.ld C boxN) (ix4 0 0 d w) = C (ix2 d ⟨1024 + w.val, by omega⟩) := by
  pointwise [k0_pay4]

theorem start_norm (c0 : Vec Ideal S1x1x1024x1024 .f32) (n0 : Vec Ideal S1x1x1024x128 .f32) (d : Fin 1024) (w : Fin 128) :
    startC c0 n0 (ix2 d ⟨1024 + w.val, by omega⟩) = n0 (ix4 0 0 d w) := by
  rw [← boxN_emb]
  refine (View.canon_cons_emb boxN _ _ _).trans ?_
  pointwise [k0_pay7]

theorem start_mem (c0 : Vec Ideal S1x1x1024x1024 .f32) (n0 : Vec Ideal S1x1x1024x128 .f32) (d e : Fin 1024) :
    startC c0 n0 (ix2 d ⟨e.val, by omega⟩) = c0 (ix4 0 0 d e) := by
  unfold startC
  rw [View.canon_cons_of_not_mem (⟨boxN, k0_pay7 n0⟩ : View.Piece (Elt Ideal) S1024x1152 .f32) [⟨boxC, k0_pay6 c0⟩] (boxN_misses d e), ← boxC_emb,
    View.canon_cons_emb boxC]
  pointwise [k0_pay6]

end Cert.Kernel4Ideal.Value
-- ==== Proof.CellRead.lean ====
/- What a position reads and what a stretch leaves, in the specification's words: the forms both programs compute. -/
module

public import proofs.«01_k».proof.Proof.CellSpec

@[expose] public section

set_option maxHeartbeats 400000

noncomputable section

namespace Cert.Cell

open Idealize.ShloMosaic Cert.Chunk

variable (A : Args) (b h : Fin 4) {L : ℕ} (p : ℕ)

theorem num_read (t : Fin L) (T : Fin 2048) (hT : T.val = p + t.val) (e : Fin 1024) :
    (∑ s : Fin L, (∑ d : Fin 1024, (qs A b h T d : EReal) * (ks A b h d (p + s.val) : EReal))
        * Ideal.exp (ex (fs A b h) (is A b h) p t s - (mv A b h (p + t.val + 1) : EReal)) * (vs A b h e (p + s.val) : EReal))
      + Ideal.exp ((mv A b h p : EReal) + (run (fs A b h) p t.val : EReal) - (mv A b h (p + t.val + 1) : EReal))
        * (∑ d : Fin 1024, (qs A b h T d : EReal) * (cm A b h d e p : EReal)) = num A b h T e := by
  unfold num
  rw [hT]
  exact read (fs A b h) (is A b h) (A.m0 b h).toReal p (qs A b h T) (fun d => ks A b h d) (vs A b h e) (fun d => (A.c0 b h d e).toReal) t

theorem den_read (t : Fin L) (T : Fin 2048) (hT : T.val = p + t.val) :
    (∑ s : Fin L, (∑ d : Fin 1024, (qs A b h T d : EReal) * (ks A b h d (p + s.val) : EReal))
        * Ideal.exp (ex (fs A b h) (is A b h) p t s - (mv A b h (p + t.val + 1) : EReal)))
      + Ideal.exp ((mv A b h p : EReal) + (run (fs A b h) p t.val : EReal) - (mv A b h (p + t.val + 1) : EReal))
        * (∑ d : Fin 1024, (qs A b h T d : EReal) * (nm A b h d p : EReal)) = den A b h T := by
  unfold den
  rw [hT]
  refine Eq.trans (congrArg₂ (· + ·) (Finset.sum_congr rfl fun s _ => ?_) rfl)
    (read (fs A b h) (is A b h) (A.m0 b h).toReal p (qs A b h T) (fun d => ks A b h d) (fun _ => 1) (fun d => (A.n0 b h d).toReal) t)
  rw [EReal.coe_one, mul_one]
  rfl

theorem mem_leave (d e : Fin 1024) (hL : 0 < L) :
    Ideal.exp ((mv A b h p : EReal) + (run (fs A b h) p (L - 1) : EReal) - (mv A b h (p + L) : EReal)) * (cm A b h d e p : EReal)
      + ∑ s : Fin L, Ideal.exp (((run (fs A b h) p (L - 1) - run (fs A b h) p s.val + is A b h (p + s.val) : ℝ) : EReal) - (mv A b h (p + L) : EReal))
          * ((ks A b h d (p + s.val) : EReal) * (vs A b h e (p + s.val) : EReal))
      = (cm A b h d e (p + L) : EReal) := by
  simp only [← EReal.coe_mul]
  exact leave (fs A b h) (is A b h) (A.m0 b h).toReal p (fun n => ks A b h d n * vs A b h e n) (A.c0 b h d e).toReal hL

theorem norm_leave (d : Fin 1024) (hL : 0 < L) :
    Ideal.exp ((mv A b h p : EReal) + (run (fs A b h) p (L - 1) : EReal) - (mv A b h (p + L) : EReal)) * (nm A b h d p : EReal)
      + ∑ s : Fin L, Ideal.exp (((run (fs A b h) p (L - 1) - run (fs A b h) p s.val + is A b h (p + s.val) : ℝ) : EReal) - (mv A b h (p + L) : EReal))
          * (ks A b h d (p + s.val) : EReal)
      = (nm A b h d (p + L) : EReal) := by
  refine Eq.trans (congrArg₂ (· + ·) rfl (Finset.sum_congr rfl fun s _ => ?_))
    (leave (fs A b h) (is A b h) (A.m0 b h).toReal p (fun n => ks A b h d n * 1) (A.n0 b h d).toReal hL)
  rw [mul_one]
  rfl

theorem stab_read (t : Fin L) :
    max ((mv A b h p : EReal) + (run (fs A b h) p t.val : EReal)) (Finset.univ.fold max ⊥ (ex (fs A b h) (is A b h) p t)) = (mv A b h (p + t.val + 1) : EReal) :=
  stab _ _ _ _ t

end Cert.Cell

end
-- ==== Proof.CellFinal.lean ====
/- The cell's launch over its whole grid: the carried memory and stabiliser are the recurrences, and the four result arrays
   hold what the specification says. -/
module

public import proofs.«01_k».proof.Proof.CellStart
public import proofs.«01_k».proof.Proof.CellRead
public import Idealize.ShloMosaic.Lib.Pipeline.Covers

@[expose] public section

set_option maxRecDepth 16384
set_option maxHeartbeats 400000
noncomputable section

open Idealize.ShloMosaic Idealize.ShloMosaic.TcCoe Idealize.SL.Sem
open Idealize.ShloMosaic.Pipeline (Dat)

namespace Cert.Kernel4Ideal.Value

open Cert.Kernel4Ideal Cert.Kernel4Ideal.Gen Cert.Chunk Cert.Cell
open Cert.Scan (pos)

variable (m : (ℓ : Loc nD τ sig) → Buf (Elt Ideal) ℓ) (c : Dev nD)

/-- A carried memory that is the recurrences' before position `n`. -/
structure IsMem (b h : Fin 4) (n : ℕ) (C : Vec Ideal S1024x1152 .f32) : Prop where
  mem : ∀ d e : Fin 1024, C (ix2 d ⟨e.val, by omega⟩) = (cm (argsK m c) b h d e n : EReal)
  norm : ∀ (d : Fin 1024) (w : Fin 128), C (ix2 d ⟨1024 + w.val, by omega⟩) = if w.val = 0 then (nm (argsK m c) b h d n : EReal) else 0

section Point
variable (ok : (argsK m c).Ok) (t : Fin cfg0.N)
include ok

theorem dm_point (l s : Fin 256) : dm (iblk m c 3 t) (iblk m c 4 t) l s
    = ex (fs (argsK m c) (pb t) (ph t)) (is (argsK m c) (pb t) (ph t)) ((pk t).val * 256) l s := by
  unfold dm ex
  rw [blk3 m c t ok, blk4 m c t ok]
  split
  · rw [← EReal.coe_sub, ← EReal.coe_add]
    exact congrArg _ (by ring)
  · rfl

variable (mp : Vec Ideal S1x1 .f32) (hmp : mp (ix2 0 0) = (mv (argsK m c) (pb t) (ph t) ((pk t).val * 256) : EReal))
include hmp

theorem sm_point (l : Fin 256) : sm (iblk m c 3 t) (iblk m c 4 t) mp l = (mv (argsK m c) (pb t) (ph t) ((pk t).val * 256 + l.val + 1) : EReal) := by
  unfold sm
  rw [show dm (iblk m c 3 t) (iblk m c 4 t) l = ex (fs (argsK m c) (pb t) (ph t)) (is (argsK m c) (pb t) (ph t)) ((pk t).val * 256) l from
    funext (dm_point m c ok t l), hmp, blk3 m c t ok]
  exact stab _ _ _ _ l

theorem stepM_point (w : Fin 128) : stepM (iblk m c 3 t) (iblk m c 4 t) mp (ix2 0 w) = (mv (argsK m c) (pb t) (ph t) (((pk t).val + 1) * 256) : EReal) := by
  rw [stepM_apply, sm_point m c ok t mp hmp, show ((pk t).val + 1) * 256 = (pk t).val * 256 + (255 : Fin 256).val + 1 by
    show _ = (pk t).val * 256 + 255 + 1; omega]

theorem sm_last : sm (iblk m c 3 t) (iblk m c 4 t) mp 255 = (mv (argsK m c) (pb t) (ph t) ((pk t).val * 256 + 256) : EReal) :=
  sm_point m c ok t mp hmp 255

/-- What a position writes, weighted for the end of its chunk. -/
theorem weight_point (s : Fin 256) :
    Ideal.exp (@HAdd.hAdd EReal EReal EReal _ (iblk m c 3 t (ix4 0 0 255 0)) (iblk m c 4 t (ix5 0 0 0 0 s)) - sm (iblk m c 3 t) (iblk m c 4 t) mp 255)
      = Ideal.exp (((run (fs (argsK m c) (pb t) (ph t)) ((pk t).val * 256) (256 - 1) - run (fs (argsK m c) (pb t) (ph t)) ((pk t).val * 256) s.val
          + is (argsK m c) (pb t) (ph t) ((pk t).val * 256 + s.val) : ℝ) : EReal) - (mv (argsK m c) (pb t) (ph t) ((pk t).val * 256 + 256) : EReal)) := by
  rw [sm_last m c ok t mp hmp, blk3 m c t ok, blk4 m c t ok, ← EReal.coe_sub, ← EReal.coe_add]
  refine congrArg Ideal.exp (congrArg₂ (· - ·) (congrArg _ ?_) rfl)
  show run _ _ 255 + _ = run _ _ 255 - _ + _
  ring

theorem keep_point : Ideal.exp (mp (ix2 0 0) + iblk m c 3 t (ix4 0 0 255 0) - sm (iblk m c 3 t) (iblk m c 4 t) mp 255)
    = Ideal.exp ((mv (argsK m c) (pb t) (ph t) ((pk t).val * 256) : EReal) + (run (fs (argsK m c) (pb t) (ph t)) ((pk t).val * 256) (256 - 1) : EReal)
        - (mv (argsK m c) (pb t) (ph t) ((pk t).val * 256 + 256) : EReal)) := by
  rw [sm_last m c ok t mp hmp, blk3 m c t ok, hmp]
  rfl

theorem stepC_point (C : Vec Ideal S1024x1152 .f32) (hC : IsMem m c (pb t) (ph t) ((pk t).val * 256) C) :
    IsMem m c (pb t) (ph t) (((pk t).val + 1) * 256) (stepC (iblk m c 1 t) (iblk m c 2 t) (iblk m c 3 t) (iblk m c 4 t) C mp) := by
  rw [show ((pk t).val + 1) * 256 = (pk t).val * 256 + 256 by omega]
  refine ⟨fun d e => ?_, fun d w => ?_⟩
  · rw [stepC_mem, keep_point m c ok t mp hmp, hC.mem d e]
    refine Eq.trans (congrArg₂ (· + ·) rfl (Finset.sum_congr rfl fun s _ => ?_)) (mem_leave (argsK m c) (pb t) (ph t) ((pk t).val * 256) d e (by omega))
    rw [weight_point m c ok t mp hmp, blk1 m c t ok, blk2 m c t ok, mul_comm (ks _ _ _ d _ : EReal), mul_assoc]
  · rw [stepC_norm, keep_point m c ok t mp hmp, hC.norm d w]
    by_cases hw : w.val = 0
    · simp only [hw, if_true, mul_one]
      refine Eq.trans (congrArg₂ (· + ·) rfl (Finset.sum_congr rfl fun s _ => ?_)) (norm_leave (argsK m c) (pb t) (ph t) ((pk t).val * 256) d (by omega))
      rw [weight_point m c ok t mp hmp, blk1 m c t ok, mul_comm (ks _ _ _ d _ : EReal)]
    · simp only [hw, if_false, mul_zero, Finset.sum_const_zero, add_zero]

theorem quot_point (C : Vec Ideal S1024x1152 .f32) (hC : IsMem m c (pb t) (ph t) ((pk t).val * 256) C) (l : Fin 256) (e : Fin 1024) :
    quot (iblk m c 0 t) (iblk m c 1 t) (iblk m c 2 t) (iblk m c 3 t) (iblk m c 4 t) C mp l e
      = hv (argsK m c) (pb t) (ph t) (pos (pk t) l) e := by
  have hn : ∀ d : Fin 1024, C (ix2 d ⟨1024, by omega⟩) = (nm (argsK m c) (pb t) (ph t) d ((pk t).val * 256) : EReal) := fun d =>
    (hC.norm d 0).trans (if_pos rfl)
  unfold quot hv
  rw [← num_read (argsK m c) (pb t) (ph t) ((pk t).val * 256) l (pos (pk t) l) rfl e, ← den_read (argsK m c) (pb t) (ph t) ((pk t).val * 256) l (pos (pk t) l) rfl,
    sm_point m c ok t mp hmp, zero_sub]
  simp only [blk0 m c t ok, blk1 m c t ok, blk2 m c t ok, dm_point m c ok t, hmp, blk3 m c t ok, hC.mem, hn]

theorem out_point (C : Vec Ideal S1024x1152 .f32) (hC : IsMem m c (pb t) (ph t) ((pk t).val * 256) C) (l : Fin 256) (e : Fin 1024) :
    outV (iblk m c 0 t) (iblk m c 1 t) (iblk m c 2 t) (iblk m c 3 t) (iblk m c 4 t) (iblk m c 8 t) (iblk m c 9 t) (iblk m c 10 t) (iblk m c 11 t) C mp
      (ix3 0 l e) = outv (argsK m c) (pb t) (ph t) (pos (pk t) l) e := by
  rw [out_apply, blk8, blk9, blk10, blk11,
    show quot (iblk m c 0 t) (iblk m c 1 t) (iblk m c 2 t) (iblk m c 3 t) (iblk m c 4 t) C mp l = hv (argsK m c) (pb t) (ph t) (pos (pk t) l) from
      funext (quot_point m c ok t mp hmp C hC l)]
  rfl

end Point

theorem start_stab (ok : (argsK m c).Ok) (t : Fin cfg0.N) (h0 : t.val % 8 = 0) :
    lane0 (k0_pay8 (iblk m c 7 t)) (ix2 0 0) = (mv (argsK m c) (pb t) (ph t) ((pk t).val * 256) : EReal) := by
  have e : k0_pay8 (iblk m c 7 t) (ix2 0 0) = iblk m c 7 t (ix4 0 0 0 0) := by pointwise [k0_pay8]
  rw [lane0_apply, e, blk7, show (pk t).val = 0 from h0, Nat.zero_mul, mv_zero _ _ ok]

theorem start_mem_point (ok : (argsK m c).Ok) (t : Fin cfg0.N) (h0 : t.val % 8 = 0) :
    IsMem m c (pb t) (ph t) ((pk t).val * 256) (startC (iblk m c 5 t) (iblk m c 6 t)) := by
  rw [show (pk t).val = 0 from h0, Nat.zero_mul]
  refine ⟨fun d e => ?_, fun d w => ?_⟩
  · rw [start_mem, blk5, cm_zero _ _ ok]
  · rw [start_norm, blk6, nm_zero _ _ ok]

/-- What each point leaves in the carried memory and stabiliser. -/
theorem carried_at (ok : (argsK m c).Ok) : ∀ (k : ℕ) (t : Fin cfg0.N), t.val % 8 = k →
    (∀ w : Fin 128, (outsAt0 m c t.val t.isLt).2.2.2.2.2 (ix2 0 w) = (mv (argsK m c) (pb t) (ph t) (((pk t).val + 1) * 256) : EReal))
    ∧ IsMem m c (pb t) (ph t) (((pk t).val + 1) * 256) (outsAt0 m c t.val t.isLt).2.2.2.2.1 := by
  intro k
  induction k with
  | zero =>
    intro t h
    rw [stab_first m c t h, mem_first m c t h]
    exact ⟨stepM_point m c ok t _ (start_stab m c ok t h), stepC_point m c ok t _ (start_stab m c ok t h) _ (start_mem_point m c ok t h)⟩
  | succ k ih =>
    intro t h
    have e := ih ⟨t.val - 1, Nat.lt_of_le_of_lt (Nat.sub_le _ _) t.isLt⟩ (by show (t.val - 1) % 8 = k; omega)
    have e1 : pb ⟨t.val - 1, Nat.lt_of_le_of_lt (Nat.sub_le _ _) t.isLt⟩ = pb t := Fin.ext (by show (t.val - 1) / 32 = t.val / 32; omega)
    have e2 : ph ⟨t.val - 1, Nat.lt_of_le_of_lt (Nat.sub_le _ _) t.isLt⟩ = ph t := Fin.ext (by show (t.val - 1) / 8 % 4 = t.val / 8 % 4; omega)
    have e3 : (pk ⟨t.val - 1, Nat.lt_of_le_of_lt (Nat.sub_le _ _) t.isLt⟩).val + 1 = (pk t).val := by show (t.val - 1) % 8 + 1 = t.val % 8; omega
    rw [e1, e2, e3] at e
    rw [stab_next m c t (by omega), mem_next m c t (by omega)]
    have hm := (lane0_apply _).trans (e.1 0)
    exact ⟨stepM_point m c ok t _ hm, stepC_point m c ok t _ hm _ e.2⟩

theorem out_at (ok : (argsK m c).Ok) (t : Fin cfg0.N) (l : Fin 256) (e : Fin 1024) :
    (outsAt0 m c t.val t.isLt).1 (ix3 0 l e) = outv (argsK m c) (pb t) (ph t) (pos (pk t) l) e := by
  by_cases h : t.val % 8 = 0
  · rw [out_first m c t h]
    exact out_point m c ok t _ (start_stab m c ok t h) _ (start_mem_point m c ok t h) l e
  · have e := carried_at m c ok _ ⟨t.val - 1, Nat.lt_of_le_of_lt (Nat.sub_le _ _) t.isLt⟩ rfl
    have e1 : pb ⟨t.val - 1, Nat.lt_of_le_of_lt (Nat.sub_le _ _) t.isLt⟩ = pb t := Fin.ext (by show (t.val - 1) / 32 = t.val / 32; omega)
    have e2 : ph ⟨t.val - 1, Nat.lt_of_le_of_lt (Nat.sub_le _ _) t.isLt⟩ = ph t := Fin.ext (by show (t.val - 1) / 8 % 4 = t.val / 8 % 4; omega)
    have e3 : (pk ⟨t.val - 1, Nat.lt_of_le_of_lt (Nat.sub_le _ _) t.isLt⟩).val + 1 = (pk t).val := by show (t.val - 1) % 8 + 1 = t.val % 8; omega
    rw [e1, e2, e3] at e
    rw [out_next m c t h]
    exact out_point m c ok t _ ((lane0_apply _).trans (e.1 0)) _ e.2 l _

/-- The first result array: the output. -/
theorem final_out (ok : (argsK m c).Ok) :
    (dats m 0 c).arrAt 12 cfg0.N = fun i : S4x2048x4096.Idx => outAt (argsK m c) (i 0) (i 1) (i 2) := by
  refine (dats m 0 c).arrAt_eq_of_covers 12 _ ((cfg0.win 12).covers_of_index_surj rfl (by decide) fun β => ?_) fun t hf y => ?_
  · have h0 : (β 0).val < 4 := (β 0).isLt
    have h1 : (β 1).val < 8 := (β 1).isLt
    have h2 : (β 2).val < 4 := (β 2).isLt
    refine ⟨⟨(β 0).val * 32 + (β 2).val * 8 + (β 1).val, by show _ < 128; omega⟩, fun a => ?_⟩
    rw [(place _).2.2.2.2.2.2.2.2.2.2.2.2.1]
    fin_cases a
    · show ((β 0).val * 32 + (β 2).val * 8 + (β 1).val) / 32 = (β 0).val
      omega
    · show ((β 0).val * 32 + (β 2).val * 8 + (β 1).val) % 8 = (β 1).val
      omega
    · show ((β 0).val * 32 + (β 2).val * 8 + (β 1).val) / 8 % 4 = (β 2).val
      omega
  · blk_simp
    rw [after0_12]
    idx_vars y
    obtain rfl : y0 = 0 := Subsingleton.elim _ _
    rw [out_at m c ok t, ← outAt_eq]
    have e : ((View.whole main_v20_0).slice (win0_12.rect t)).emb (ix3 0 y1 y2) = ix3 (pb t) (pos (pk t) y1) (lane (ph t) y2) := by
      blk_ext [place t, pb, ph, pk]
    rw [e]
    rfl

theorem ends (ok : (argsK m c).Ok) (t : Fin cfg0.N) (h7 : t.val % 8 = 7) :
    (∀ w : Fin 128, (outsAt0 m c t.val t.isLt).2.2.2.2.2 (ix2 0 w) = (mv (argsK m c) (pb t) (ph t) 2048 : EReal))
    ∧ IsMem m c (pb t) (ph t) 2048 (outsAt0 m c t.val t.isLt).2.2.2.2.1 := by
  have e := carried_at m c ok 7 t h7
  rw [show ((pk t).val + 1) * 256 = 2048 by rw [show (pk t).val = 7 from h7]] at e
  exact e

/-- The second result array: the memory after the last position. -/
theorem final_mem (ok : (argsK m c).Ok) :
    (dats m 0 c).arrAt 13 cfg0.N = fun i : S4x4x1024x1024.Idx => (cm (argsK m c) (i 0) (i 1) (i 2) (i 3) 2048 : EReal) := by
  refine (dats m 0 c).arrAt_eq_of_covers 13 _ ((cfg0.win 13).covers_of_index_surj rfl (by decide) fun β => ?_) fun t hf y => ?_
  · have h0 : (β 0).val < 4 := (β 0).isLt
    have h1 : (β 1).val < 4 := (β 1).isLt
    have h2 : (β 2).val < 1 := (β 2).isLt
    have h3 : (β 3).val < 1 := (β 3).isLt
    refine ⟨⟨(β 0).val * 32 + (β 1).val * 8, by show _ < 128; omega⟩, fun a => ?_⟩
    rw [(place _).2.2.2.2.2.2.2.2.2.2.2.2.2.1]
    fin_cases a
    · show ((β 0).val * 32 + (β 1).val * 8) / 32 = (β 0).val
      omega
    · show ((β 0).val * 32 + (β 1).val * 8) / 8 % 4 = (β 1).val
      omega
    · show 0 = (β 2).val
      omega
    · show 0 = (β 3).val
      omega
  · have h7 : t.val % 8 = 7 := (flush0_13 t).mp hf
    blk_simp
    rw [after0_13, mem_out m c t h7]
    idx_vars y
    obtain rfl : y0 = 0 := Subsingleton.elim _ _
    obtain rfl : y1 = 0 := Subsingleton.elim _ _
    have e : ((View.whole main_v20_1).slice (win0_13.rect t)).emb (ix4 0 0 y2 y3) = ix4 (pb t) (ph t) y2 y3 := by
      blk_ext [place t, pb, ph, pk]
    rw [e]
    exact (ld_mem _ y2 y3).trans ((ends m c ok t h7).2.mem y2 y3)

/-- The third result array: the normalizer after the last position, padded. -/
theorem final_norm (ok : (argsK m c).Ok) :
    (dats m 0 c).arrAt 14 cfg0.N = fun i : S4x4x1024x128.Idx => normAt (argsK m c) (i 0) (i 1) (i 2) (i 3) := by
  refine (dats m 0 c).arrAt_eq_of_covers 14 _ ((cfg0.win 14).covers_of_index_surj rfl (by decide) fun β => ?_) fun t hf y => ?_
  · have h0 : (β 0).val < 4 := (β 0).isLt
    have h1 : (β 1).val < 4 := (β 1).isLt
    have h2 : (β 2).val < 1 := (β 2).isLt
    have h3 : (β 3).val < 1 := (β 3).isLt
    refine ⟨⟨(β 0).val * 32 + (β 1).val * 8, by show _ < 128; omega⟩, fun a => ?_⟩
    rw [(place _).2.2.2.2.2.2.2.2.2.2.2.2.2.2.1]
    fin_cases a
    · show ((β 0).val * 32 + (β 1).val * 8) / 32 = (β 0).val
      omega
    · show ((β 0).val * 32 + (β 1).val * 8) / 8 % 4 = (β 1).val
      omega
    · show 0 = (β 2).val
      omega
    · show 0 = (β 3).val
      omega
  · have h7 : t.val % 8 = 7 := (flush0_14 t).mp hf
    blk_simp
    rw [after0_14, norm_out m c t h7]
    idx_vars y
    obtain rfl : y0 = 0 := Subsingleton.elim _ _
    obtain rfl : y1 = 0 := Subsingleton.elim _ _
    have e : ((View.whole main_v20_2).slice (win0_14.rect t)).emb (ix4 0 0 y2 y3) = ix4 (pb t) (ph t) y2 y3 := by
      blk_ext [place t, pb, ph, pk]
    rw [e]
    exact (ld_norm _ y2 y3).trans ((ends m c ok t h7).2.norm y2 y3)

/-- The fourth result array: the stabiliser after the last position, in every lane. -/
theorem final_stab (ok : (argsK m c).Ok) :
    (dats m 0 c).arrAt 15 cfg0.N = fun i : S4x4x1x128.Idx => (mv (argsK m c) (i 0) (i 1) 2048 : EReal) := by
  refine (dats m 0 c).arrAt_eq_of_covers 15 _ ((cfg0.win 15).covers_of_index_surj rfl (by decide) fun β => ?_) fun t hf y => ?_
  · have h0 : (β 0).val < 4 := (β 0).isLt
    have h1 : (β 1).val < 4 := (β 1).isLt
    have h2 : (β 2).val < 1 := (β 2).isLt
    have h3 : (β 3).val < 1 := (β 3).isLt
    refine ⟨⟨(β 0).val * 32 + (β 1).val * 8, by show _ < 128; omega⟩, fun a => ?_⟩
    rw [(place _).2.2.2.2.2.2.2.2.2.2.2.2.2.2.2]
    fin_cases a
    · show ((β 0).val * 32 + (β 1).val * 8) / 32 = (β 0).val
      omega
    · show ((β 0).val * 32 + (β 1).val * 8) / 8 % 4 = (β 1).val
      omega
    · show 0 = (β 2).val
      omega
    · show 0 = (β 3).val
      omega
  · have h7 : t.val % 8 = 7 := (flush0_15 t).mp hf
    blk_simp
    rw [after0_15, stab_out m c t h7]
    idx_vars y
    obtain rfl : y0 = 0 := Subsingleton.elim _ _
    obtain rfl : y1 = 0 := Subsingleton.elim _ _
    obtain rfl : y2 = 0 := Subsingleton.elim _ _
    have e : ((View.whole main_v20_3).slice (win0_15.rect t)).emb (ix4 0 0 0 y3) = ix4 (pb t) (ph t) 0 y3 := by
      blk_ext [place t, pb, ph, pk]
    rw [e]
    have p : ∀ S : Vec Ideal S1x128 .f32, k0_pay5 S (ix4 0 0 0 y3) = S (ix2 0 y3) := fun S => by pointwise [k0_pay5]
    exact (p _).trans ((ends m c ok t h7).1 y3)

/-- The kernel's run: the four results as the specification gives them, the arguments unchanged. -/
theorem run_spec (ρ : Dev nD → PrngReg) (ok : ∀ c, (argsK m c).Ok) :
    θ_run defs (onTc (τ := τ) (main (F := Ideal))) ⟨m, fun _ => 0, ρ⟩ fun r => ∀ c : Dev nD,
      r.2.mem ((c : Thread nD τ).loc main_v20_0) = (fun i : S4x2048x4096.Idx => outAt (argsK m c) (i 0) (i 1) (i 2))
      ∧ r.2.mem ((c : Thread nD τ).loc main_v20_1) = (fun i : S4x4x1024x1024.Idx => (cm (argsK m c) (i 0) (i 1) (i 2) (i 3) 2048 : EReal))
      ∧ r.2.mem ((c : Thread nD τ).loc main_v20_2) = (fun i : S4x4x1024x128.Idx => normAt (argsK m c) (i 0) (i 1) (i 2) (i 3))
      ∧ r.2.mem ((c : Thread nD τ).loc main_v20_3) = (fun i : S4x4x1x128.Idx => (mv (argsK m c) (i 0) (i 1) 2048 : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final_out m c (ok c)), (h c).2.1.trans (final_mem m c (ok c)),
    (h c).2.2.1.trans (final_norm m c (ok c)), (h c).2.2.2.1.trans (final_stab m c (ok c)), (h c).2.2.2.2⟩)
    (run_blocks m ρ)

end Cert.Kernel4Ideal.Value
-- ==== Proof.CellRef.lean ====
/- The reference of the cell: its terms at an index are the specification's. -/
module

public import proofs.«01_k».proof.Proof.Gen.Reference4Ideal.Run
public import proofs.«01_k».proof.Proof.Prefix
public import proofs.«01_k».proof.Proof.Words
public import proofs.«01_k».proof.Proof.CellRead
public import Idealize.ShloMosaic.Lib.Tactic.CleanTypes

@[expose] public section

set_option maxRecDepth 16384
set_option maxHeartbeats 100000
noncomputable section

open Idealize.ShloMosaic Idealize.ShloMosaic.TcCoe Idealize.SL.Sem Idealize.ShloMosaic.StableHlo

namespace Cert.Reference4Ideal.Value

open Cert.Reference4Ideal Cert.Reference4Ideal.Gen Cert.Chunk Cert.Cell Cert.Words

variable (V0 : Valuation τ sig (Elt Ideal))

abbrev rQ : FVec Ideal S4x2048x4096 .bf16 := V0 (Proc.devRef .tc main_arg0)
abbrev rK : FVec Ideal S4x2048x4096 .bf16 := V0 (Proc.devRef .tc main_arg1)
abbrev rV : FVec Ideal S4x2048x4096 .bf16 := V0 (Proc.devRef .tc main_arg2)
abbrev rI : FVec Ideal S4x2048x4 .f32 := V0 (Proc.devRef .tc main_arg3)
abbrev rF : FVec Ideal S4x2048x4 .f32 := V0 (Proc.devRef .tc main_arg4)
abbrev rC0 : FVec Ideal S4x4x1024x1024 .f32 := V0 (Proc.devRef .tc main_arg5)
abbrev rN0 : FVec Ideal S4x4x1024 .f32 := V0 (Proc.devRef .tc main_arg6)
abbrev rM0 : FVec Ideal S4x4 .f32 := V0 (Proc.devRef .tc main_arg7)
abbrev rGain : FVec Ideal S4096 .f32 := V0 (Proc.devRef .tc main_arg8)
abbrev rXc : FVec Ideal S4x2048x4096 .f32 := V0 (Proc.devRef .tc main_arg9)
abbrev rUp : FVec Ideal S4x2048x8192 .f32 := V0 (Proc.devRef .tc main_arg10)
abbrev rSkip : FVec Ideal S4096 .f32 := V0 (Proc.devRef .tc main_arg11)

/-- The reference's arguments as plain functions. -/
def argsR : Args where
  q b t j := rQ V0 (ix3 b t j)
  k b t j := rK V0 (ix3 b t j)
  v b t j := rV V0 (ix3 b t j)
  ig b t h := rI V0 (ix3 b t h)
  fg b t h := rF V0 (ix3 b t h)
  c0 b h d e := rC0 V0 (ix4 b h d e)
  n0 b h d := rN0 V0 (ix3 b h d)
  m0 b h := rM0 V0 (ix2 b h)
  gain j := rGain V0 (ix1 j)
  xc b t j := rXc V0 (ix3 b t j)
  up b t j := rUp V0 (ix3 b t j)
  skip j := rSkip V0 (ix1 j)

variable (ok : (argsR V0).Ok) (b h : Fin 4)
include ok

theorem v3_apply (t : Fin 2048) (d : Fin 1024) : res_main_v3 V0 (ix4 b t h d) = (qs (argsR V0) b h t d : EReal) := by
  rw [qs_at b h ok]
  clean_types
  pointwise [res_main_v3]
  rfl

theorem v7_apply (s : Fin 2048) (d : Fin 1024) : res_main_v7 V0 (ix4 b s h d) = (ks (argsR V0) b h d (0 + s.val) : EReal) := by
  rw [Nat.zero_add, ks_at b h ok d s.val s.isLt]
  clean_types
  pointwise [res_main_v7]
  rfl

theorem v9_apply (s : Fin 2048) (e : Fin 1024) : res_main_v9 V0 (ix4 b s h e) = (vs (argsR V0) b h e (0 + s.val) : EReal) := by
  rw [Nat.zero_add, vs_at b h ok e s.val s.isLt]
  clean_types
  pointwise [res_main_v9]
  rfl

theorem v13_apply (t : Fin 2048) : res_main_v13 V0 (ix3 b t h) = (Cell.run (fs (argsR V0) b h) 0 t.val : EReal) := by
  refine Eq.trans (Cert.Prefix.cumsum_apply (s := S4x2048x4) (1 : Fin 3) 2048 rfl _ _ _ _ (by decide) (by decide) (by decide) _ _ _ _
    (fun i => ?_) _ (fun s => (fs (argsR V0) b h (0 + s.val) : EReal)) (fun q i hi ho => ?_)) (run_sum _ _ _ (fun s => rfl) t)
  · pointwise []
  · rw [Nat.zero_add, fs_at b h ok q.val q.isLt]
    obtain rfl : i = ix3 b q h := by
      funext a
      fin_cases a
      · exact ho 0 (by decide)
      · exact Fin.ext hi
      · exact ho 2 (by decide)
    clean_types
    pointwise [res_main_call0_call0_v3, res_main_call0_v0, res_main_call0_call0_cst]
    rw [if_neg (not_not.mpr rfl)]
    rfl

theorem v23_apply (t s : Fin 2048) : res_main_v23 V0 (ix4 b t s h) = ex (fs (argsR V0) b h) (is (argsR V0) b h) 0 t s := by
  unfold ex
  rw [EReal.coe_add, EReal.coe_sub, Nat.zero_add, is_at b h ok s.val s.isLt, ← v13_apply V0 ok b h t, ← v13_apply V0 ok b h s]
  clean_types
  pointwise [res_main_v23]
  rw [upto _ _ (by omega) (by omega), low' ix0]
  rfl

theorem v26_apply (t : Fin 2048) : res_main_v26 V0 (ix3 b t h) = (mv (argsR V0) b h 0 : EReal) + (Cell.run (fs (argsR V0) b h) 0 t.val : EReal) := by
  rw [mv_zero b h ok, ← v13_apply V0 ok b h t]
  clean_types
  pointwise [res_main_v26]
  rfl

omit ok in
/-- The largest entry along the third axis. -/
theorem top_apply (x : FVec Ideal S4x2048x2048x4 .f32) (t : Fin 2048) :
    (Host.reduce (FloatOps.maximumf (F := Ideal) (φ := .f32)) x (constant (F := Ideal) S_ .f32 0xFF800000#32) reducesTo_S4x2048x2048x4_S4x2048x4_d2 h_S_ (ix3 b t h) : EReal)
      = Finset.univ.fold max ⊥ fun s : Fin 2048 => x (ix4 b t s h) := by
  rw [Host.reduce_eq_fold, Shape.ReducesTo.fold_fiber_r4_a2, ← low]
  rfl

theorem v28_apply (t : Fin 2048) : res_main_v28 V0 (ix3 b t h) = (mv (argsR V0) b h (0 + t.val + 1) : EReal) := by
  rw [← stab_read, ← v26_apply V0 ok b h t, ← show (fun s => res_main_v23 V0 (ix4 b t s h)) = _ from funext (v23_apply V0 ok b h t)]
  exact congrArg (@max EReal _ (res_main_v26 V0 (ix3 b t h))) (top_apply b h (res_main_v23 V0) t)

theorem v35_apply (t s : Fin 2048) : res_main_v35 V0 (ix4 b t s h)
    = (∑ d : Fin 1024, (qs (argsR V0) b h t d : EReal) * (ks (argsR V0) b h d (0 + s.val) : EReal))
      * Ideal.exp (ex (fs (argsR V0) b h) (is (argsR V0) b h) 0 t s - (mv (argsR V0) b h (0 + t.val + 1) : EReal)) := by
  simp only [← v3_apply V0 ok, ← v7_apply V0 ok, ← v23_apply V0 ok, ← v28_apply V0 ok]
  clean_types
  pointwise [res_main_v35]
  exact congrArg₂ (· * ·) (Finset.sum_congr rfl fun d _ => mul_comm (G := EReal) _ _) rfl

theorem v37_apply (t : Fin 2048) : res_main_v37 V0 (ix3 b t h)
    = Ideal.exp ((mv (argsR V0) b h 0 : EReal) + (Cell.run (fs (argsR V0) b h) 0 t.val : EReal) - (mv (argsR V0) b h (0 + t.val + 1) : EReal)) := by
  rw [← v26_apply V0 ok b h t, ← v28_apply V0 ok b h t]
  clean_types
  pointwise [res_main_v37]

theorem v57_apply (t : Fin 2048) (e : Fin 1024) : res_main_v57 V0 (ix4 b t h e) = hv (argsR V0) b h t e := by
  unfold hv
  rw [← num_read (argsR V0) b h 0 t t (Nat.zero_add _).symm e, ← den_read (argsR V0) b h 0 t t (Nat.zero_add _).symm, ← v37_apply V0 ok b h t]
  simp only [← v35_apply V0 ok b h t]
  simp only [cm_zero b h ok, nm_zero b h ok, ← v9_apply V0 ok, ← v3_apply V0 ok]
  rw [show t.val + 1 = 0 + t.val + 1 by omega, ← v28_apply V0 ok b h t]
  clean_types
  pointwise [res_main_v57]
  exact congrArg₂ Ideal.div (congrArg₂ (· + ·) (Finset.sum_congr rfl fun s _ => mul_comm (G := EReal) _ _)
      (congrArg _ (Finset.sum_congr rfl fun s _ => mul_comm (G := EReal) _ _)))
    (congrArg₂ max (congrArg _ (congrArg₂ (· + ·) rfl (congrArg _ (Finset.sum_congr rfl fun s _ => mul_comm (G := EReal) _ _)))) rfl)

omit ok in
theorem last_at (A : Args) : ((mv A b h (0 + 2048) : ℝ) : EReal) = (mv A b h (0 + (⟨2047, by omega⟩ : Fin 2048).val + 1) : EReal) :=
  congrArg (fun n => ((mv A b h n : ℝ) : EReal)) (by norm_num)

omit ok in
theorem end_at (A : Args) : ((Cell.run (fs A b h) 0 (2048 - 1) : ℝ) : EReal) = (Cell.run (fs A b h) 0 (⟨2047, by omega⟩ : Fin 2048).val : EReal) :=
  congrArg (fun n => ((Cell.run (fs A b h) 0 n : ℝ) : EReal)) (by norm_num)

theorem v59_apply : res_main_v59 V0 (ix2 b h) = (mv (argsR V0) b h (0 + 2048) : EReal) := by
  rw [last_at, ← v28_apply V0 ok b h ⟨2047, by omega⟩]
  clean_types
  pointwise [res_main_v59]

theorem v67_apply (s : Fin 2048) : res_main_v67 V0 (ix3 b s h)
    = Ideal.exp (((Cell.run (fs (argsR V0) b h) 0 (2048 - 1) - Cell.run (fs (argsR V0) b h) 0 s.val + is (argsR V0) b h (0 + s.val) : ℝ) : EReal) - (mv (argsR V0) b h (0 + 2048) : EReal)) := by
  rw [← v59_apply V0 ok b h, EReal.coe_add, EReal.coe_sub, Nat.zero_add s.val, is_at b h ok s.val s.isLt, ← v13_apply V0 ok b h s,
    end_at, ← v13_apply V0 ok b h ⟨2047, by omega⟩]
  clean_types
  pointwise [res_main_v67]
  rfl

theorem v72_apply : res_main_v72 V0 (ix2 b h)
    = Ideal.exp ((mv (argsR V0) b h 0 : EReal) + (Cell.run (fs (argsR V0) b h) 0 (2048 - 1) : EReal) - (mv (argsR V0) b h (0 + 2048) : EReal)) := by
  rw [← v59_apply V0 ok b h, mv_zero b h ok, end_at, ← v13_apply V0 ok b h ⟨2047, by omega⟩]
  clean_types
  pointwise [res_main_v72]
  rfl

end Cert.Reference4Ideal.Value
-- ==== Proof.CellRefOut.lean ====
/- The reference of the cell: its results are the specification's. -/
module

public import proofs.«01_k».proof.Proof.CellRef

@[expose] public section

set_option maxRecDepth 16384
set_option maxHeartbeats 200000
noncomputable section

open Idealize.ShloMosaic Idealize.ShloMosaic.TcCoe Idealize.SL.Sem Idealize.ShloMosaic.StableHlo

namespace Cert.Reference4Ideal.Value

open Cert.Reference4Ideal Cert.Reference4Ideal.Gen Cert.Chunk Cert.Cell Cert.Words

variable (V0 : Valuation τ sig (Elt Ideal))

/-- The normalized rows, the skip and the gate, of any rows `u` with means `mu` and centred rows `w`. -/
def outG (u w : FVec Ideal S4x2048x4x1024 .f32) (mu : FVec Ideal S4x2048x4x1 .f32) (gain skip : FVec Ideal S4096 .f32) (xc z : FVec Ideal S4x2048x4096 .f32) :
    FVec Ideal S4x2048x4096 .bf16 :=
  truncf .bf16 (mulf (addf (mulf (shapeCast _ (mulf (subf u (broadcastInDim S4x2048x4x1024 ![0, 1, 2, 3] bcast_S4x2048x4x1_S4x2048x4x1024_0_1_2_3 mu)) (broadcastInDim S4x2048x4x1024 ![0, 1, 2, 3] bcast_S4x2048x4x1_S4x2048x4x1024_0_1_2_3 (Host.rsqrt (addf (Host.divf (broadcastInDim S4x2048x4x1 ![0, 1, 2] bcast_S4x2048x4_S4x2048x4x1_0_1_2 (Host.reduceAdd (mulf w w) (constant S_ .f32 0x00000000#32) reducesTo_S4x2048x4x1024_S4x2048x4_d3 h_S_)) (broadcastInDim S4x2048x4x1 ![] bcast_S_S4x2048x4x1 (constant S_ .f32 0x44800000#32))) (broadcastInDim S4x2048x4x1 ![] bcast_S_S4x2048x4x1 (constant S_ .f32 0x3727C5AC#32)))))) shapeCasts_S4x2048x4x1024_S4x2048x4096) (broadcastInDim S4x2048x4096 ![0, 1, 2] bcast_S1x1x4096_S4x2048x4096_0_1_2 (broadcastInDim S1x1x4096 ![2] bcast_S4096_S1x1x4096_2 gain))) (mulf (broadcastInDim S4x2048x4096 ![0, 1, 2] bcast_S1x1x4096_S4x2048x4096_0_1_2 (broadcastInDim S1x1x4096 ![2] bcast_S4096_S1x1x4096_2 skip)) xc)) (mulf z (Host.divf (broadcastInDim S4x2048x4096 ![] bcast_S_S4x2048x4096 (constant S_ .f32 0x3F800000#32)) (addf (broadcastInDim S4x2048x4096 ![] bcast_S_S4x2048x4096 (constant S_ .f32 0x3F800000#32)) (Host.exp (Host.negf z)))))) bitsLt_bf16_f32

theorem split_h (h : Fin 4) (e : Fin 1024) (h1 : (h.val * 1024 + e.val) / 1024 < 4) : (⟨(h.val * 1024 + e.val) / 1024, h1⟩ : Fin 4) = h :=
  Fin.ext (by show (h.val * 1024 + e.val) / 1024 = h.val; omega)
theorem split_e (h : Fin 4) (e : Fin 1024) (h1 : (h.val * 1024 + e.val) % 1024 < 1024) : (⟨(h.val * 1024 + e.val) % 1024, h1⟩ : Fin 1024) = e :=
  Fin.ext (by show (h.val * 1024 + e.val) % 1024 = e.val; omega)

theorem outG_apply (u w : FVec Ideal S4x2048x4x1024 .f32) (mu : FVec Ideal S4x2048x4x1 .f32) (gain skip : FVec Ideal S4096 .f32) (xc z : FVec Ideal S4x2048x4096 .f32)
    (b h : Fin 4) (t : Fin 2048) (e : Fin 1024) :
    outG u w mu gain skip xc z (ix3 b t (lane h e))
      = ((u (ix4 b t h e) - mu (ix4 b t h 0)) * Ideal.rsqrt (mean (fun e => w (ix4 b t h e) * w (ix4 b t h e)) + Ideal.ofBits FTy.f32 925353388#32)
          * gain (ix1 (lane h e)) + skip (ix1 (lane h e)) * xc (ix3 b t (lane h e))) * (z (ix3 b t (lane h e)) * Ideal.logistic (z (ix3 b t (lane h e)))) := by
  pointwise [outG]
  rw [split_h, split_e]
  rfl

/-- The reference's results. -/
def outR : FVec Ideal S4x2048x4096 .bf16 :=
  outG (res_main_v57 V0) (res_main_v91 V0) (res_main_v89 V0) (rGain V0) (rSkip V0) (rXc V0) (res_main_v1 V0)

def memR : FVec Ideal S4x4x1024x1024 .f32 :=
  addf (mulf (broadcastInDim S4x4x1024x1024 ![0, 1, 2, 3] bcast_S4x4x1x1_S4x4x1024x1024_0_1_2_3 (broadcastInDim S4x4x1x1 ![0, 1] bcast_S4x4_S4x4x1x1_0_1 (res_main_v72 V0))) (V0 (Proc.devRef .tc main_arg5))) (Host.dotGeneral (φ₁ := .f32) (φ₂ := .f32) dot_S4x2048x4x1024_S4x2048x4x1024_S4x4x1024x1024_1_1_3_3_02_02 none (mulf (broadcastInDim S4x2048x4x1024 ![0, 1, 2, 3] bcast_S4x2048x4x1_S4x2048x4x1024_0_1_2_3 (broadcastInDim S4x2048x4x1 ![0, 1, 2] bcast_S4x2048x4_S4x2048x4x1_0_1_2 (res_main_v67 V0))) (res_main_v7 V0)) (res_main_v9 V0))

def normR : FVec Ideal S4x4x1024x128 .f32 :=
  pad S4x4x1024x128 ![0, 0, 0, 0] ![0, 0, 0, 127] ![0, 0, 0, 0] (broadcastInDim S4x4x1024x1 ![0, 1, 2] bcast_S4x4x1024_S4x4x1024x1_0_1_2 (addf (mulf (broadcastInDim S4x4x1024 ![0, 1, 2] bcast_S4x4x1_S4x4x1024_0_1_2 (broadcastInDim S4x4x1 ![0, 1] bcast_S4x4_S4x4x1_0_1 (res_main_v72 V0))) (V0 (Proc.devRef .tc main_arg6))) (Host.dotGeneral (φ₁ := .f32) (φ₂ := .f32) dot_S4x2048x4_S4x2048x4x1024_S4x4x1024_1_1_n_3_02_02 none (res_main_v67 V0) (res_main_v7 V0)))) (sitofp .f32 (constantI S_ 32 0#32)) pads_S4x4x1024x1_S4x4x1024x128_000_000_000_01270 h_S_

def stabR : FVec Ideal S4x4x1x128 .f32 :=
  broadcastInDim S4x4x1x128 ![0, 1, 2, 3] bcast_S4x4x1x1_S4x4x1x128_0_1_2_3 (broadcastInDim S4x4x1x1 ![0, 1] bcast_S4x4_S4x4x1x1_0_1 (res_main_v59 V0))

variable (ok : (argsR V0).Ok) (b h : Fin 4)
include ok

theorem v89_apply (t : Fin 2048) : res_main_v89 V0 (ix4 b t h 0) = mean (hv (argsR V0) b h t) := by
  rw [← show (fun e => res_main_v57 V0 (ix4 b t h e)) = _ from funext (v57_apply V0 ok b h t)]
  clean_types
  pointwise [res_main_v89]
  rfl

theorem v91_apply (t : Fin 2048) (e : Fin 1024) : res_main_v91 V0 (ix4 b t h e) = hv (argsR V0) b h t e - mean (hv (argsR V0) b h t) := by
  rw [← v89_apply V0 ok b h t, ← v57_apply V0 ok b h t e]
  clean_types
  pointwise [res_main_v91]

theorem out_apply (t : Fin 2048) (e : Fin 1024) : outR V0 (ix3 b t (lane h e)) = outv (argsR V0) b h t e := by
  have ez : res_main_v1 V0 (ix3 b t (lane h e)) = (argsR V0).up b t (zlane h e) := by
    clean_types
    pointwise [res_main_v1]
    rfl
  refine (outG_apply _ _ _ _ _ _ _ b h t e).trans ?_
  simp only [v91_apply V0 ok b h t]
  rw [ez, v57_apply V0 ok b h t e, v89_apply V0 ok b h t]
  rfl

theorem mem_apply (d e : Fin 1024) : memR V0 (ix4 b h d e) = (cm (argsR V0) b h d e 2048 : EReal) := by
  rw [show cm (argsR V0) b h d e 2048 = cm (argsR V0) b h d e (0 + 2048) from congrArg _ (Nat.zero_add _).symm, ← mem_leave (argsR V0) b h (L := 2048) 0 d e (by omega), ← v72_apply V0 ok b h, cm_zero b h ok]
  simp only [← v67_apply V0 ok b h, ← v7_apply V0 ok, ← v9_apply V0 ok]
  clean_types
  pointwise [memR]
  exact congrArg₂ (· + ·) rfl (Finset.sum_congr rfl fun s _ => mul_assoc (G := EReal) _ _ _)

theorem norm_apply (d : Fin 1024) (w : Fin 128) : normR V0 (ix4 b h d w) = normAt (argsR V0) b h d w := by
  unfold normAt
  rw [show nm (argsR V0) b h d 2048 = nm (argsR V0) b h d (0 + 2048) from congrArg _ (Nat.zero_add _).symm, ← norm_leave (argsR V0) b h (L := 2048) 0 d (by omega), ← v72_apply V0 ok b h, nm_zero b h ok]
  simp only [← v67_apply V0 ok b h, ← v7_apply V0 ok]
  clean_types
  pointwise [normR]
  by_cases hw : w.val = 0
  · rw [dif_pos (by omega), if_pos hw]
    rfl
  · rw [dif_neg (by omega), if_neg hw]
    exact zero_word

theorem stab_apply (w : Fin 128) : stabR V0 (ix4 b h 0 w) = (mv (argsR V0) b h 2048 : EReal) := by
  rw [show mv (argsR V0) b h 2048 = mv (argsR V0) b h (0 + 2048) from congrArg _ (Nat.zero_add _).symm, ← v59_apply V0 ok b h]
  clean_types
  pointwise [stabR]

omit ok in
/-- The reference's run: its results as the specification gives them, the arguments unchanged. -/
theorem run_spec (m : (ℓ : Loc nD τ sig) → Buf (Elt Ideal) ℓ) (ρ : Dev nD → PrngReg) (hA : ∀ c, (argsR (launchContents m c)).Ok) :
    θ_run defs (onTc (τ := τ) (main (F := Ideal))) ⟨m, fun _ => 0, ρ⟩ fun r => ∀ c : Dev nD,
      r.2.mem ((c.tc : Thread nD τ).loc main_v114) = (fun i : S4x2048x4096.Idx => outAt (argsR (launchContents m c)) (i 0) (i 1) (i 2))
      ∧ r.2.mem ((c.tc : Thread nD τ).loc main_v80) = (fun i : S4x4x1024x1024.Idx => (cm (argsR (launchContents m c)) (i 0) (i 1) (i 2) (i 3) 2048 : EReal))
      ∧ r.2.mem ((c.tc : Thread nD τ).loc main_v116) = (fun i : S4x4x1024x128.Idx => normAt (argsR (launchContents m c)) (i 0) (i 1) (i 2) (i 3))
      ∧ r.2.mem ((c.tc : Thread nD τ).loc main_v118) = (fun i : S4x4x1x128.Idx => (mv (argsR (launchContents m c)) (i 0) (i 1) 2048 : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans ?_, (h c).2.1.trans ?_, (h c).2.2.1.trans ?_, (h c).2.2.2.1.trans ?_, (h c).2.2.2.2⟩) (run m ρ)
  · show outR (launchContents m c) = _
    funext i
    obtain ⟨g, w, hg⟩ : ∃ (g : Fin 4) (w : Fin 1024), i 2 = lane g w :=
      ⟨⟨(i 2).val / 1024, by have : (i 2).val < 4096 := (i 2).isLt; omega⟩, ⟨(i 2).val % 1024, by omega⟩,
        Fin.ext (by show (i 2).val = (i 2).val / 1024 * 1024 + (i 2).val % 1024; omega)⟩
    have e : i = ix3 (i 0) (i 1) (lane g w) := by rw [← hg]; funext a; fin_cases a <;> rfl
    refine (congrArg _ e).trans ((out_apply _ (hA c) (i 0) g (i 1) w).trans ?_)
    rw [hg]
    exact (outAt_eq (argsR (launchContents m c)) (i 0) g (i 1) w).symm
  · show memR (launchContents m c) = _
    funext i
    have e : i = ix4 (i 0) (i 1) (i 2) (i 3) := by funext a; fin_cases a <;> rfl
    exact (congrArg _ e).trans (mem_apply _ (hA c) (i 0) (i 1) (i 2) (i 3))
  · show normR (launchContents m c) = _
    funext i
    have e : i = ix4 (i 0) (i 1) (i 2) (i 3) := by funext a; fin_cases a <;> rfl
    exact (congrArg _ e).trans (norm_apply _ (hA c) (i 0) (i 1) (i 2) (i 3))
  · show stabR (launchContents m c) = _
    funext i
    have e : i = ix4 (i 0) (i 1) 0 (i 3) := by
      funext a
      fin_cases a
      · rfl
      · rfl
      · exact Subsingleton.elim (α := Fin 1) _ _
      · rfl
    exact (congrArg _ e).trans (stab_apply _ (hA c) (i 0) (i 1) (i 3))

end Cert.Reference4Ideal.Value
-- ==== Proof.CellPre.lean ====
/- What the condition on the cell's arguments says: everything the recurrences read is finite. -/
module

public import proofs.«01_k».proof.Defs
public import proofs.«01_k».proof.Proof.Gen.Pre_finite_cell
public import proofs.«01_k».proof.Proof.Steps
public import Idealize.ShloMosaic.Lib.Pointwise
public import Idealize.ShloMosaic.Lib.ReduceAll

@[expose] public section

set_option maxRecDepth 16384
set_option maxHeartbeats 400000
noncomputable section

open Idealize.ShloMosaic

namespace Cert.CellPre

open Cert.Chunk Cert.Pre_finite_cell
open Cert.Steps (fin_of_below and_one top_word)

theorem top_half : Ideal.ofBits FTy.bf16 32640#16 = ⊤ := by simp [Ideal.ofBits, Ideal.ieee]

theorem half_of_below (x : EReal) (h : FloatOps.cmpf (F := Ideal) (φ := .bf16) .olt (FloatOps.absf (F := Ideal) (φ := .bf16) x) (Ideal.ofBits FTy.bf16 32640#16) = 1#1) : Fin' x :=
  fin_of_below x (by rw [top_half] at h; rw [top_word]; exact h)

theorem decode (x0 x1 x2 : FVec Ideal S4x2048x4096 .bf16) (x3 x4 : FVec Ideal S4x2048x4 .f32) (x5 : FVec Ideal S4x4x1024x1024 .f32)
    (x6 : FVec Ideal S4x4x1024 .f32) (x7 : FVec Ideal S4x4 .f32) (x8 : FVec Ideal S4096 .f32) (x9 : FVec Ideal S4x2048x4096 .f32)
    (x10 : FVec Ideal S4x2048x8192 .f32) (x11 : FVec Ideal S4096 .f32) (h : fn x0 x1 x2 x3 x4 x5 x6 x7 x8 x9 x10 x11 = fun _ => 1#1) :
    (∀ b t j, Fin' (x0 (ix3 b t j))) ∧ (∀ b t j, Fin' (x1 (ix3 b t j))) ∧ (∀ b t j, Fin' (x2 (ix3 b t j)))
      ∧ (∀ b t j, Fin' (x3 (ix3 b t j))) ∧ (∀ b t j, Fin' (x4 (ix3 b t j))) ∧ (∀ b t d e, Fin' (x5 (ix4 b t d e)))
      ∧ (∀ b t d, Fin' (x6 (ix3 b t d))) ∧ (∀ b t, Fin' (x7 (ix2 b t))) := by
  have h0 := congrFun h ix0
  obtain ⟨h0, h7⟩ := and_one h0
  obtain ⟨h0, h6⟩ := and_one h0
  obtain ⟨h0, h5⟩ := and_one h0
  obtain ⟨h0, h4⟩ := and_one h0
  obtain ⟨h0, h3⟩ := and_one h0
  obtain ⟨h0, h2⟩ := and_one h0
  obtain ⟨h0, h1⟩ := and_one h0
  refine ⟨fun b t j => ?_, fun b t j => ?_, fun b t j => ?_, fun b t j => ?_, fun b t j => ?_, fun b t d e => ?_, fun b t d => ?_, fun b t => ?_⟩
  · exact half_of_below _ (Host.reduce_andi_all _ _ _ _ _ h0 (ix3 b t j))
  · exact half_of_below _ (Host.reduce_andi_all _ _ _ _ _ h1 (ix3 b t j))
  · exact half_of_below _ (Host.reduce_andi_all _ _ _ _ _ h2 (ix3 b t j))
  · exact fin_of_below _ (Host.reduce_andi_all _ _ _ _ _ h3 (ix3 b t j))
  · exact fin_of_below _ (Host.reduce_andi_all _ _ _ _ _ h4 (ix3 b t j))
  · exact fin_of_below _ (Host.reduce_andi_all _ _ _ _ _ h5 (ix4 b t d e))
  · exact fin_of_below _ (Host.reduce_andi_all _ _ _ _ _ h6 (ix3 b t d))
  · exact fin_of_below _ (Host.reduce_andi_all _ _ _ _ _ h7 (ix2 b t))

end Cert.CellPre
-- ==== Proof.lean ====
/- The claims of the scan, of the feed-forward part's two halves and of the mLSTM cell: the frames of the programs, and that launch and
   reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_steps
public import proofs.«01_k».proof.Proof.Gen.KernelIdeal.Value
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.ReferenceIdeal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite_cell
public import proofs.«01_k».proof.Proof.Final
public import proofs.«01_k».proof.Proof.RefOut
public import proofs.«01_k».proof.Proof.Steps
public import proofs.«01_k».proof.Proof.UpFinal
public import proofs.«01_k».proof.Proof.UpRef
public import proofs.«01_k».proof.Proof.DownFinal
public import proofs.«01_k».proof.Proof.DownRef
public import proofs.«01_k».proof.Proof.CellFinal
public import proofs.«01_k».proof.Proof.CellRefOut
public import proofs.«01_k».proof.Proof.CellPre
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo

theorem frame_launch : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite_steps := fun m ρ _ => frame_ideal m ρ trivial
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_reference_pre : Cert.quiescent_ReferenceIdeal_pre_finite_steps := fun m ρ _ => frame_reference m ρ trivial

/-- Launch and reference end with equal results: each ends with the specification's, at arguments that agree. -/
theorem equal_results : Cert.algebraic_KernelIdeal_ReferenceIdeal_pre_finite_steps := by
  intro m ρ m' ρ' hpre hagree
  have hK : ∀ c, (Cert.KernelIdeal.Value.argsK m c).Ok := fun c => Cert.Steps.decode _ _ _ _ _ _ _ (hpre c)
  have hE : ∀ c, Cert.ReferenceIdeal.Value.argsR (launchContents m' c) = Cert.KernelIdeal.Value.argsK m c := fun c => by
    obtain ⟨h0, h1, h2, h3, h4, h5, h6⟩ := hagree c
    have e (b) (t) (j) := congrFun h0 (ix3 b t j)
    have e1 (b) (t) (j) := congrFun h1 (ix3 b t j)
    have e2 (j) := congrFun h2 (ix1 j)
    have e3 (j) := congrFun h3 (ix1 j)
    have e4 (j) := congrFun h4 (ix1 j)
    have e5 (j) := congrFun h5 (ix1 j)
    have e6 (a) (b) (t) (j) := congrFun h6 (ix4 a b t j)
    show Cert.Scan.Args.mk _ _ _ _ _ _ _ = Cert.Scan.Args.mk _ _ _ _ _ _ _
    congr 1
    · funext b t j; exact e b t j
    · funext b t j; exact e1 b t j
    · funext j; exact e2 j
    · funext j; exact e3 j
    · funext j; exact e4 j
    · funext j; exact e5 j
    · funext a b t j; exact e6 a b t j
  refine ⟨_, _, Cert.KernelIdeal.Value.run_spec m ρ hK, ?_⟩
  refine (θ_run Cert.ReferenceIdeal.defs _ _).mono (fun r h c => ⟨(h c).1.trans ?_, (h c).2.1.trans ?_, (h c).2.2⟩)
    (Cert.ReferenceIdeal.Value.run_spec m' ρ' fun c => (hE c).symm ▸ hK c)
  · rw [hE c]
  · rw [hE c]

/-! The feed-forward part's first half. -/

theorem frame_up : Cert.quiescent_Kernel2 := fun m ρ _ => Cert.Kernel2.Gen.frame m ρ
theorem frame_up_ideal : Cert.quiescent_Kernel2Ideal := fun m ρ _ => Cert.Kernel2Ideal.Gen.frame m ρ
theorem frame_up_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem equal_results_up : Cert.algebraic_Kernel2Ideal_Reference2Ideal := by
  intro m ρ m' ρ' hpre hagree
  have hE : ∀ c, Cert.Reference2Ideal.Value.argsR m' c = Cert.Kernel2Ideal.Value.argsK m c := fun c => by
    obtain ⟨h0, h1, h2, h3, h4⟩ := hagree c
    have e0 (b) (t) (k) := congrFun h0 (ix3 b t k)
    have e1 (b) (t) (k) := congrFun h1 (ix3 b t k)
    have e2 (t) (k) := congrFun h2 (ix3 0 t k)
    have e3 (t) (k) := congrFun h3 (ix2 t k)
    have e4 (k) := congrFun h4 (ix1 k)
    show Cert.Up.Args.mk _ _ _ _ _ = Cert.Up.Args.mk _ _ _ _ _
    congr 1
    · funext b t k; exact e0 b t k
    · funext b t k; exact e1 b t k
    · funext t k; exact e2 t k
    · funext t k; exact e3 t k
    · funext k; exact e4 k
  refine ⟨_, _, Cert.Kernel2Ideal.Value.run_spec m ρ, ?_⟩
  refine (θ_run Cert.Reference2Ideal.defs _ _).mono (fun r h c => ⟨(h c).1.trans ?_, (h c).2.1.trans ?_, (h c).2.2⟩)
    (Cert.Reference2Ideal.Value.run_spec m' ρ')
  · rw [hE c]
  · rw [hE c]

/-! The feed-forward part's second half. -/

theorem frame_down : Cert.quiescent_Kernel3 := fun m ρ _ => Cert.Kernel3.Gen.frame m ρ
theorem frame_down_ideal : Cert.quiescent_Kernel3Ideal := fun m ρ _ => Cert.Kernel3Ideal.Gen.frame m ρ
theorem frame_down_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem equal_results_down : Cert.algebraic_Kernel3Ideal_Reference3Ideal := by
  intro m ρ m' ρ' hpre hagree
  have hE : ∀ c, Cert.Reference3Ideal.Value.argsR m' c = Cert.Kernel3Ideal.Value.argsK m c := fun c => by
    obtain ⟨h0, h1, h2, h3, h4⟩ := hagree c
    have e0 (b) (t) (k) := congrFun h0 (ix3 b t k)
    have e1 (t) (k) := congrFun h1 (ix3 3 t k)
    have e2 (b) (t) (k) := congrFun h2 (ix3 b t k)
    have e3 (k) := congrFun h3 (ix1 k)
    have e4 (k) := congrFun h4 (ix1 k)
    show Cert.Down.Args.mk _ _ _ _ _ = Cert.Down.Args.mk _ _ _ _ _
    congr 1
    · funext b t k; exact e0 b t k
    · funext t k; exact e1 t k
    · funext b t k; exact e2 b t k
    · funext k; exact e3 k
    · funext k; exact e4 k
  refine ⟨_, _, Cert.Kernel3Ideal.Value.run_spec m ρ, ?_⟩
  refine (θ_run Cert.Reference3Ideal.defs _ _).mono (fun r h c => ⟨(h c).1.trans ?_, (h c).2.1.trans ?_, (h c).2.2⟩)
    (Cert.Reference3Ideal.Value.run_spec m' ρ')
  · rw [hE c]
  · rw [hE c]

/-! The mLSTM cell. -/

theorem frame_cell : Cert.quiescent_Kernel4 := fun m ρ _ => Cert.Kernel4.Gen.frame m ρ
theorem frame_cell_ideal : Cert.quiescent_Kernel4Ideal := fun m ρ _ => Cert.Kernel4Ideal.Gen.frame m ρ
theorem frame_cell_ideal_pre : Cert.quiescent_Kernel4Ideal_pre_finite_cell := fun m ρ _ => frame_cell_ideal m ρ trivial
theorem frame_cell_reference : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)
theorem frame_cell_reference_pre : Cert.quiescent_Reference4Ideal_pre_finite_cell := fun m ρ _ => frame_cell_reference m ρ trivial

theorem equal_results_cell : Cert.algebraic_Kernel4Ideal_Reference4Ideal_pre_finite_cell := by
  intro m ρ m' ρ' hpre hagree
  have hK : ∀ c, (Cert.Kernel4Ideal.Value.argsK m c).Ok := fun c => by
    obtain ⟨h0, h1, h2, h3, h4, h5, h6, h7⟩ := Cert.CellPre.decode _ _ _ _ _ _ _ _ _ _ _ _ (hpre c)
    exact ⟨h0, h1, h2, h3, h4, h5, h6, h7⟩
  have hE : ∀ c, Cert.Reference4Ideal.Value.argsR (launchContents m' c) = Cert.Kernel4Ideal.Value.argsK m c := fun c => by
    obtain ⟨h0, h1, h2, h3, h4, h5, h6, h7, h8, h9, h10, h11⟩ := hagree c
    have e0 (b) (t) (j) := congrFun h0 (ix3 b t j)
    have e1 (b) (t) (j) := congrFun h1 (ix3 b t j)
    have e2 (b) (t) (j) := congrFun h2 (ix3 b t j)
    have e3 (b) (t) (j) := congrFun h3 (ix3 b t j)
    have e4 (b) (t) (j) := congrFun h4 (ix3 b t j)
    have e5 (b) (h) (d) (e) := congrFun h5 (ix4 b h d e)
    have e6 (b) (h) (d) := congrFun h6 (ix3 b h d)
    have e7 (b) (h) := congrFun h7 (ix2 b h)
    have e8 (j) := congrFun h8 (ix1 j)
    have e9 (b) (t) (j) := congrFun h9 (ix3 b t j)
    have e10 (b) (t) (j) := congrFun h10 (ix3 b t j)
    have e11 (j) := congrFun h11 (ix1 j)
    show Cert.Cell.Args.mk _ _ _ _ _ _ _ _ _ _ _ _ = Cert.Cell.Args.mk _ _ _ _ _ _ _ _ _ _ _ _
    congr 1
    · funext b t j; exact e0 b t j
    · funext b t j; exact e1 b t j
    · funext b t j; exact e2 b t j
    · funext b t j; exact e3 b t j
    · funext b t j; exact e4 b t j
    · funext b h d e; exact e5 b h d e
    · funext b h d; exact e6 b h d
    · funext b h; exact e7 b h
    · funext j; exact e8 j
    · funext b t j; exact e9 b t j
    · funext b t j; exact e10 b t j
    · funext j; exact e11 j
  refine ⟨_, _, _, _, Cert.Kernel4Ideal.Value.run_spec m ρ hK, ?_⟩
  refine (θ_run Cert.Reference4Ideal.defs _ _).mono
    (fun r h c => ⟨(h c).1.trans ?_, (h c).2.1.trans ?_, (h c).2.2.1.trans ?_, (h c).2.2.2.1.trans ?_, (h c).2.2.2.2⟩)
    (Cert.Reference4Ideal.Value.run_spec m' ρ' fun c => (hE c).symm ▸ hK c)
  · rw [hE c]
  · rw [hE c]
  · rw [hE c]
  · rw [hE c]

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_steps.Gen.facts, Cert.Pre_finite_cell.Gen.facts,
  frame_launch, frame_ideal, frame_ideal_pre, frame_reference, frame_reference_pre,
  frame_up, frame_up_ideal, frame_up_reference, frame_down, frame_down_ideal, frame_down_reference,
  frame_cell, frame_cell_ideal, frame_cell_ideal_pre, frame_cell_reference, frame_cell_reference_pre,
  trivial, equal_results, trivial, equal_results_up, trivial, equal_results_down, trivial, equal_results_cell⟩

end Cert.Proof

end
